-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x3x384x384 : Shape := ⟨4, ![4, 3, 384, 384]⟩
abbrev S4x5x384x384 : Shape := ⟨4, ![4, 5, 384, 384]⟩
abbrev S384x3x16x16 : Shape := ⟨4, ![384, 3, 16, 16]⟩
abbrev S384 : Shape := ⟨1, ![384]⟩
abbrev S384x389x1x1 : Shape := ⟨4, ![384, 389, 1, 1]⟩
abbrev S9216x384 : Shape := ⟨2, ![9216, 384]⟩
abbrev S_ : Shape := ⟨0, ![]⟩

class Facts : Prop where
  bcast_S_S4x3x384x384 : S_.BroadcastsInDim S4x3x384x384 (![] : Fin 0 → Fin S4x3x384x384.rank)
  bcast_S_S4x5x384x384 : S_.BroadcastsInDim S4x5x384x384 (![] : Fin 0 → Fin S4x5x384x384.rank)
  bcast_S_S384x3x16x16 : S_.BroadcastsInDim S384x3x16x16 (![] : Fin 0 → Fin S384x3x16x16.rank)
  bcast_S_S384 : S_.BroadcastsInDim S384 (![] : Fin 0 → Fin S384.rank)
  bcast_S_S384x389x1x1 : S_.BroadcastsInDim S384x389x1x1 (![] : Fin 0 → Fin S384x389x1x1.rank)
  bcast_S_S9216x384 : S_.BroadcastsInDim S9216x384 (![] : Fin 0 → Fin S9216x384.rank)

variable [Facts]

def fn_part1 {F : FTy → Type} [FloatOps F] (main_arg6 : FVec F S9216x384 .f32) (main_v2 : IVec S4x3x384x384 1) (main_v5 : IVec S4x5x384x384 1) (main_v8 : IVec S384x3x16x16 1) (main_v11 : IVec S384 1) (main_v14 : IVec S384x389x1x1 1) (main_v17 : IVec S384 1) : IVec S4x3x384x384 1 × IVec S4x5x384x384 1 × IVec S384x3x16x16 1 × IVec S384 1 × IVec S384x389x1x1 1 × IVec S384 1 × IVec S9216x384 1 :=
  let main_v18 : FVec F S9216x384 .f32 := Host.absf main_arg6
  let main_cst_5 : FVec F S_ .f32 := constant S_ .f32 0x7F800000#32
  let main_v19 : FVec F S9216x384 .f32 := broadcastInDim S9216x384 ![] bcast_S_S9216x384 main_cst_5
  let main_v20 : IVec S9216x384 1 := cmpf .olt main_v18 main_v19
  (main_v2, main_v5, main_v8, main_v11, main_v14, main_v17, main_v20)

def fn {F : FTy → Type} [FloatOps F] (main_arg0 : FVec F S4x3x384x384 .f32) (main_arg1 : FVec F S4x5x384x384 .f32) (main_arg2 : FVec F S384x3x16x16 .f32) (main_arg3 : FVec F S384 .f32) (main_arg4 : FVec F S384x389x1x1 .f32) (main_arg5 : FVec F S384 .f32) (main_arg6 : FVec F S9216x384 .f32) : IVec S4x3x384x384 1 × IVec S4x5x384x384 1 × IVec S384x3x16x16 1 × IVec S384 1 × IVec S384x389x1x1 1 × IVec S384 1 × IVec S9216x384 1 :=
  let main_v0 : FVec F S4x3x384x384 .f32 := Host.absf main_arg0
  let main_cst : FVec F S_ .f32 := constant S_ .f32 0x7F800000#32
  let main_v1 : FVec F S4x3x384x384 .f32 := broadcastInDim S4x3x384x384 ![] bcast_S_S4x3x384x384 main_cst
  let main_v2 : IVec S4x3x384x384 1 := cmpf .olt main_v0 main_v1
  let main_v3 : FVec F S4x5x384x384 .f32 := Host.absf main_arg1
  let main_cst_0 : FVec F S_ .f32 := constant S_ .f32 0x7F800000#32
  let main_v4 : FVec F S4x5x384x384 .f32 := broadcastInDim S4x5x384x384 ![] bcast_S_S4x5x384x384 main_cst_0
  let main_v5 : IVec S4x5x384x384 1 := cmpf .olt main_v3 main_v4
  let main_v6 : FVec F S384x3x16x16 .f32 := Host.absf main_arg2
  let main_cst_1 : FVec F S_ .f32 := constant S_ .f32 0x7F800000#32
  let main_v7 : FVec F S384x3x16x16 .f32 := broadcastInDim S384x3x16x16 ![] bcast_S_S384x3x16x16 main_cst_1
  let main_v8 : IVec S384x3x16x16 1 := cmpf .olt main_v6 main_v7
  let main_v9 : FVec F S384 .f32 := Host.absf main_arg3
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_v12 : FVec F S384x389x1x1 .f32 := Host.absf main_arg4
  let main_cst_3 : FVec F S_ .f32 := constant S_ .f32 0x7F800000#32
  let main_v13 : FVec F S384x389x1x1 .f32 := broadcastInDim S384x389x1x1 ![] bcast_S_S384x389x1x1 main_cst_3
  let main_v14 : IVec S384x389x1x1 1 := cmpf .olt main_v12 main_v13
  let main_v15 : FVec F S384 .f32 := Host.absf main_arg5
  let main_cst_4 : FVec F S_ .f32 := constant S_ .f32 0x7F800000#32
  let main_v16 : FVec F S384 .f32 := broadcastInDim S384 ![] bcast_S_S384 main_cst_4
  let main_v17 : IVec S384 1 := cmpf .olt main_v15 main_v16
  fn_part1 (F := F) main_arg6 main_v2 main_v5 main_v8 main_v11 main_v14 main_v17
-- ==== Kernel.lean ====
abbrev S4x3x384x384 : Shape := ⟨4, ![4, 3, 384, 384]⟩
abbrev S4x5x384x384 : Shape := ⟨4, ![4, 5, 384, 384]⟩
abbrev S384x3x16x16 : Shape := ⟨4, ![384, 3, 16, 16]⟩
abbrev S384 : Shape := ⟨1, ![384]⟩
abbrev S384x389x1x1 : Shape := ⟨4, ![384, 389, 1, 1]⟩
abbrev S9216x384 : Shape := ⟨2, ![9216, 384]⟩
abbrev S16x3x16x384 : Shape := ⟨4, ![16, 3, 16, 384]⟩
abbrev S768x384 : Shape := ⟨2, ![768, 384]⟩
abbrev S1x384 : Shape := ⟨2, ![1, 384]⟩
abbrev S384x389 : Shape := ⟨2, ![384, 389]⟩
abbrev S384x384 : Shape := ⟨2, ![384, 384]⟩
abbrev S384x5 : Shape := ⟨2, ![384, 5]⟩
abbrev S5x384 : Shape := ⟨2, ![5, 384]⟩
abbrev S_ : Shape := ⟨0, ![]⟩
abbrev S8x384 : Shape := ⟨2, ![8, 384]⟩
abbrev S24 : Shape := ⟨1, ![24]⟩
abbrev S1x24 : Shape := ⟨2, ![1, 24]⟩
abbrev S384x1 : Shape := ⟨2, ![384, 1]⟩
abbrev S384x24 : Shape := ⟨2, ![384, 24]⟩
abbrev S24x384 : Shape := ⟨2, ![24, 384]⟩
abbrev S2304x768 : Shape := ⟨2, ![2304, 768]⟩
abbrev S2304x8 : Shape := ⟨2, ![2304, 8]⟩
abbrev S1x9216 : Shape := ⟨2, ![1, 9216]⟩
abbrev S1x3x384x384 : Shape := ⟨4, ![1, 3, 384, 384]⟩
abbrev S1x5x384x384 : Shape := ⟨4, ![1, 5, 384, 384]⟩
abbrev S576x768 : Shape := ⟨2, ![576, 768]⟩
abbrev S576x8 : Shape := ⟨2, ![576, 8]⟩
abbrev S1x1x16x384 : Shape := ⟨4, ![1, 1, 16, 384]⟩
abbrev S16x384 : Shape := ⟨2, ![16, 384]⟩
abbrev S48x384 : Shape := ⟨2, ![48, 384]⟩
abbrev S384x48 : Shape := ⟨2, ![384, 48]⟩
abbrev S24x16x48 : Shape := ⟨3, ![24, 16, 48]⟩
abbrev S24x1x48 : Shape := ⟨3, ![24, 1, 48]⟩
abbrev S24x48 : Shape := ⟨2, ![24, 48]⟩
abbrev S24x768 : Shape := ⟨2, ![24, 768]⟩
abbrev S1x24x384 : Shape := ⟨3, ![1, 24, 384]⟩
abbrev S24x24x384 : Shape := ⟨3, ![24, 24, 384]⟩
abbrev S576x384 : Shape := ⟨2, ![576, 384]⟩
abbrev S1x1x384x384 : Shape := ⟨4, ![1, 1, 384, 384]⟩
abbrev S24x1x384 : Shape := ⟨3, ![24, 1, 384]⟩
abbrev S576 : Shape := ⟨1, ![576]⟩
abbrev S576x1 : Shape := ⟨2, ![576, 1]⟩
abbrev S576x3 : Shape := ⟨2, ![576, 3]⟩
abbrev S2304x1 : Shape := ⟨2, ![2304, 1]⟩
abbrev S4608x384 : Shape := ⟨2, ![4608, 384]⟩
abbrev S576x4608 : Shape := ⟨2, ![576, 4608]⟩
abbrev S1x4608 : Shape := ⟨2, ![1, 4608]⟩
abbrev S4x24x24 : Shape := ⟨3, ![4, 24, 24]⟩

abbrev nBuf : Space → Nat
  | .hbm => 99
  | .vmem => 26
  | .smem => 0
  | _ => 0

abbrev bufTy : (tb : Table) → Fin (tcTables nBuf tb) → BufTy
  | .hbm, ⟨0, _⟩ => ⟨S4x3x384x384, .f32⟩
  | .hbm, ⟨1, _⟩ => ⟨S4x5x384x384, .f32⟩
  | .hbm, ⟨2, _⟩ => ⟨S384x3x16x16, .f32⟩
  | .hbm, ⟨3, _⟩ => ⟨S384, .f32⟩
  | .hbm, ⟨4, _⟩ => ⟨S384x389x1x1, .f32⟩
  | .hbm, ⟨5, _⟩ => ⟨S384, .f32⟩
  | .hbm, ⟨6, _⟩ => ⟨S9216x384, .f32⟩
  | .hbm, ⟨7, _⟩ => ⟨S4x3x384x384, .bf16⟩
  | .hbm, ⟨8, _⟩ => ⟨S16x3x16x384, .f32⟩
  | .hbm, ⟨9, _⟩ => ⟨S768x384, .f32⟩
  | .hbm, ⟨10, _⟩ => ⟨S768x384, .bf16⟩
  | .hbm, ⟨11, _⟩ => ⟨S1x384, .f32⟩
  | .hbm, ⟨12, _⟩ => ⟨S384x389, .f32⟩
  | .hbm, ⟨13, _⟩ => ⟨S384x384, .f32⟩
  | .hbm, ⟨14, _⟩ => ⟨S384x384, .f32⟩
  | .hbm, ⟨15, _⟩ => ⟨S384x384, .bf16⟩
  | .hbm, ⟨16, _⟩ => ⟨S384x5, .f32⟩
  | .hbm, ⟨17, _⟩ => ⟨S5x384, .f32⟩
  | .hbm, ⟨18, _⟩ => ⟨S_, .i32⟩
  | .hbm, ⟨19, _⟩ => ⟨S_, .f32⟩
  | .hbm, ⟨20, _⟩ => ⟨S8x384, .f32⟩
  | .hbm, ⟨21, _⟩ => ⟨S8x384, .bf16⟩
  | .hbm, ⟨22, _⟩ => ⟨S1x384, .f32⟩
  | .hbm, ⟨23, _⟩ => ⟨S9216x384, .bf16⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S24, .f32⟩
  | .hbm, ⟨28, _⟩ => ⟨S_, .f32⟩
  | .hbm, ⟨29, _⟩ => ⟨S24, .f32⟩
  | .hbm, ⟨30, _⟩ => ⟨S24, .f32⟩
  | .hbm, ⟨31, _⟩ => ⟨S_, .f32⟩
  | .hbm, ⟨32, _⟩ => ⟨S24, .f32⟩
  | .hbm, ⟨33, _⟩ => ⟨S24, .f32⟩
  | .hbm, ⟨34, _⟩ => ⟨S_, .f32⟩
  | .hbm, ⟨35, _⟩ => ⟨S24, .f32⟩
  | .hbm, ⟨36, _⟩ => ⟨S24, .f32⟩
  | .hbm, ⟨37, _⟩ => ⟨S_, .f32⟩
  | .hbm, ⟨38, _⟩ => ⟨S24, .f32⟩
  | .hbm, ⟨39, _⟩ => ⟨S24, .f32⟩
  | .hbm, ⟨40, _⟩ => ⟨S384, .f32⟩
  | .hbm, ⟨41, _⟩ => ⟨S1x24, .f32⟩
  | .hbm, ⟨42, _⟩ => ⟨S384x1, .f32⟩
  | .hbm, ⟨43, _⟩ => ⟨S384x24, .f32⟩
  | .hbm, ⟨44, _⟩ => ⟨S384x24, .f32⟩
  | .hbm, ⟨45, _⟩ => ⟨S384x24, .f32⟩
  | .hbm, ⟨46, _⟩ => ⟨S384x24, .f32⟩
  | .hbm, ⟨47, _⟩ => ⟨S_, .f32⟩
  | .hbm, ⟨48, _⟩ => ⟨S384x24, .f32⟩
  | .hbm, ⟨49, _⟩ => ⟨S384x24, .f32⟩
  | .hbm, ⟨50, _⟩ => ⟨S384x24, .f32⟩
  | .hbm, ⟨51, _⟩ => ⟨S_, .f32⟩
  | .hbm, ⟨52, _⟩ => ⟨S384x24, .f32⟩
  | .hbm, ⟨53, _⟩ => ⟨S384x24, .f32⟩
  | .hbm, ⟨54, _⟩ => ⟨S_, .f32⟩
  | .hbm, ⟨55, _⟩ => ⟨S384x24, .f32⟩
  | .hbm, ⟨56, _⟩ => ⟨S384x24, .f32⟩
  | .hbm, ⟨57, _⟩ => ⟨S_, .f32⟩
  | .hbm, ⟨58, _⟩ => ⟨S24, .f32⟩
  | .hbm, ⟨59, _⟩ => ⟨S1x24, .f32⟩
  | .hbm, ⟨60, _⟩ => ⟨S1x24, .f32⟩
  | .hbm, ⟨61, _⟩ => ⟨S_, .f32⟩
  | .hbm, ⟨62, _⟩ => ⟨S1x24, .f32⟩
  | .hbm, ⟨63, _⟩ => ⟨S1x24, .i1⟩
  | .hbm, ⟨64, _⟩ => ⟨S_, .f32⟩
  | .hbm, ⟨65, _⟩ => ⟨S1x24, .f32⟩
  | .hbm, ⟨66, _⟩ => ⟨S1x24, .i1⟩
  | .hbm, ⟨67, _⟩ => ⟨S_, .i32⟩
  | .hbm, ⟨68, _⟩ => ⟨S_, .f32⟩
  | .hbm, ⟨69, _⟩ => ⟨S1x24, .f32⟩
  | .hbm, ⟨70, _⟩ => ⟨S1x24, .f32⟩
  | .hbm, ⟨71, _⟩ => ⟨S384x24, .f32⟩
  | .hbm, ⟨72, _⟩ => ⟨S384x24, .f32⟩
  | .hbm, ⟨73, _⟩ => ⟨S_, .i32⟩
  | .hbm, ⟨74, _⟩ => ⟨S_, .f32⟩
  | .hbm, ⟨75, _⟩ => ⟨S384x24, .i1⟩
  | .hbm, ⟨76, _⟩ => ⟨S384x24, .f32⟩
  | .hbm, ⟨77, _⟩ => ⟨S384x24, .f32⟩
  | .hbm, ⟨78, _⟩ => ⟨S_, .f32⟩
  | .hbm, ⟨79, _⟩ => ⟨S24, .f32⟩
  | .hbm, ⟨80, _⟩ => ⟨S24, .i1⟩
  | .hbm, ⟨81, _⟩ => ⟨S_, .f32⟩
  | .hbm, ⟨82, _⟩ => ⟨S24, .f32⟩
  | .hbm, ⟨83, _⟩ => ⟨S24, .i1⟩
  | .hbm, ⟨84, _⟩ => ⟨S24, .i1⟩
  | .hbm, ⟨85, _⟩ => ⟨S1x24, .i1⟩
  | .hbm, ⟨86, _⟩ => ⟨S_, .i32⟩
  | .hbm, ⟨87, _⟩ => ⟨S_, .f32⟩
  | .hbm, ⟨88, _⟩ => ⟨S384x24, .i1⟩
  | .hbm, ⟨89, _⟩ => ⟨S384x24, .f32⟩
  | .hbm, ⟨90, _⟩ => ⟨S384x24, .f32⟩
  | .hbm, ⟨91, _⟩ => ⟨S24x384, .f32⟩
  | .hbm, ⟨92, _⟩ => ⟨S2304x768, .bf16⟩
  | .hbm, ⟨93, _⟩ => ⟨S2304x8, .f32⟩
  | .hbm, ⟨94, _⟩ => ⟨S1x9216, .f32⟩
  | .hbm, ⟨95, _⟩ => ⟨S2304x1, .f32⟩
  | .hbm, ⟨96, _⟩ => ⟨S2304x1, .f32⟩
  | .hbm, ⟨97, _⟩ => ⟨S4x24x24, .f32⟩
  | .hbm, ⟨98, _⟩ => ⟨S4x24x24, .f32⟩
  | .local _ .vmem, ⟨0, _⟩ => ⟨S1x3x384x384, .bf16⟩
  | .local _ .vmem, ⟨1, _⟩ => ⟨S1x3x384x384, .bf16⟩
  | .local _ .vmem, ⟨2, _⟩ => ⟨S1x5x384x384, .f32⟩
  | .local _ .vmem, ⟨3, _⟩ => ⟨S1x5x384x384, .f32⟩
  | .local _ .vmem, ⟨4, _⟩ => ⟨S24x384, .f32⟩
  | .local _ .vmem, ⟨5, _⟩ => ⟨S9216x384, .bf16⟩
  | .local _ .vmem, ⟨6, _⟩ => ⟨S576x768, .bf16⟩
  | .local _ .vmem, ⟨7, _⟩ => ⟨S576x768, .bf16⟩
  | .local _ .vmem, ⟨8, _⟩ => ⟨S576x8, .f32⟩
  | .local _ .vmem, ⟨9, _⟩ => ⟨S576x8, .f32⟩
  | .local _ .vmem, ⟨10, _⟩ => ⟨S1x9216, .f32⟩
  | .local _ .vmem, ⟨11, _⟩ => ⟨S576x768, .bf16⟩
  | .local _ .vmem, ⟨12, _⟩ => ⟨S576x768, .bf16⟩
  | .local _ .vmem, ⟨13, _⟩ => ⟨S768x384, .bf16⟩
  | .local _ .vmem, ⟨14, _⟩ => ⟨S1x384, .f32⟩
  | .local _ .vmem, ⟨15, _⟩ => ⟨S384x384, .bf16⟩
  | .local _ .vmem, ⟨16, _⟩ => ⟨S8x384, .bf16⟩
  | .local _ .vmem, ⟨17, _⟩ => ⟨S1x384, .f32⟩
  | .local _ .vmem, ⟨18, _⟩ => ⟨S576x8, .f32⟩
  | .local _ .vmem, ⟨19, _⟩ => ⟨S576x8, .f32⟩
  | .local _ .vmem, ⟨20, _⟩ => ⟨S9216x384, .bf16⟩
  | .local _ .vmem, ⟨21, _⟩ => ⟨S1x9216, .f32⟩
  | .local _ .vmem, ⟨22, _⟩ => ⟨S576x1, .f32⟩
  | .local _ .vmem, ⟨23, _⟩ => ⟨S576x1, .f32⟩
  | .local _ .vmem, ⟨24, _⟩ => ⟨S576x1, .f32⟩
  | .local _ .vmem, ⟨25, _⟩ => ⟨S576x1, .f32⟩
  | _, _ => ⟨S4x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_call1_v0 : Ref sig .tc := ⟨.hbm, 68, rfl⟩
abbrev main_call1_v1 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_cst_13 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_14 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v57 : Ref sig .tc := ⟨.hbm, 90, rfl⟩
abbrev main_v58 : Ref sig .tc := ⟨.hbm, 91, rfl⟩
abbrev main_v59_0 : Ref sig .tc := ⟨.hbm, 92, rfl⟩
abbrev main_v59_1 : Ref sig .tc := ⟨.hbm, 93, rfl⟩
abbrev main_v59_2 : Ref sig .tc := ⟨.hbm, 94, rfl⟩
abbrev main_v60_0 : Ref sig .tc := ⟨.hbm, 95, rfl⟩
abbrev main_v60_1 : Ref sig .tc := ⟨.hbm, 96, rfl⟩
abbrev main_v61 : Ref sig .tc := ⟨.hbm, 97, rfl⟩
abbrev main_v62 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem8_0 : DmaSem sig := 21
abbrev cc1_sem9_0 : DmaSem sig := 22
abbrev cc1_sem9_1 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1091 : BitVec 1 := Scalar.cmpi .eq arg0 c0_i32
  let v1092 : BitVec 32 := Scalar.extui v1091
  let c0_i32_326 : BitVec 32 := 0#32
  let v1093 : BitVec 1 := Scalar.cmpi .ne v1092 c0_i32_326
  v1093

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x384x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5x384x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9216x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S576x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S576x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S576x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384x384 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x384 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S576x8 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S9216x384 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x9216 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S576x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S576x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== ReferenceIdeal.lean ====
abbrev S4x3x384x384 : Shape := ⟨4, ![4, 3, 384, 384]⟩
abbrev S4x5x384x384 : Shape := ⟨4, ![4, 5, 384, 384]⟩
abbrev S384x3x16x16 : Shape := ⟨4, ![384, 3, 16, 16]⟩
abbrev S384 : Shape := ⟨1, ![384]⟩
abbrev S384x389x1x1 : Shape := ⟨4, ![384, 389, 1, 1]⟩
abbrev S9216x384 : Shape := ⟨2, ![9216, 384]⟩
abbrev S4x3x24x16x24x16 : Shape := ⟨6, ![4, 3, 24, 16, 24, 16]⟩
abbrev S384x4x24x24 : Shape := ⟨4, ![384, 4, 24, 24]⟩
abbrev S4x384x24x24 : Shape := ⟨4, ![4, 384, 24, 24]⟩
abbrev S1x384x1x1 : Shape := ⟨4, ![1, 384, 1, 1]⟩
abbrev S_ : Shape := ⟨0, ![]⟩
abbrev S24 : Shape := ⟨1, ![24]⟩
abbrev S1x24 : Shape := ⟨2, ![1, 24]⟩
abbrev S384x1 : Shape := ⟨2, ![384, 1]⟩
abbrev S384x24 : Shape := ⟨2, ![384, 24]⟩
abbrev S24x4x5x384 : Shape := ⟨4, ![24, 4, 5, 384]⟩
abbrev S24x4x5x24 : Shape := ⟨4, ![24, 4, 5, 24]⟩
abbrev S4x5x24x24 : Shape := ⟨4, ![4, 5, 24, 24]⟩
abbrev S4x389x24x24 : Shape := ⟨4, ![4, 389, 24, 24]⟩
abbrev S384x389 : Shape := ⟨2, ![384, 389]⟩
abbrev S4x24x24x384 : Shape := ⟨4, ![4, 24, 24, 384]⟩
abbrev S2304x384 : Shape := ⟨2, ![2304, 384]⟩
abbrev S2304 : Shape := ⟨1, ![2304]⟩
abbrev S2304x1 : Shape := ⟨2, ![2304, 1]⟩
abbrev S9216 : Shape := ⟨1, ![9216]⟩
abbrev S1x9216 : Shape := ⟨2, ![1, 9216]⟩
abbrev S2304x9216 : Shape := ⟨2, ![2304, 9216]⟩
abbrev S384x9216 : Shape := ⟨2, ![384, 9216]⟩
abbrev S4x24x24 : Shape := ⟨3, ![4, 24, 24]⟩
abbrev S4x1x24x24 : Shape := ⟨4, ![4, 1, 24, 24]⟩

abbrev nBuf : Space → Nat
  | .hbm => 225
  | .vmem => 0
  | .smem => 0
  | _ => 0

abbrev hbmTy0_0 (i : Nat) : BufTy := match i % 128 with
  | 0 => ⟨S4x3x384x384, .f32⟩
  | 1 => ⟨S4x5x384x384, .f32⟩
  | 2 => ⟨S384x3x16x16, .f32⟩
  | 3 => ⟨S384, .f32⟩
  | 4 => ⟨S384x389x1x1, .f32⟩
  | 5 => ⟨S384, .f32⟩
  | 6 => ⟨S9216x384, .f32⟩
  | 7 => ⟨S4x3x24x16x24x16, .f32⟩
  | 8 => ⟨S384x4x24x24, .f32⟩
  | 9 => ⟨S4x384x24x24, .f32⟩
  | 10 => ⟨S1x384x1x1, .f32⟩
  | 11 => ⟨S4x384x24x24, .f32⟩
  | 12 => ⟨S4x384x24x24, .f32⟩
  | 13 => ⟨S_, .f32⟩
  | 14 => ⟨S4x384x24x24, .f32⟩
  | 15 => ⟨S4x384x24x24, .f32⟩
  | 16 => ⟨S_, .f32⟩
  | 17 => ⟨S_, .f32⟩
  | 18 => ⟨S_, .f32⟩
  | 19 => ⟨S24, .f32⟩
  | 20 => ⟨S_, .f32⟩
  | 21 => ⟨S24, .f32⟩
  | 22 => ⟨S24, .f32⟩
  | 23 => ⟨S_, .f32⟩
  | 24 => ⟨S24, .f32⟩
  | 25 => ⟨S24, .f32⟩
  | 26 => ⟨S_, .f32⟩
  | 27 => ⟨S24, .f32⟩
  | 28 => ⟨S24, .f32⟩
  | 29 => ⟨S_, .f32⟩
  | 30 => ⟨S24, .f32⟩
  | 31 => ⟨S24, .f32⟩
  | 32 => ⟨S384, .f32⟩
  | 33 => ⟨S1x24, .f32⟩
  | 34 => ⟨S384x1, .f32⟩
  | 35 => ⟨S384x24, .f32⟩
  | 36 => ⟨S384x24, .f32⟩
  | 37 => ⟨S384x24, .f32⟩
  | 38 => ⟨S384x24, .f32⟩
  | 39 => ⟨S_, .f32⟩
  | 40 => ⟨S384x24, .f32⟩
  | 41 => ⟨S384x24, .f32⟩
  | 42 => ⟨S384x24, .f32⟩
  | 43 => ⟨S_, .f32⟩
  | 44 => ⟨S384x24, .f32⟩
  | 45 => ⟨S384x24, .f32⟩
  | 46 => ⟨S_, .f32⟩
  | 47 => ⟨S384x24, .f32⟩
  | 48 => ⟨S384x24, .f32⟩
  | 49 => ⟨S_, .f32⟩
  | 50 => ⟨S24, .f32⟩
  | 51 => ⟨S1x24, .f32⟩
  | 52 => ⟨S1x24, .f32⟩
  | 53 => ⟨S_, .f32⟩
  | 54 => ⟨S1x24, .f32⟩
  | 55 => ⟨S1x24, .i1⟩
  | 56 => ⟨S_, .f32⟩
  | 57 => ⟨S1x24, .f32⟩
  | 58 => ⟨S1x24, .i1⟩
  | 59 => ⟨S_, .i32⟩
  | 60 => ⟨S_, .f32⟩
  | 61 => ⟨S1x24, .f32⟩
  | 62 => ⟨S1x24, .f32⟩
  | 63 => ⟨S384x24, .f32⟩
  | 64 => ⟨S384x24, .f32⟩
  | 65 => ⟨S_, .i32⟩
  | 66 => ⟨S_, .f32⟩
  | 67 => ⟨S384x24, .i1⟩
  | 68 => ⟨S384x24, .f32⟩
  | 69 => ⟨S384x24, .f32⟩
  | 70 => ⟨S_, .f32⟩
  | 71 => ⟨S24, .f32⟩
  | 72 => ⟨S24, .i1⟩
  | 73 => ⟨S_, .f32⟩
  | 74 => ⟨S24, .f32⟩
  | 75 => ⟨S24, .i1⟩
  | 76 => ⟨S24, .i1⟩
  | 77 => ⟨S1x24, .i1⟩
  | 78 => ⟨S_, .i32⟩
  | 79 => ⟨S_, .f32⟩
  | 80 => ⟨S384x24, .i1⟩
  | 81 => ⟨S384x24, .f32⟩
  | 82 => ⟨S384x24, .f32⟩
  | 83 => ⟨S_, .f32⟩
  | 84 => ⟨S_, .f32⟩
  | 85 => ⟨S_, .f32⟩
  | 86 => ⟨S24, .f32⟩
  | 87 => ⟨S_, .f32⟩
  | 88 => ⟨S24, .f32⟩
  | 89 => ⟨S24, .f32⟩
  | 90 => ⟨S_, .f32⟩
  | 91 => ⟨S24, .f32⟩
  | 92 => ⟨S24, .f32⟩
  | 93 => ⟨S_, .f32⟩
  | 94 => ⟨S24, .f32⟩
  | 95 => ⟨S24, .f32⟩
  | 96 => ⟨S_, .f32⟩
  | 97 => ⟨S24, .f32⟩
  | 98 => ⟨S24, .f32⟩
  | 99 => ⟨S384, .f32⟩
  | 100 => ⟨S1x24, .f32⟩
  | 101 => ⟨S384x1, .f32⟩
  | 102 => ⟨S384x24, .f32⟩
  | 103 => ⟨S384x24, .f32⟩
  | 104 => ⟨S384x24, .f32⟩
  | 105 => ⟨S384x24, .f32⟩
  | 106 => ⟨S_, .f32⟩
  | 107 => ⟨S384x24, .f32⟩
  | 108 => ⟨S384x24, .f32⟩
  | 109 => ⟨S384x24, .f32⟩
  | 110 => ⟨S_, .f32⟩
  | 111 => ⟨S384x24, .f32⟩
  | 112 => ⟨S384x24, .f32⟩
  | 113 => ⟨S_, .f32⟩
  | 114 => ⟨S384x24, .f32⟩
  | 115 => ⟨S384x24, .f32⟩
  | 116 => ⟨S_, .f32⟩
  | 117 => ⟨S24, .f32⟩
  | 118 => ⟨S1x24, .f32⟩
  | 119 => ⟨S1x24, .f32⟩
  | 120 => ⟨S_, .f32⟩
  | 121 => ⟨S1x24, .f32⟩
  | 122 => ⟨S1x24, .i1⟩
  | 123 => ⟨S_, .f32⟩
  | 124 => ⟨S1x24, .f32⟩
  | 125 => ⟨S1x24, .i1⟩
  | 126 => ⟨S_, .i32⟩
  | 127 => ⟨S_, .f32⟩
  | _ => ⟨S4x3x384x384, .f32⟩

abbrev hbmTy0_1 (i : Nat) : BufTy := match i % 128 with
  | 0 => ⟨S1x24, .f32⟩
  | 1 => ⟨S1x24, .f32⟩
  | 2 => ⟨S384x24, .f32⟩
  | 3 => ⟨S384x24, .f32⟩
  | 4 => ⟨S_, .i32⟩
  | 5 => ⟨S_, .f32⟩
  | 6 => ⟨S384x24, .i1⟩
  | 7 => ⟨S384x24, .f32⟩
  | 8 => ⟨S384x24, .f32⟩
  | 9 => ⟨S_, .f32⟩
  | 10 => ⟨S24, .f32⟩
  | 11 => ⟨S24, .i1⟩
  | 12 => ⟨S_, .f32⟩
  | 13 => ⟨S24, .f32⟩
  | 14 => ⟨S24, .i1⟩
  | 15 => ⟨S24, .i1⟩
  | 16 => ⟨S1x24, .i1⟩
  | 17 => ⟨S_, .i32⟩
  | 18 => ⟨S_, .f32⟩
  | 19 => ⟨S384x24, .i1⟩
  | 20 => ⟨S384x24, .f32⟩
  | 21 => ⟨S384x24, .f32⟩
  | 22 => ⟨S24x4x5x384, .f32⟩
  | 23 => ⟨S24x4x5x24, .f32⟩
  | 24 => ⟨S4x5x24x24, .f32⟩
  | 25 => ⟨S4x389x24x24, .f32⟩
  | 26 => ⟨S384x389, .f32⟩
  | 27 => ⟨S384x4x24x24, .f32⟩
  | 28 => ⟨S4x384x24x24, .f32⟩
  | 29 => ⟨S1x384x1x1, .f32⟩
  | 30 => ⟨S4x384x24x24, .f32⟩
  | 31 => ⟨S4x384x24x24, .f32⟩
  | 32 => ⟨S4x24x24x384, .f32⟩
  | 33 => ⟨S2304x384, .f32⟩
  | 34 => ⟨S2304x384, .f32⟩
  | 35 => ⟨S_, .f32⟩
  | 36 => ⟨S2304, .f32⟩
  | 37 => ⟨S2304x1, .f32⟩
  | 38 => ⟨S9216x384, .f32⟩
  | 39 => ⟨S_, .f32⟩
  | 40 => ⟨S9216, .f32⟩
  | 41 => ⟨S1x9216, .f32⟩
  | 42 => ⟨S2304x9216, .f32⟩
  | 43 => ⟨S2304x9216, .f32⟩
  | 44 => ⟨S2304x9216, .f32⟩
  | 45 => ⟨S384x9216, .f32⟩
  | 46 => ⟨S2304x9216, .f32⟩
  | 47 => ⟨S_, .f32⟩
  | 48 => ⟨S2304x9216, .f32⟩
  | 49 => ⟨S2304x9216, .f32⟩
  | 50 => ⟨S2304x9216, .f32⟩
  | 51 => ⟨S_, .f32⟩
  | 52 => ⟨S2304x9216, .f32⟩
  | 53 => ⟨S2304x9216, .f32⟩
  | 54 => ⟨S_, .f32⟩
  | 55 => ⟨S2304x9216, .f32⟩
  | 56 => ⟨S2304x9216, .f32⟩
  | 57 => ⟨S2304x9216, .f32⟩
  | 58 => ⟨S_, .f32⟩
  | 59 => ⟨S2304, .f32⟩
  | 60 => ⟨S4x24x24, .f32⟩
  | 61 => ⟨S4x1x24x24, .f32⟩
  | 62 => ⟨S4x1x24x24, .f32⟩
  | 63 => ⟨S4x1x24x24, .f32⟩
  | 64 => ⟨S_, .f32⟩
  | 65 => ⟨S4x1x24x24, .f32⟩
  | 66 => ⟨S4x1x24x24, .f32⟩
  | 67 => ⟨S_, .f32⟩
  | 68 => ⟨S4x1x24x24, .f32⟩
  | 69 => ⟨S4x1x24x24, .f32⟩
  | 70 => ⟨S_, .f32⟩
  | 71 => ⟨S4x1x24x24, .f32⟩
  | 72 => ⟨S4x1x24x24, .f32⟩
  | 73 => ⟨S4x1x24x24, .f32⟩
  | 74 => ⟨S_, .f32⟩
  | 75 => ⟨S4x1x24x24, .f32⟩
  | 76 => ⟨S4x1x24x24, .f32⟩
  | 77 => ⟨S4x1x24x24, .f32⟩
  | 78 => ⟨S_, .f32⟩
  | 79 => ⟨S4x1x24x24, .f32⟩
  | 80 => ⟨S4x1x24x24, .f32⟩
  | 81 => ⟨S_, .f32⟩
  | 82 => ⟨S4x1x24x24, .f32⟩
  | 83 => ⟨S4x1x24x24, .f32⟩
  | 84 => ⟨S4x1x24x24, .f32⟩
  | 85 => ⟨S4x1x24x24, .f32⟩
  | 86 => ⟨S_, .f32⟩
  | 87 => ⟨S4x1x24x24, .f32⟩
  | 88 => ⟨S4x1x24x24, .f32⟩
  | 89 => ⟨S_, .f32⟩
  | 90 => ⟨S4x1x24x24, .f32⟩
  | 91 => ⟨S4x1x24x24, .f32⟩
  | 92 => ⟨S_, .f32⟩
  | 93 => ⟨S4x1x24x24, .f32⟩
  | 94 => ⟨S4x1x24x24, .f32⟩
  | 95 => ⟨S4x24x24, .f32⟩
  | 96 => ⟨S4x24x24, .f32⟩
  | _ => ⟨S4x3x384x384, .f32⟩

abbrev hbmTy (i : Nat) : BufTy := match i / 128 with
  | 0 => hbmTy0_0 i
  | 1 => hbmTy0_1 i
  | _ => ⟨S4x3x384x384, .f32⟩

abbrev bufTy : (tb : Table) → Fin (tcTables nBuf tb) → BufTy
  | .hbm, ⟨i, _⟩ => hbmTy i
  | _, _ => ⟨S4x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_cst_1 : Ref sig .tc := ⟨.hbm, 20, rfl⟩
abbrev main_call0_v2 : Ref sig .tc := ⟨.hbm, 21, rfl⟩
abbrev main_call0_v3 : Ref sig .tc := ⟨.hbm, 22, rfl⟩
abbrev main_call0_cst_2 : Ref sig .tc := ⟨.hbm, 23, rfl⟩
abbrev main_call0_v4 : Ref sig .tc := ⟨.hbm, 24, rfl⟩
abbrev main_call0_v5 : Ref sig .tc := ⟨.hbm, 25, rfl⟩
abbrev main_call0_cst_3 : Ref sig .tc := ⟨.hbm, 26, rfl⟩
abbrev main_call0_v6 : Ref sig .tc := ⟨.hbm, 27, rfl⟩
abbrev main_call0_v7 : Ref sig .tc := ⟨.hbm, 28, rfl⟩
abbrev main_call0_cst_4 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_v19 : Ref sig .tc := ⟨.hbm, 41, rfl⟩
abbrev main_call0_v20 : Ref sig .tc := ⟨.hbm, 42, rfl⟩
abbrev main_call0_cst_5 : Ref sig .tc := ⟨.hbm, 43, rfl⟩
abbrev main_call0_v21 : Ref sig .tc := ⟨.hbm, 44, rfl⟩
abbrev main_call0_v22 : Ref sig .tc := ⟨.hbm, 45, rfl⟩
abbrev main_call0_cst_6 : Ref sig .tc := ⟨.hbm, 46, rfl⟩
abbrev main_call0_v23 : Ref sig .tc := ⟨.hbm, 47, rfl⟩
abbrev main_call0_v24 : Ref sig .tc := ⟨.hbm, 48, rfl⟩
abbrev main_call0_cst_7 : Ref sig .tc := ⟨.hbm, 49, rfl⟩
abbrev main_call0_v25 : Ref sig .tc := ⟨.hbm, 50, rfl⟩
abbrev main_call0_v26 : Ref sig .tc := ⟨.hbm, 51, rfl⟩
abbrev main_call0_v27 : Ref sig .tc := ⟨.hbm, 52, rfl⟩
abbrev main_call0_cst_8 : Ref sig .tc := ⟨.hbm, 53, rfl⟩
abbrev main_call0_v28 : Ref sig .tc := ⟨.hbm, 54, rfl⟩
abbrev main_call0_v29 : Ref sig .tc := ⟨.hbm, 55, rfl⟩
abbrev main_call0_cst_9 : Ref sig .tc := ⟨.hbm, 56, rfl⟩
abbrev main_call0_v30 : Ref sig .tc := ⟨.hbm, 57, rfl⟩
abbrev main_call0_v31 : Ref sig .tc := ⟨.hbm, 58, rfl⟩
abbrev main_call0_c : Ref sig .tc := ⟨.hbm, 59, rfl⟩
abbrev main_call0_call0_v0 : Ref sig .tc := ⟨.hbm, 60, rfl⟩
abbrev main_call0_call0_v1 : Ref sig .tc := ⟨.hbm, 61, rfl⟩
abbrev main_call0_v32 : Ref sig .tc := ⟨.hbm, 62, rfl⟩
abbrev main_call0_v33 : Ref sig .tc := ⟨.hbm, 63, rfl⟩
abbrev main_call0_v34 : Ref sig .tc := ⟨.hbm, 64, rfl⟩
abbrev main_call0_c_10 : Ref sig .tc := ⟨.hbm, 65, rfl⟩
abbrev main_call0_call1_v0 : Ref sig .tc := ⟨.hbm, 66, rfl⟩
abbrev main_call0_call1_v1 : Ref sig .tc := ⟨.hbm, 67, rfl⟩
abbrev main_call0_call1_v2 : Ref sig .tc := ⟨.hbm, 68, rfl⟩
abbrev main_call0_v35 : Ref sig .tc := ⟨.hbm, 69, rfl⟩
abbrev main_call0_cst_11 : Ref sig .tc := ⟨.hbm, 70, rfl⟩
abbrev main_call0_v36 : Ref sig .tc := ⟨.hbm, 71, rfl⟩
abbrev main_call0_v37 : Ref sig .tc := ⟨.hbm, 72, rfl⟩
abbrev main_call0_cst_12 : Ref sig .tc := ⟨.hbm, 73, rfl⟩
abbrev main_call0_v38 : Ref sig .tc := ⟨.hbm, 74, rfl⟩
abbrev main_call0_v39 : Ref sig .tc := ⟨.hbm, 75, rfl⟩
abbrev main_call0_v40 : Ref sig .tc := ⟨.hbm, 76, rfl⟩
abbrev main_call0_v41 : Ref sig .tc := ⟨.hbm, 77, rfl⟩
abbrev main_call0_c_13 : Ref sig .tc := ⟨.hbm, 78, rfl⟩
abbrev main_call0_call2_v0 : Ref sig .tc := ⟨.hbm, 79, rfl⟩
abbrev main_call0_call2_v1 : Ref sig .tc := ⟨.hbm, 80, rfl⟩
abbrev main_call0_call2_v2 : Ref sig .tc := ⟨.hbm, 81, rfl⟩
abbrev main_call0_v42 : Ref sig .tc := ⟨.hbm, 82, rfl⟩
abbrev main_call0_cst_14 : Ref sig .tc := ⟨.hbm, 83, rfl⟩
abbrev main_call0_cst_15 : Ref sig .tc := ⟨.hbm, 84, rfl⟩
abbrev main_call0_v43 : Ref sig .tc := ⟨.hbm, 85, rfl⟩
abbrev main_call0_v44 : Ref sig .tc := ⟨.hbm, 86, rfl⟩
abbrev main_call0_cst_16 : Ref sig .tc := ⟨.hbm, 87, rfl⟩
abbrev main_call0_v45 : Ref sig .tc := ⟨.hbm, 88, rfl⟩
abbrev main_call0_v46 : Ref sig .tc := ⟨.hbm, 89, rfl⟩
abbrev main_call0_cst_17 : Ref sig .tc := ⟨.hbm, 90, rfl⟩
abbrev main_call0_v47 : Ref sig .tc := ⟨.hbm, 91, rfl⟩
abbrev main_call0_v48 : Ref sig .tc := ⟨.hbm, 92, rfl⟩
abbrev main_call0_cst_18 : Ref sig .tc := ⟨.hbm, 93, rfl⟩
abbrev main_call0_v49 : Ref sig .tc := ⟨.hbm, 94, rfl⟩
abbrev main_call0_v50 : Ref sig .tc := ⟨.hbm, 95, rfl⟩
abbrev main_call0_cst_19 : Ref sig .tc := ⟨.hbm, 96, rfl⟩
abbrev main_call0_v51 : Ref sig .tc := ⟨.hbm, 97, rfl⟩
abbrev main_call0_v52 : Ref sig .tc := ⟨.hbm, 98, rfl⟩
abbrev main_call0_v53 : Ref sig .tc := ⟨.hbm, 99, rfl⟩
abbrev main_call0_v54 : Ref sig .tc := ⟨.hbm, 100, rfl⟩
abbrev main_call0_v55 : Ref sig .tc := ⟨.hbm, 101, rfl⟩
abbrev main_call0_v56 : Ref sig .tc := ⟨.hbm, 102, rfl⟩
abbrev main_call0_v57 : Ref sig .tc := ⟨.hbm, 103, rfl⟩
abbrev main_call0_v58 : Ref sig .tc := ⟨.hbm, 104, rfl⟩
abbrev main_call0_v59 : Ref sig .tc := ⟨.hbm, 105, rfl⟩
abbrev main_call0_v60 : Ref sig .tc := ⟨.hbm, 106, rfl⟩
abbrev main_call0_v61 : Ref sig .tc := ⟨.hbm, 107, rfl⟩
abbrev main_call0_v62 : Ref sig .tc := ⟨.hbm, 108, rfl⟩
abbrev main_call0_v63 : Ref sig .tc := ⟨.hbm, 109, rfl⟩
abbrev main_call0_cst_20 : Ref sig .tc := ⟨.hbm, 110, rfl⟩
abbrev main_call0_v64 : Ref sig .tc := ⟨.hbm, 111, rfl⟩
abbrev main_call0_v65 : Ref sig .tc := ⟨.hbm, 112, rfl⟩
abbrev main_call0_cst_21 : Ref sig .tc := ⟨.hbm, 113, rfl⟩
abbrev main_call0_v66 : Ref sig .tc := ⟨.hbm, 114, rfl⟩
abbrev main_call0_v67 : Ref sig .tc := ⟨.hbm, 115, rfl⟩
abbrev main_call0_cst_22 : Ref sig .tc := ⟨.hbm, 116, rfl⟩
abbrev main_call0_v68 : Ref sig .tc := ⟨.hbm, 117, rfl⟩
abbrev main_call0_v69 : Ref sig .tc := ⟨.hbm, 118, rfl⟩
abbrev main_call0_v70 : Ref sig .tc := ⟨.hbm, 119, rfl⟩
abbrev main_call0_cst_23 : Ref sig .tc := ⟨.hbm, 120, rfl⟩
abbrev main_call0_v71 : Ref sig .tc := ⟨.hbm, 121, rfl⟩
abbrev main_call0_v72 : Ref sig .tc := ⟨.hbm, 122, rfl⟩
abbrev main_call0_cst_24 : Ref sig .tc := ⟨.hbm, 123, rfl⟩
abbrev main_call0_v73 : Ref sig .tc := ⟨.hbm, 124, rfl⟩
abbrev main_call0_v74 : Ref sig .tc := ⟨.hbm, 125, rfl⟩
abbrev main_call0_c_25 : Ref sig .tc := ⟨.hbm, 126, rfl⟩
abbrev main_call0_call3_v0 : Ref sig .tc := ⟨.hbm, 127, rfl⟩
abbrev main_call0_call3_v1 : Ref sig .tc := ⟨.hbm, 128, rfl⟩
abbrev main_call0_v75 : Ref sig .tc := ⟨.hbm, 129, rfl⟩
abbrev main_call0_v76 : Ref sig .tc := ⟨.hbm, 130, rfl⟩
abbrev main_call0_v77 : Ref sig .tc := ⟨.hbm, 131, rfl⟩
abbrev main_call0_c_26 : Ref sig .tc := ⟨.hbm, 132, rfl⟩
abbrev main_call0_call4_v0 : Ref sig .tc := ⟨.hbm, 133, rfl⟩
abbrev main_call0_call4_v1 : Ref sig .tc := ⟨.hbm, 134, rfl⟩
abbrev main_call0_call4_v2 : Ref sig .tc := ⟨.hbm, 135, rfl⟩
abbrev main_call0_v78 : Ref sig .tc := ⟨.hbm, 136, rfl⟩
abbrev main_call0_cst_27 : Ref sig .tc := ⟨.hbm, 137, rfl⟩
abbrev main_call0_v79 : Ref sig .tc := ⟨.hbm, 138, rfl⟩
abbrev main_call0_v80 : Ref sig .tc := ⟨.hbm, 139, rfl⟩
abbrev main_call0_cst_28 : Ref sig .tc := ⟨.hbm, 140, rfl⟩
abbrev main_call0_v81 : Ref sig .tc := ⟨.hbm, 141, rfl⟩
abbrev main_call0_v82 : Ref sig .tc := ⟨.hbm, 142, rfl⟩
abbrev main_call0_v83 : Ref sig .tc := ⟨.hbm, 143, rfl⟩
abbrev main_call0_v84 : Ref sig .tc := ⟨.hbm, 144, rfl⟩
abbrev main_call0_c_29 : Ref sig .tc := ⟨.hbm, 145, rfl⟩
abbrev main_call0_call5_v0 : Ref sig .tc := ⟨.hbm, 146, rfl⟩
abbrev main_call0_call5_v1 : Ref sig .tc := ⟨.hbm, 147, rfl⟩
abbrev main_call0_call5_v2 : Ref sig .tc := ⟨.hbm, 148, rfl⟩
abbrev main_call0_v85 : Ref sig .tc := ⟨.hbm, 149, rfl⟩
abbrev main_call0_v86 : Ref sig .tc := ⟨.hbm, 150, rfl⟩
abbrev main_call0_v87 : Ref sig .tc := ⟨.hbm, 151, rfl⟩
abbrev main_v8 : Ref sig .tc := ⟨.hbm, 152, rfl⟩
abbrev main_v9 : Ref sig .tc := ⟨.hbm, 153, rfl⟩
abbrev main_v10 : Ref sig .tc := ⟨.hbm, 154, rfl⟩
abbrev main_v11 : Ref sig .tc := ⟨.hbm, 155, rfl⟩
abbrev main_v12 : Ref sig .tc := ⟨.hbm, 156, rfl⟩
abbrev main_v13 : Ref sig .tc := ⟨.hbm, 157, rfl⟩
abbrev main_v14 : Ref sig .tc := ⟨.hbm, 158, rfl⟩
abbrev main_v15 : Ref sig .tc := ⟨.hbm, 159, rfl⟩
abbrev main_v16 : Ref sig .tc := ⟨.hbm, 160, rfl⟩
abbrev main_v17 : Ref sig .tc := ⟨.hbm, 161, rfl⟩
abbrev main_v18 : Ref sig .tc := ⟨.hbm, 162, rfl⟩
abbrev main_cst_0 : Ref sig .tc := ⟨.hbm, 163, rfl⟩
abbrev main_v19 : Ref sig .tc := ⟨.hbm, 164, rfl⟩
abbrev main_v20 : Ref sig .tc := ⟨.hbm, 165, rfl⟩
abbrev main_v21 : Ref sig .tc := ⟨.hbm, 166, rfl⟩
abbrev main_cst_1 : Ref sig .tc := ⟨.hbm, 167, rfl⟩
abbrev main_v22 : Ref sig .tc := ⟨.hbm, 168, rfl⟩
abbrev main_v23 : Ref sig .tc := ⟨.hbm, 169, rfl⟩
abbrev main_v24 : Ref sig .tc := ⟨.hbm, 170, rfl⟩
abbrev main_v25 : Ref sig .tc := ⟨.hbm, 171, rfl⟩
abbrev main_v26 : Ref sig .tc := ⟨.hbm, 172, rfl⟩
abbrev main_v27 : Ref sig .tc := ⟨.hbm, 173, rfl⟩
abbrev main_v28 : Ref sig .tc := ⟨.hbm, 174, rfl⟩
abbrev main_cst_2 : Ref sig .tc := ⟨.hbm, 175, rfl⟩
abbrev main_v29 : Ref sig .tc := ⟨.hbm, 176, rfl⟩
abbrev main_v30 : Ref sig .tc := ⟨.hbm, 177, rfl⟩
abbrev main_v31 : Ref sig .tc := ⟨.hbm, 178, rfl⟩
abbrev main_cst_3 : Ref sig .tc := ⟨.hbm, 179, rfl⟩
abbrev main_v32 : Ref sig .tc := ⟨.hbm, 180, rfl⟩
abbrev main_v33 : Ref sig .tc := ⟨.hbm, 181, rfl⟩
abbrev main_cst_4 : Ref sig .tc := ⟨.hbm, 182, rfl⟩
abbrev main_v34 : Ref sig .tc := ⟨.hbm, 183, rfl⟩
abbrev main_v35 : Ref sig .tc := ⟨.hbm, 184, rfl⟩
abbrev main_v36 : Ref sig .tc := ⟨.hbm, 185, rfl⟩
abbrev main_cst_5 : Ref sig .tc := ⟨.hbm, 186, rfl⟩
abbrev main_v37 : Ref sig .tc := ⟨.hbm, 187, rfl⟩
abbrev main_v38 : Ref sig .tc := ⟨.hbm, 188, rfl⟩
abbrev main_v39 : Ref sig .tc := ⟨.hbm, 189, rfl⟩
abbrev main_v40 : Ref sig .tc := ⟨.hbm, 190, rfl⟩
abbrev main_v41 : Ref sig .tc := ⟨.hbm, 191, rfl⟩
abbrev main_cst_6 : Ref sig .tc := ⟨.hbm, 192, rfl⟩
abbrev main_v42 : Ref sig .tc := ⟨.hbm, 193, rfl⟩
abbrev main_v43 : Ref sig .tc := ⟨.hbm, 194, rfl⟩
abbrev main_cst_7 : Ref sig .tc := ⟨.hbm, 195, rfl⟩
abbrev main_v44 : Ref sig .tc := ⟨.hbm, 196, rfl⟩
abbrev main_v45 : Ref sig .tc := ⟨.hbm, 197, rfl⟩
abbrev main_cst_8 : Ref sig .tc := ⟨.hbm, 198, rfl⟩
abbrev main_v46 : Ref sig .tc := ⟨.hbm, 199, rfl⟩
abbrev main_v47 : Ref sig .tc := ⟨.hbm, 200, rfl⟩
abbrev main_v48 : Ref sig .tc := ⟨.hbm, 201, rfl⟩
abbrev main_cst_9 : Ref sig .tc := ⟨.hbm, 202, rfl⟩
abbrev main_v49 : Ref sig .tc := ⟨.hbm, 203, rfl⟩
abbrev main_v50 : Ref sig .tc := ⟨.hbm, 204, rfl⟩
abbrev main_v51 : Ref sig .tc := ⟨.hbm, 205, rfl⟩
abbrev main_cst_10 : Ref sig .tc := ⟨.hbm, 206, rfl⟩
abbrev main_v52 : Ref sig .tc := ⟨.hbm, 207, rfl⟩
abbrev main_v53 : Ref sig .tc := ⟨.hbm, 208, rfl⟩
abbrev main_cst_11 : Ref sig .tc := ⟨.hbm, 209, rfl⟩
abbrev main_v54 : Ref sig .tc := ⟨.hbm, 210, rfl⟩
abbrev main_v55 : Ref sig .tc := ⟨.hbm, 211, rfl⟩
abbrev main_v56 : Ref sig .tc := ⟨.hbm, 212, rfl⟩
abbrev main_v57 : Ref sig .tc := ⟨.hbm, 213, rfl⟩
abbrev main_cst_12 : Ref sig .tc := ⟨.hbm, 214, rfl⟩
abbrev main_v58 : Ref sig .tc := ⟨.hbm, 215, rfl⟩
abbrev main_v59 : Ref sig .tc := ⟨.hbm, 216, rfl⟩
abbrev main_cst_13 : Ref sig .tc := ⟨.hbm, 217, rfl⟩
abbrev main_v60 : Ref sig .tc := ⟨.hbm, 218, rfl⟩
abbrev main_v61 : Ref sig .tc := ⟨.hbm, 219, rfl⟩
abbrev main_cst_14 : Ref sig .tc := ⟨.hbm, 220, rfl⟩
abbrev main_v62 : Ref sig .tc := ⟨.hbm, 221, rfl⟩
abbrev main_v63 : Ref sig .tc := ⟨.hbm, 222, rfl⟩
abbrev main_v64 : Ref sig .tc := ⟨.hbm, 223, rfl⟩
abbrev main_v65 : Ref sig .tc := ⟨.hbm, 224, rfl⟩

abbrev nD : Nat := 1
abbrev τ : Topo := Topo.v7x

variable {F : FTy → Type} [FloatOps F]
-- ==== Proof.Ref.Ops.lean ====
/- The reference as a list of its host operations. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v9`, named. It packs its operands into a list of dependent pairs
    whose shapes a later argument's type mentions, so `simp` cannot rewrite an operand where it stands; applied by
    name, the operands are plain arguments, which the window lemmas below rewrite before the name unfolds. -/
def fn_main_v9 : (⟨S4x384x24x24, .f32⟩ : BufTy).Contents (Elt F) → (⟨S4x5x24x24, .f32⟩ : BufTy).Contents (Elt F) → (⟨S4x389x24x24, .f32⟩ : BufTy).Contents (Elt F) :=
  (fun a b => concatenate S4x389x24x24 1 [⟨S4x384x24x24, a⟩, ⟨S4x5x24x24, b⟩] concatenates_S4x384x24x24_S4x5x24x24_S4x389x24x24_d1)

/-- @main's operations 1 … 30 of 218 (window `main_part0`). -/
abbrev ops_part0_0 : List (HloOp τ sig (Elt F)) :=
  [ reshape main_arg0 main_v0 (rfl : (.f32 : EltTy) = .f32) shapeCasts_S4x3x384x384_S4x3x24x16x24x16,
    binary main_arg2 main_v0 main_v1 ((fun l r => Host.dotGeneral dot_S384x3x16x16_S4x3x24x16x24x16_S384x4x24x24_123_135_0_024_n_n none l r) : (⟨S384x3x16x16, .f32⟩ : BufTy).Contents (Elt F) → (⟨S4x3x24x16x24x16, .f32⟩ : BufTy).Contents (Elt F) → (⟨S384x4x24x24, .f32⟩ : BufTy).Contents (Elt F)),
    unary main_v1 main_v2 ((transpose S4x384x24x24 [1, 0, 2, 3] · transposes_S384x4x24x24_S4x384x24x24_1_0_2_3) : (⟨S384x4x24x24, .f32⟩ : BufTy).Contents (Elt F) → (⟨S4x384x24x24, .f32⟩ : BufTy).Contents (Elt F)),
    unary main_arg3 main_v3 (broadcastInDim S1x384x1x1 ![1] bcast_S384_S1x384x1x1_1 : (⟨S384, .f32⟩ : BufTy).Contents (Elt F) → (⟨S1x384x1x1, .f32⟩ : BufTy).Contents (Elt F)),
    unary main_v3 main_v4 (broadcastInDim S4x384x24x24 ![0, 1, 2, 3] bcast_S1x384x1x1_S4x384x24x24_0_1_2_3 : (⟨S1x384x1x1, .f32⟩ : BufTy).Contents (Elt F) → (⟨S4x384x24x24, .f32⟩ : BufTy).Contents (Elt F)),
    binary main_v2 main_v4 main_v5 (addf : (⟨S4x384x24x24, .f32⟩ : BufTy).Contents (Elt F) → (⟨S4x384x24x24, .f32⟩ : BufTy).Contents (Elt F) → (⟨S4x384x24x24, .f32⟩ : BufTy).Contents (Elt F)),
    nullary main_cst (constant S_ .f32 0x00000000#32),
    unary main_cst main_v6 (broadcastInDim S4x384x24x24 ![] bcast_S_S4x384x24x24 : (⟨S_, .f32⟩ : BufTy).Contents (Elt F) → (⟨S4x384x24x24, .f32⟩ : BufTy).Contents (Elt F)),
    binary main_v5 main_v6 main_v7 (maximumf : (⟨S4x384x24x24, .f32⟩ : BufTy).Contents (Elt F) → (⟨S4x384x24x24, .f32⟩ : BufTy).Contents (Elt F) → (⟨S4x384x24x24, .f32⟩ : BufTy).Contents (Elt F)),
    TRef.nullary (TRef.of (T := ⟨S_, .f32⟩) main_call0_cst) (constant S_ .f32 0x41800000#32),
    TRef.nullary (TRef.of (T := ⟨S_, .f32⟩) main_call0_cst_0) (constant S_ .f32 0x3F800000#32),
    TRef.binary (TRef.of (T := ⟨S_, .f32⟩) main_call0_cst) (TRef.of (T := ⟨S_, .f32⟩) main_call0_cst_0) (TRef.of (T := ⟨S_, .f32⟩) main_call0_v0) maximumf,
    TRef.nullary (TRef.of (T := ⟨S24, .f32⟩) main_call0_v1) (sitofp .f32 (iotaInDim S24 32 0)),
    TRef.nullary (TRef.of (T := ⟨S_, .f32⟩) main_call0_cst_1) (constant S_ .f32 0x3F000000#32),
    TRef.unary (TRef.of (T := ⟨S_, .f32⟩) main_call0_cst_1) (TRef.of (T := ⟨S24, .f32⟩) main_call0_v2) (broadcastInDim S24 ![] bcast_S_S24),
    TRef.binary (TRef.of (T := ⟨S24, .f32⟩) main_call0_v1) (TRef.of (T := ⟨S24, .f32⟩) main_call0_v2) (TRef.of (T := ⟨S24, .f32⟩) main_call0_v3) addf,
    TRef.nullary (TRef.of (T := ⟨S_, .f32⟩) main_call0_cst_2) (constant S_ .f32 0x41800000#32),
    TRef.unary (TRef.of (T := ⟨S_, .f32⟩) main_call0_cst_2) (TRef.of (T := ⟨S24, .f32⟩) main_call0_v4) (broadcastInDim S24 ![] bcast_S_S24),
    TRef.binary (TRef.of (T := ⟨S24, .f32⟩) main_call0_v3) (TRef.of (T := ⟨S24, .f32⟩) main_call0_v4) (TRef.of (T := ⟨S24, .f32⟩) main_call0_v5) mulf,
    TRef.nullary (TRef.of (T := ⟨S_, .f32⟩) main_call0_cst_3) (constant S_ .f32 0x00000000#32),
    TRef.unary (TRef.of (T := ⟨S_, .f32⟩) main_call0_cst_3) (TRef.of (T := ⟨S24, .f32⟩) main_call0_v6) (broadcastInDim S24 ![] bcast_S_S24),
    TRef.binary (TRef.of (T := ⟨S24, .f32⟩) main_call0_v5) (TRef.of (T := ⟨S24, .f32⟩) main_call0_v6) (TRef.of (T := ⟨S24, .f32⟩) main_call0_v7) subf,
    TRef.nullary (TRef.of (T := ⟨S_, .f32⟩) main_call0_cst_4) (constant S_ .f32 0x3F000000#32),
    TRef.unary (TRef.of (T := ⟨S_, .f32⟩) main_call0_cst_4) (TRef.of (T := ⟨S24, .f32⟩) main_call0_v8) (broadcastInDim S24 ![] bcast_S_S24),
    TRef.binary (TRef.of (T := ⟨S24, .f32⟩) main_call0_v7) (TRef.of (T := ⟨S24, .f32⟩) main_call0_v8) (TRef.of (T := ⟨S24, .f32⟩) main_call0_v9) subf,
    TRef.nullary (TRef.of (T := ⟨S384, .f32⟩) main_call0_v10) (sitofp .f32 (iotaInDim S384 32 0)),
    TRef.unary (TRef.of (T := ⟨S24, .f32⟩) main_call0_v9) (TRef.of (T := ⟨S1x24, .f32⟩) main_call0_v11) (broadcastInDim S1x24 ![1] bcast_S24_S1x24_1),
    TRef.unary (TRef.of (T := ⟨S384, .f32⟩) main_call0_v10) (TRef.of (T := ⟨S384x1, .f32⟩) main_call0_v12) (broadcastInDim S384x1 ![0] bcast_S384_S384x1_0),
    TRef.unary (TRef.of (T := ⟨S1x24, .f32⟩) main_call0_v11) (TRef.of (T := ⟨S384x24, .f32⟩) main_call0_v13) (broadcastInDim S384x24 ![0, 1] bcast_S1x24_S384x24_0_1),
    TRef.unary (TRef.of (T := ⟨S384x1, .f32⟩) main_call0_v12) (TRef.of (T := ⟨S384x24, .f32⟩) main_call0_v14) (broadcastInDim S384x24 ![0, 1] bcast_S384x1_S384x24_0_1) ]

/-- @main's operations 31 … 60 of 218 (window `main_part0`). -/
abbrev ops_part0_1 : List (HloOp τ sig (Elt F)) :=
  [ TRef.binary (TRef.of (T := ⟨S384x24, .f32⟩) main_call0_v13) (TRef.of (T := ⟨S384x24, .f32⟩) main_call0_v14) (TRef.of (T := ⟨S384x24, .f32⟩) main_call0_v15) subf,
    TRef.unary (TRef.of (T := ⟨S384x24, .f32⟩) main_call0_v15) (TRef.of (T := ⟨S384x24, .f32⟩) main_call0_v16) Host.absf,
    TRef.unary (TRef.of (T := ⟨S_, .f32⟩) main_call0_v0) (TRef.of (T := ⟨S_, .f32⟩) main_call0_v17) id,
    TRef.unary (TRef.of (T := ⟨S_, .f32⟩) main_call0_v17) (TRef.of (T := ⟨S384x24, .f32⟩) main_call0_v18) (broadcastInDim S384x24 ![] bcast_S_S384x24),
    TRef.binary (TRef.of (T := ⟨S384x24, .f32⟩) main_call0_v16) (TRef.of (T := ⟨S384x24, .f32⟩) main_call0_v18) (TRef.of (T := ⟨S384x24, .f32⟩) main_call0_v19) Host.divf,
    TRef.unary (TRef.of (T := ⟨S384x24, .f32⟩) main_call0_v19) (TRef.of (T := ⟨S384x24, .f32⟩) main_call0_v20) Host.absf,
    TRef.nullary (TRef.of (T := ⟨S_, .f32⟩) main_call0_cst_5) (constant S_ .f32 0x3F800000#32),
    TRef.unary (TRef.of (T := ⟨S_, .f32⟩) main_call0_cst_5) (TRef.of (T := ⟨S384x24, .f32⟩) main_call0_v21) (broadcastInDim S384x24 ![] bcast_S_S384x24),
    TRef.binary (TRef.of (T := ⟨S384x24, .f32⟩) main_call0_v21) (TRef.of (T := ⟨S384x24, .f32⟩) main_call0_v20) (TRef.of (T := ⟨S384x24, .f32⟩) main_call0_v22) subf,
    TRef.nullary (TRef.of (T := ⟨S_, .f32⟩) main_call0_cst_6) (constant S_ .f32 0x00000000#32),
    TRef.unary (TRef.of (T := ⟨S_, .f32⟩) main_call0_cst_6) (TRef.of (T := ⟨S384x24, .f32⟩) main_call0_v23) (broadcastInDim S384x24 ![] bcast_S_S384x24),
    TRef.binary (TRef.of (T := ⟨S384x24, .f32⟩) main_call0_v23) (TRef.of (T := ⟨S384x24, .f32⟩) main_call0_v22) (TRef.of (T := ⟨S384x24, .f32⟩) main_call0_v24) maximumf,
    TRef.nullary (TRef.of (T := ⟨S_, .f32⟩) main_call0_cst_7) (constant S_ .f32 0x00000000#32),
    TRef.binary (TRef.of (T := ⟨S384x24, .f32⟩) main_call0_v24) (TRef.of (T := ⟨S_, .f32⟩) main_call0_cst_7) (TRef.of (T := ⟨S24, .f32⟩) main_call0_v25) (fun x v => Host.reduceAdd x v reducesTo_S384x24_S24_d0 h_S_),
    TRef.unary (TRef.of (T := ⟨S24, .f32⟩) main_call0_v25) (TRef.of (T := ⟨S1x24, .f32⟩) main_call0_v26) (broadcastInDim S1x24 ![1] bcast_S24_S1x24_1),
    TRef.unary (TRef.of (T := ⟨S1x24, .f32⟩) main_call0_v26) (TRef.of (T := ⟨S1x24, .f32⟩) main_call0_v27) Host.absf,
    TRef.nullary (TRef.of (T := ⟨S_, .f32⟩) main_call0_cst_8) (constant S_ .f32 0x38FA0000#32),
    TRef.unary (TRef.of (T := ⟨S_, .f32⟩) main_call0_cst_8) (TRef.of (T := ⟨S1x24, .f32⟩) main_call0_v28) (broadcastInDim S1x24 ![] bcast_S_S1x24),
    TRef.binary (TRef.of (T := ⟨S1x24, .f32⟩) main_call0_v27) (TRef.of (T := ⟨S1x24, .f32⟩) main_call0_v28) (TRef.of (T := ⟨S1x24, .i1⟩) main_call0_v29) (cmpf .ogt),
    TRef.nullary (TRef.of (T := ⟨S_, .f32⟩) main_call0_cst_9) (constant S_ .f32 0x00000000#32),
    TRef.unary (TRef.of (T := ⟨S_, .f32⟩) main_call0_cst_9) (TRef.of (T := ⟨S1x24, .f32⟩) main_call0_v30) (broadcastInDim S1x24 ![] bcast_S_S1x24),
    TRef.binary (TRef.of (T := ⟨S1x24, .f32⟩) main_call0_v26) (TRef.of (T := ⟨S1x24, .f32⟩) main_call0_v30) (TRef.of (T := ⟨S1x24, .i1⟩) main_call0_v31) (cmpf .une),
    TRef.nullary (TRef.of (T := ⟨S_, .i32⟩) main_call0_c) (constantI S_ 32 1#32),
    TRef.unary (TRef.of (T := ⟨S_, .i32⟩) main_call0_c) (TRef.of (T := ⟨S_, .f32⟩) main_call0_call0_v0) (sitofp .f32),
    TRef.unary (TRef.of (T := ⟨S_, .f32⟩) main_call0_call0_v0) (TRef.of (T := ⟨S1x24, .f32⟩) main_call0_call0_v1) (broadcastInDim S1x24 ![] bcast_S_S1x24),
    TRef.ternary (TRef.of (T := ⟨S1x24, .i1⟩) main_call0_v31) (TRef.of (T := ⟨S1x24, .f32⟩) main_call0_v26) (TRef.of (T := ⟨S1x24, .f32⟩) main_call0_call0_v1) (TRef.of (T := ⟨S1x24, .f32⟩) main_call0_v32) select,
    TRef.unary (TRef.of (T := ⟨S1x24, .f32⟩) main_call0_v32) (TRef.of (T := ⟨S384x24, .f32⟩) main_call0_v33) (broadcastInDim S384x24 ![0, 1] bcast_S1x24_S384x24_0_1),
    TRef.binary (TRef.of (T := ⟨S384x24, .f32⟩) main_call0_v24) (TRef.of (T := ⟨S384x24, .f32⟩) main_call0_v33) (TRef.of (T := ⟨S384x24, .f32⟩) main_call0_v34) Host.divf,
    TRef.nullary (TRef.of (T := ⟨S_, .i32⟩) main_call0_c_10) (constantI S_ 32 0#32),
    TRef.unary (TRef.of (T := ⟨S_, .i32⟩) main_call0_c_10) (TRef.of (T := ⟨S_, .f32⟩) main_call0_call1_v0) (sitofp .f32) ]

/-- @main's operations 61 … 90 of 218 (window `main_part0`). -/
abbrev ops_part0_2 : List (HloOp τ sig (Elt F)) :=
  [ TRef.unary (TRef.of (T := ⟨S1x24, .i1⟩) main_call0_v29) (TRef.of (T := ⟨S384x24, .i1⟩) main_call0_call1_v1) (broadcastInDim S384x24 ![0, 1] bcast_S1x24_S384x24_0_1),
    TRef.unary (TRef.of (T := ⟨S_, .f32⟩) main_call0_call1_v0) (TRef.of (T := ⟨S384x24, .f32⟩) main_call0_call1_v2) (broadcastInDim S384x24 ![] bcast_S_S384x24),
    TRef.ternary (TRef.of (T := ⟨S384x24, .i1⟩) main_call0_call1_v1) (TRef.of (T := ⟨S384x24, .f32⟩) main_call0_v34) (TRef.of (T := ⟨S384x24, .f32⟩) main_call0_call1_v2) (TRef.of (T := ⟨S384x24, .f32⟩) main_call0_v35) select,
    TRef.nullary (TRef.of (T := ⟨S_, .f32⟩) main_call0_cst_11) (constant S_ .f32 0xBF000000#32),
    TRef.unary (TRef.of (T := ⟨S_, .f32⟩) main_call0_cst_11) (TRef.of (T := ⟨S24, .f32⟩) main_call0_v36) (broadcastInDim S24 ![] bcast_S_S24),
    TRef.binary (TRef.of (T := ⟨S24, .f32⟩) main_call0_v9) (TRef.of (T := ⟨S24, .f32⟩) main_call0_v36) (TRef.of (T := ⟨S24, .i1⟩) main_call0_v37) (cmpf .oge),
    TRef.nullary (TRef.of (T := ⟨S_, .f32⟩) main_call0_cst_12) (constant S_ .f32 0x43BFC000#32),
    TRef.unary (TRef.of (T := ⟨S_, .f32⟩) main_call0_cst_12) (TRef.of (T := ⟨S24, .f32⟩) main_call0_v38) (broadcastInDim S24 ![] bcast_S_S24),
    TRef.binary (TRef.of (T := ⟨S24, .f32⟩) main_call0_v9) (TRef.of (T := ⟨S24, .f32⟩) main_call0_v38) (TRef.of (T := ⟨S24, .i1⟩) main_call0_v39) (cmpf .ole),
    TRef.binary (TRef.of (T := ⟨S24, .i1⟩) main_call0_v37) (TRef.of (T := ⟨S24, .i1⟩) main_call0_v39) (TRef.of (T := ⟨S24, .i1⟩) main_call0_v40) andi,
    TRef.unary (TRef.of (T := ⟨S24, .i1⟩) main_call0_v40) (TRef.of (T := ⟨S1x24, .i1⟩) main_call0_v41) (broadcastInDim S1x24 ![1] bcast_S24_S1x24_1),
    TRef.nullary (TRef.of (T := ⟨S_, .i32⟩) main_call0_c_13) (constantI S_ 32 0#32),
    TRef.unary (TRef.of (T := ⟨S_, .i32⟩) main_call0_c_13) (TRef.of (T := ⟨S_, .f32⟩) main_call0_call2_v0) (sitofp .f32),
    TRef.unary (TRef.of (T := ⟨S1x24, .i1⟩) main_call0_v41) (TRef.of (T := ⟨S384x24, .i1⟩) main_call0_call2_v1) (broadcastInDim S384x24 ![0, 1] bcast_S1x24_S384x24_0_1),
    TRef.unary (TRef.of (T := ⟨S_, .f32⟩) main_call0_call2_v0) (TRef.of (T := ⟨S384x24, .f32⟩) main_call0_call2_v2) (broadcastInDim S384x24 ![] bcast_S_S384x24),
    TRef.ternary (TRef.of (T := ⟨S384x24, .i1⟩) main_call0_call2_v1) (TRef.of (T := ⟨S384x24, .f32⟩) main_call0_v35) (TRef.of (T := ⟨S384x24, .f32⟩) main_call0_call2_v2) (TRef.of (T := ⟨S384x24, .f32⟩) main_call0_v42) select,
    TRef.nullary (TRef.of (T := ⟨S_, .f32⟩) main_call0_cst_14) (constant S_ .f32 0x41800000#32),
    TRef.nullary (TRef.of (T := ⟨S_, .f32⟩) main_call0_cst_15) (constant S_ .f32 0x3F800000#32),
    TRef.binary (TRef.of (T := ⟨S_, .f32⟩) main_call0_cst_14) (TRef.of (T := ⟨S_, .f32⟩) main_call0_cst_15) (TRef.of (T := ⟨S_, .f32⟩) main_call0_v43) maximumf,
    TRef.nullary (TRef.of (T := ⟨S24, .f32⟩) main_call0_v44) (sitofp .f32 (iotaInDim S24 32 0)),
    TRef.nullary (TRef.of (T := ⟨S_, .f32⟩) main_call0_cst_16) (constant S_ .f32 0x3F000000#32),
    TRef.unary (TRef.of (T := ⟨S_, .f32⟩) main_call0_cst_16) (TRef.of (T := ⟨S24, .f32⟩) main_call0_v45) (broadcastInDim S24 ![] bcast_S_S24),
    TRef.binary (TRef.of (T := ⟨S24, .f32⟩) main_call0_v44) (TRef.of (T := ⟨S24, .f32⟩) main_call0_v45) (TRef.of (T := ⟨S24, .f32⟩) main_call0_v46) addf,
    TRef.nullary (TRef.of (T := ⟨S_, .f32⟩) main_call0_cst_17) (constant S_ .f32 0x41800000#32),
    TRef.unary (TRef.of (T := ⟨S_, .f32⟩) main_call0_cst_17) (TRef.of (T := ⟨S24, .f32⟩) main_call0_v47) (broadcastInDim S24 ![] bcast_S_S24),
    TRef.binary (TRef.of (T := ⟨S24, .f32⟩) main_call0_v46) (TRef.of (T := ⟨S24, .f32⟩) main_call0_v47) (TRef.of (T := ⟨S24, .f32⟩) main_call0_v48) mulf,
    TRef.nullary (TRef.of (T := ⟨S_, .f32⟩) main_call0_cst_18) (constant S_ .f32 0x00000000#32),
    TRef.unary (TRef.of (T := ⟨S_, .f32⟩) main_call0_cst_18) (TRef.of (T := ⟨S24, .f32⟩) main_call0_v49) (broadcastInDim S24 ![] bcast_S_S24),
    TRef.binary (TRef.of (T := ⟨S24, .f32⟩) main_call0_v48) (TRef.of (T := ⟨S24, .f32⟩) main_call0_v49) (TRef.of (T := ⟨S24, .f32⟩) main_call0_v50) subf,
    TRef.nullary (TRef.of (T := ⟨S_, .f32⟩) main_call0_cst_19) (constant S_ .f32 0x3F000000#32) ]

/-- @main's operations 91 … 120 of 218 (window `main_part0`). -/
abbrev ops_part0_3 : List (HloOp τ sig (Elt F)) :=
  [ TRef.unary (TRef.of (T := ⟨S_, .f32⟩) main_call0_cst_19) (TRef.of (T := ⟨S24, .f32⟩) main_call0_v51) (broadcastInDim S24 ![] bcast_S_S24),
    TRef.binary (TRef.of (T := ⟨S24, .f32⟩) main_call0_v50) (TRef.of (T := ⟨S24, .f32⟩) main_call0_v51) (TRef.of (T := ⟨S24, .f32⟩) main_call0_v52) subf,
    TRef.nullary (TRef.of (T := ⟨S384, .f32⟩) main_call0_v53) (sitofp .f32 (iotaInDim S384 32 0)),
    TRef.unary (TRef.of (T := ⟨S24, .f32⟩) main_call0_v52) (TRef.of (T := ⟨S1x24, .f32⟩) main_call0_v54) (broadcastInDim S1x24 ![1] bcast_S24_S1x24_1),
    TRef.unary (TRef.of (T := ⟨S384, .f32⟩) main_call0_v53) (TRef.of (T := ⟨S384x1, .f32⟩) main_call0_v55) (broadcastInDim S384x1 ![0] bcast_S384_S384x1_0),
    TRef.unary (TRef.of (T := ⟨S1x24, .f32⟩) main_call0_v54) (TRef.of (T := ⟨S384x24, .f32⟩) main_call0_v56) (broadcastInDim S384x24 ![0, 1] bcast_S1x24_S384x24_0_1),
    TRef.unary (TRef.of (T := ⟨S384x1, .f32⟩) main_call0_v55) (TRef.of (T := ⟨S384x24, .f32⟩) main_call0_v57) (broadcastInDim S384x24 ![0, 1] bcast_S384x1_S384x24_0_1),
    TRef.binary (TRef.of (T := ⟨S384x24, .f32⟩) main_call0_v56) (TRef.of (T := ⟨S384x24, .f32⟩) main_call0_v57) (TRef.of (T := ⟨S384x24, .f32⟩) main_call0_v58) subf,
    TRef.unary (TRef.of (T := ⟨S384x24, .f32⟩) main_call0_v58) (TRef.of (T := ⟨S384x24, .f32⟩) main_call0_v59) Host.absf,
    TRef.unary (TRef.of (T := ⟨S_, .f32⟩) main_call0_v43) (TRef.of (T := ⟨S_, .f32⟩) main_call0_v60) id,
    TRef.unary (TRef.of (T := ⟨S_, .f32⟩) main_call0_v60) (TRef.of (T := ⟨S384x24, .f32⟩) main_call0_v61) (broadcastInDim S384x24 ![] bcast_S_S384x24),
    TRef.binary (TRef.of (T := ⟨S384x24, .f32⟩) main_call0_v59) (TRef.of (T := ⟨S384x24, .f32⟩) main_call0_v61) (TRef.of (T := ⟨S384x24, .f32⟩) main_call0_v62) Host.divf,
    TRef.unary (TRef.of (T := ⟨S384x24, .f32⟩) main_call0_v62) (TRef.of (T := ⟨S384x24, .f32⟩) main_call0_v63) Host.absf,
    TRef.nullary (TRef.of (T := ⟨S_, .f32⟩) main_call0_cst_20) (constant S_ .f32 0x3F800000#32),
    TRef.unary (TRef.of (T := ⟨S_, .f32⟩) main_call0_cst_20) (TRef.of (T := ⟨S384x24, .f32⟩) main_call0_v64) (broadcastInDim S384x24 ![] bcast_S_S384x24),
    TRef.binary (TRef.of (T := ⟨S384x24, .f32⟩) main_call0_v64) (TRef.of (T := ⟨S384x24, .f32⟩) main_call0_v63) (TRef.of (T := ⟨S384x24, .f32⟩) main_call0_v65) subf,
    TRef.nullary (TRef.of (T := ⟨S_, .f32⟩) main_call0_cst_21) (constant S_ .f32 0x00000000#32),
    TRef.unary (TRef.of (T := ⟨S_, .f32⟩) main_call0_cst_21) (TRef.of (T := ⟨S384x24, .f32⟩) main_call0_v66) (broadcastInDim S384x24 ![] bcast_S_S384x24),
    TRef.binary (TRef.of (T := ⟨S384x24, .f32⟩) main_call0_v66) (TRef.of (T := ⟨S384x24, .f32⟩) main_call0_v65) (TRef.of (T := ⟨S384x24, .f32⟩) main_call0_v67) maximumf,
    TRef.nullary (TRef.of (T := ⟨S_, .f32⟩) main_call0_cst_22) (constant S_ .f32 0x00000000#32),
    TRef.binary (TRef.of (T := ⟨S384x24, .f32⟩) main_call0_v67) (TRef.of (T := ⟨S_, .f32⟩) main_call0_cst_22) (TRef.of (T := ⟨S24, .f32⟩) main_call0_v68) (fun x v => Host.reduceAdd x v reducesTo_S384x24_S24_d0 h_S_),
    TRef.unary (TRef.of (T := ⟨S24, .f32⟩) main_call0_v68) (TRef.of (T := ⟨S1x24, .f32⟩) main_call0_v69) (broadcastInDim S1x24 ![1] bcast_S24_S1x24_1),
    TRef.unary (TRef.of (T := ⟨S1x24, .f32⟩) main_call0_v69) (TRef.of (T := ⟨S1x24, .f32⟩) main_call0_v70) Host.absf,
    TRef.nullary (TRef.of (T := ⟨S_, .f32⟩) main_call0_cst_23) (constant S_ .f32 0x38FA0000#32),
    TRef.unary (TRef.of (T := ⟨S_, .f32⟩) main_call0_cst_23) (TRef.of (T := ⟨S1x24, .f32⟩) main_call0_v71) (broadcastInDim S1x24 ![] bcast_S_S1x24),
    TRef.binary (TRef.of (T := ⟨S1x24, .f32⟩) main_call0_v70) (TRef.of (T := ⟨S1x24, .f32⟩) main_call0_v71) (TRef.of (T := ⟨S1x24, .i1⟩) main_call0_v72) (cmpf .ogt),
    TRef.nullary (TRef.of (T := ⟨S_, .f32⟩) main_call0_cst_24) (constant S_ .f32 0x00000000#32),
    TRef.unary (TRef.of (T := ⟨S_, .f32⟩) main_call0_cst_24) (TRef.of (T := ⟨S1x24, .f32⟩) main_call0_v73) (broadcastInDim S1x24 ![] bcast_S_S1x24),
    TRef.binary (TRef.of (T := ⟨S1x24, .f32⟩) main_call0_v69) (TRef.of (T := ⟨S1x24, .f32⟩) main_call0_v73) (TRef.of (T := ⟨S1x24, .i1⟩) main_call0_v74) (cmpf .une),
    TRef.nullary (TRef.of (T := ⟨S_, .i32⟩) main_call0_c_25) (constantI S_ 32 1#32) ]

/-- @main's operations 121 … 150 of 218 (window `main_part0`). -/
abbrev ops_part0_4 : List (HloOp τ sig (Elt F)) :=
  [ TRef.unary (TRef.of (T := ⟨S_, .i32⟩) main_call0_c_25) (TRef.of (T := ⟨S_, .f32⟩) main_call0_call3_v0) (sitofp .f32),
    TRef.unary (TRef.of (T := ⟨S_, .f32⟩) main_call0_call3_v0) (TRef.of (T := ⟨S1x24, .f32⟩) main_call0_call3_v1) (broadcastInDim S1x24 ![] bcast_S_S1x24),
    TRef.ternary (TRef.of (T := ⟨S1x24, .i1⟩) main_call0_v74) (TRef.of (T := ⟨S1x24, .f32⟩) main_call0_v69) (TRef.of (T := ⟨S1x24, .f32⟩) main_call0_call3_v1) (TRef.of (T := ⟨S1x24, .f32⟩) main_call0_v75) select,
    TRef.unary (TRef.of (T := ⟨S1x24, .f32⟩) main_call0_v75) (TRef.of (T := ⟨S384x24, .f32⟩) main_call0_v76) (broadcastInDim S384x24 ![0, 1] bcast_S1x24_S384x24_0_1),
    TRef.binary (TRef.of (T := ⟨S384x24, .f32⟩) main_call0_v67) (TRef.of (T := ⟨S384x24, .f32⟩) main_call0_v76) (TRef.of (T := ⟨S384x24, .f32⟩) main_call0_v77) Host.divf,
    TRef.nullary (TRef.of (T := ⟨S_, .i32⟩) main_call0_c_26) (constantI S_ 32 0#32),
    TRef.unary (TRef.of (T := ⟨S_, .i32⟩) main_call0_c_26) (TRef.of (T := ⟨S_, .f32⟩) main_call0_call4_v0) (sitofp .f32),
    TRef.unary (TRef.of (T := ⟨S1x24, .i1⟩) main_call0_v72) (TRef.of (T := ⟨S384x24, .i1⟩) main_call0_call4_v1) (broadcastInDim S384x24 ![0, 1] bcast_S1x24_S384x24_0_1),
    TRef.unary (TRef.of (T := ⟨S_, .f32⟩) main_call0_call4_v0) (TRef.of (T := ⟨S384x24, .f32⟩) main_call0_call4_v2) (broadcastInDim S384x24 ![] bcast_S_S384x24),
    TRef.ternary (TRef.of (T := ⟨S384x24, .i1⟩) main_call0_call4_v1) (TRef.of (T := ⟨S384x24, .f32⟩) main_call0_v77) (TRef.of (T := ⟨S384x24, .f32⟩) main_call0_call4_v2) (TRef.of (T := ⟨S384x24, .f32⟩) main_call0_v78) select,
    TRef.nullary (TRef.of (T := ⟨S_, .f32⟩) main_call0_cst_27) (constant S_ .f32 0xBF000000#32),
    TRef.unary (TRef.of (T := ⟨S_, .f32⟩) main_call0_cst_27) (TRef.of (T := ⟨S24, .f32⟩) main_call0_v79) (broadcastInDim S24 ![] bcast_S_S24),
    TRef.binary (TRef.of (T := ⟨S24, .f32⟩) main_call0_v52) (TRef.of (T := ⟨S24, .f32⟩) main_call0_v79) (TRef.of (T := ⟨S24, .i1⟩) main_call0_v80) (cmpf .oge),
    TRef.nullary (TRef.of (T := ⟨S_, .f32⟩) main_call0_cst_28) (constant S_ .f32 0x43BFC000#32),
    TRef.unary (TRef.of (T := ⟨S_, .f32⟩) main_call0_cst_28) (TRef.of (T := ⟨S24, .f32⟩) main_call0_v81) (broadcastInDim S24 ![] bcast_S_S24),
    TRef.binary (TRef.of (T := ⟨S24, .f32⟩) main_call0_v52) (TRef.of (T := ⟨S24, .f32⟩) main_call0_v81) (TRef.of (T := ⟨S24, .i1⟩) main_call0_v82) (cmpf .ole),
    TRef.binary (TRef.of (T := ⟨S24, .i1⟩) main_call0_v80) (TRef.of (T := ⟨S24, .i1⟩) main_call0_v82) (TRef.of (T := ⟨S24, .i1⟩) main_call0_v83) andi,
    TRef.unary (TRef.of (T := ⟨S24, .i1⟩) main_call0_v83) (TRef.of (T := ⟨S1x24, .i1⟩) main_call0_v84) (broadcastInDim S1x24 ![1] bcast_S24_S1x24_1),
    TRef.nullary (TRef.of (T := ⟨S_, .i32⟩) main_call0_c_29) (constantI S_ 32 0#32),
    TRef.unary (TRef.of (T := ⟨S_, .i32⟩) main_call0_c_29) (TRef.of (T := ⟨S_, .f32⟩) main_call0_call5_v0) (sitofp .f32),
    TRef.unary (TRef.of (T := ⟨S1x24, .i1⟩) main_call0_v84) (TRef.of (T := ⟨S384x24, .i1⟩) main_call0_call5_v1) (broadcastInDim S384x24 ![0, 1] bcast_S1x24_S384x24_0_1),
    TRef.unary (TRef.of (T := ⟨S_, .f32⟩) main_call0_call5_v0) (TRef.of (T := ⟨S384x24, .f32⟩) main_call0_call5_v2) (broadcastInDim S384x24 ![] bcast_S_S384x24),
    TRef.ternary (TRef.of (T := ⟨S384x24, .i1⟩) main_call0_call5_v1) (TRef.of (T := ⟨S384x24, .f32⟩) main_call0_v78) (TRef.of (T := ⟨S384x24, .f32⟩) main_call0_call5_v2) (TRef.of (T := ⟨S384x24, .f32⟩) main_call0_v85) select,
    TRef.binary (TRef.of (T := ⟨S384x24, .f32⟩) main_call0_v42) (TRef.of (T := ⟨S4x5x384x384, .f32⟩) main_arg1) (TRef.of (T := ⟨S24x4x5x384, .f32⟩) main_call0_v86) (fun l r => Host.dotGeneral dot_S384x24_S4x5x384x384_S24x4x5x384_0_2_1_013_n_n (some .fp32) l r),
    TRef.binary (TRef.of (T := ⟨S24x4x5x384, .f32⟩) main_call0_v86) (TRef.of (T := ⟨S384x24, .f32⟩) main_call0_v85) (TRef.of (T := ⟨S24x4x5x24, .f32⟩) main_call0_v87) (fun l r => Host.dotGeneral dot_S24x4x5x384_S384x24_S24x4x5x24_3_0_012_1_n_n (some .fp32) l r),
    TRef.unary (TRef.of (T := ⟨S24x4x5x24, .f32⟩) main_call0_v87) (TRef.of (T := ⟨S4x5x24x24, .f32⟩) main_v8) (transpose S4x5x24x24 [1, 2, 0, 3] · transposes_S24x4x5x24_S4x5x24x24_1_2_0_3),
    binary main_v7 main_v8 main_v9 (fn_main_v9 (F := F)),
    reshape main_arg4 main_v10 (rfl : (.f32 : EltTy) = .f32) shapeCasts_S384x389x1x1_S384x389,
    binary main_v10 main_v9 main_v11 ((fun l r => Host.dotGeneral dot_S384x389_S4x389x24x24_S384x4x24x24_1_1_0_023_n_n none l r) : (⟨S384x389, .f32⟩ : BufTy).Contents (Elt F) → (⟨S4x389x24x24, .f32⟩ : BufTy).Contents (Elt F) → (⟨S384x4x24x24, .f32⟩ : BufTy).Contents (Elt F)),
    unary main_v11 main_v12 ((transpose S4x384x24x24 [1, 0, 2, 3] · transposes_S384x4x24x24_S4x384x24x24_1_0_2_3) : (⟨S384x4x24x24, .f32⟩ : BufTy).Contents (Elt F) → (⟨S4x384x24x24, .f32⟩ : BufTy).Contents (Elt F)) ]

/-- @main's operations 151 … 180 of 218 (window `main_part0`). -/
abbrev ops_part0_5 : List (HloOp τ sig (Elt F)) :=
  [ unary main_arg5 main_v13 (broadcastInDim S1x384x1x1 ![1] bcast_S384_S1x384x1x1_1 : (⟨S384, .f32⟩ : BufTy).Contents (Elt F) → (⟨S1x384x1x1, .f32⟩ : BufTy).Contents (Elt F)),
    unary main_v13 main_v14 (broadcastInDim S4x384x24x24 ![0, 1, 2, 3] bcast_S1x384x1x1_S4x384x24x24_0_1_2_3 : (⟨S1x384x1x1, .f32⟩ : BufTy).Contents (Elt F) → (⟨S4x384x24x24, .f32⟩ : BufTy).Contents (Elt F)),
    binary main_v12 main_v14 main_v15 (addf : (⟨S4x384x24x24, .f32⟩ : BufTy).Contents (Elt F) → (⟨S4x384x24x24, .f32⟩ : BufTy).Contents (Elt F) → (⟨S4x384x24x24, .f32⟩ : BufTy).Contents (Elt F)),
    unary main_v15 main_v16 ((transpose S4x24x24x384 [0, 2, 3, 1] · transposes_S4x384x24x24_S4x24x24x384_0_2_3_1) : (⟨S4x384x24x24, .f32⟩ : BufTy).Contents (Elt F) → (⟨S4x24x24x384, .f32⟩ : BufTy).Contents (Elt F)),
    reshape main_v16 main_v17 (rfl : (.f32 : EltTy) = .f32) shapeCasts_S4x24x24x384_S2304x384,
    binary main_v17 main_v17 main_v18 (mulf : (⟨S2304x384, .f32⟩ : BufTy).Contents (Elt F) → (⟨S2304x384, .f32⟩ : BufTy).Contents (Elt F) → (⟨S2304x384, .f32⟩ : BufTy).Contents (Elt F)),
    nullary main_cst_0 (constant S_ .f32 0x00000000#32),
    binary main_v18 main_cst_0 main_v19 ((fun x v => Host.reduceAdd x v reducesTo_S2304x384_S2304_d1 h_S_) : (⟨S2304x384, .f32⟩ : BufTy).Contents (Elt F) → (⟨S_, .f32⟩ : BufTy).Contents (Elt F) → (⟨S2304, .f32⟩ : BufTy).Contents (Elt F)),
    unary main_v19 main_v20 (broadcastInDim S2304x1 ![0] bcast_S2304_S2304x1_0 : (⟨S2304, .f32⟩ : BufTy).Contents (Elt F) → (⟨S2304x1, .f32⟩ : BufTy).Contents (Elt F)),
    binary main_arg6 main_arg6 main_v21 (mulf : (⟨S9216x384, .f32⟩ : BufTy).Contents (Elt F) → (⟨S9216x384, .f32⟩ : BufTy).Contents (Elt F) → (⟨S9216x384, .f32⟩ : BufTy).Contents (Elt F)),
    nullary main_cst_1 (constant S_ .f32 0x00000000#32),
    binary main_v21 main_cst_1 main_v22 ((fun x v => Host.reduceAdd x v reducesTo_S9216x384_S9216_d1 h_S_) : (⟨S9216x384, .f32⟩ : BufTy).Contents (Elt F) → (⟨S_, .f32⟩ : BufTy).Contents (Elt F) → (⟨S9216, .f32⟩ : BufTy).Contents (Elt F)),
    unary main_v22 main_v23 (broadcastInDim S1x9216 ![1] bcast_S9216_S1x9216_1 : (⟨S9216, .f32⟩ : BufTy).Contents (Elt F) → (⟨S1x9216, .f32⟩ : BufTy).Contents (Elt F)),
    unary main_v20 main_v24 (broadcastInDim S2304x9216 ![0, 1] bcast_S2304x1_S2304x9216_0_1 : (⟨S2304x1, .f32⟩ : BufTy).Contents (Elt F) → (⟨S2304x9216, .f32⟩ : BufTy).Contents (Elt F)),
    unary main_v23 main_v25 (broadcastInDim S2304x9216 ![0, 1] bcast_S1x9216_S2304x9216_0_1 : (⟨S1x9216, .f32⟩ : BufTy).Contents (Elt F) → (⟨S2304x9216, .f32⟩ : BufTy).Contents (Elt F)),
    binary main_v24 main_v25 main_v26 (addf : (⟨S2304x9216, .f32⟩ : BufTy).Contents (Elt F) → (⟨S2304x9216, .f32⟩ : BufTy).Contents (Elt F) → (⟨S2304x9216, .f32⟩ : BufTy).Contents (Elt F)),
    unary main_arg6 main_v27 ((transpose S384x9216 [1, 0] · transposes_S9216x384_S384x9216_1_0) : (⟨S9216x384, .f32⟩ : BufTy).Contents (Elt F) → (⟨S384x9216, .f32⟩ : BufTy).Contents (Elt F)),
    binary main_v17 main_v27 main_v28 ((fun l r => Host.dotGeneral dot_S2304x384_S384x9216_S2304x9216_1_0_0_1_n_n none l r) : (⟨S2304x384, .f32⟩ : BufTy).Contents (Elt F) → (⟨S384x9216, .f32⟩ : BufTy).Contents (Elt F) → (⟨S2304x9216, .f32⟩ : BufTy).Contents (Elt F)),
    nullary main_cst_2 (constant S_ .f32 0x40000000#32),
    unary main_cst_2 main_v29 (broadcastInDim S2304x9216 ![] bcast_S_S2304x9216 : (⟨S_, .f32⟩ : BufTy).Contents (Elt F) → (⟨S2304x9216, .f32⟩ : BufTy).Contents (Elt F)),
    binary main_v29 main_v28 main_v30 (mulf : (⟨S2304x9216, .f32⟩ : BufTy).Contents (Elt F) → (⟨S2304x9216, .f32⟩ : BufTy).Contents (Elt F) → (⟨S2304x9216, .f32⟩ : BufTy).Contents (Elt F)),
    binary main_v26 main_v30 main_v31 (subf : (⟨S2304x9216, .f32⟩ : BufTy).Contents (Elt F) → (⟨S2304x9216, .f32⟩ : BufTy).Contents (Elt F) → (⟨S2304x9216, .f32⟩ : BufTy).Contents (Elt F)),
    nullary main_cst_3 (constant S_ .f32 0x00000000#32),
    unary main_cst_3 main_v32 (broadcastInDim S2304x9216 ![] bcast_S_S2304x9216 : (⟨S_, .f32⟩ : BufTy).Contents (Elt F) → (⟨S2304x9216, .f32⟩ : BufTy).Contents (Elt F)),
    binary main_v31 main_v32 main_v33 (maximumf : (⟨S2304x9216, .f32⟩ : BufTy).Contents (Elt F) → (⟨S2304x9216, .f32⟩ : BufTy).Contents (Elt F) → (⟨S2304x9216, .f32⟩ : BufTy).Contents (Elt F)),
    nullary main_cst_4 (constant S_ .f32 0x2B8CBCCC#32),
    unary main_cst_4 main_v34 (broadcastInDim S2304x9216 ![] bcast_S_S2304x9216 : (⟨S_, .f32⟩ : BufTy).Contents (Elt F) → (⟨S2304x9216, .f32⟩ : BufTy).Contents (Elt F)),
    binary main_v33 main_v34 main_v35 (addf : (⟨S2304x9216, .f32⟩ : BufTy).Contents (Elt F) → (⟨S2304x9216, .f32⟩ : BufTy).Contents (Elt F) → (⟨S2304x9216, .f32⟩ : BufTy).Contents (Elt F)),
    unary main_v35 main_v36 (Host.sqrt : (⟨S2304x9216, .f32⟩ : BufTy).Contents (Elt F) → (⟨S2304x9216, .f32⟩ : BufTy).Contents (Elt F)),
    nullary main_cst_5 (constant S_ .f32 0x7F800000#32) ]

/-- @main's operations 181 … 196 of 218 (window `main_part0`). -/
abbrev ops_part0_6 : List (HloOp τ sig (Elt F)) :=
  [ binary main_v36 main_cst_5 main_v37 ((fun x v => Host.reduce FloatOps.minimumf x v reducesTo_S2304x9216_S2304_d1 h_S_) : (⟨S2304x9216, .f32⟩ : BufTy).Contents (Elt F) → (⟨S_, .f32⟩ : BufTy).Contents (Elt F) → (⟨S2304, .f32⟩ : BufTy).Contents (Elt F)),
    reshape main_v37 main_v38 (rfl : (.f32 : EltTy) = .f32) shapeCasts_S2304_S4x24x24,
    unary main_v8 main_v39 ((extractStridedSlice S4x1x24x24 ![0, 3, 0, 0] · slices_S4x5x24x24_S4x1x24x24_0_3_0_0) : (⟨S4x5x24x24, .f32⟩ : BufTy).Contents (Elt F) → (⟨S4x1x24x24, .f32⟩ : BufTy).Contents (Elt F)),
    unary main_v8 main_v40 ((extractStridedSlice S4x1x24x24 ![0, 2, 0, 0] · slices_S4x5x24x24_S4x1x24x24_0_2_0_0) : (⟨S4x5x24x24, .f32⟩ : BufTy).Contents (Elt F) → (⟨S4x1x24x24, .f32⟩ : BufTy).Contents (Elt F)),
    unary main_v8 main_v41 ((extractStridedSlice S4x1x24x24 ![0, 4, 0, 0] · slices_S4x5x24x24_S4x1x24x24_0_4_0_0) : (⟨S4x5x24x24, .f32⟩ : BufTy).Contents (Elt F) → (⟨S4x1x24x24, .f32⟩ : BufTy).Contents (Elt F)),
    nullary main_cst_6 (constant S_ .f32 0x3F000000#32),
    unary main_cst_6 main_v42 (broadcastInDim S4x1x24x24 ![] bcast_S_S4x1x24x24 : (⟨S_, .f32⟩ : BufTy).Contents (Elt F) → (⟨S4x1x24x24, .f32⟩ : BufTy).Contents (Elt F)),
    binary main_v42 main_v39 main_v43 (mulf : (⟨S4x1x24x24, .f32⟩ : BufTy).Contents (Elt F) → (⟨S4x1x24x24, .f32⟩ : BufTy).Contents (Elt F) → (⟨S4x1x24x24, .f32⟩ : BufTy).Contents (Elt F)),
    nullary main_cst_7 (constant S_ .f32 0x3F800000#32),
    unary main_cst_7 main_v44 (broadcastInDim S4x1x24x24 ![] bcast_S_S4x1x24x24 : (⟨S_, .f32⟩ : BufTy).Contents (Elt F) → (⟨S4x1x24x24, .f32⟩ : BufTy).Contents (Elt F)),
    binary main_v44 main_v40 main_v45 (subf : (⟨S4x1x24x24, .f32⟩ : BufTy).Contents (Elt F) → (⟨S4x1x24x24, .f32⟩ : BufTy).Contents (Elt F) → (⟨S4x1x24x24, .f32⟩ : BufTy).Contents (Elt F)),
    nullary main_cst_8 (constant S_ .f32 0x3E800000#32),
    unary main_cst_8 main_v46 (broadcastInDim S4x1x24x24 ![] bcast_S_S4x1x24x24 : (⟨S_, .f32⟩ : BufTy).Contents (Elt F) → (⟨S4x1x24x24, .f32⟩ : BufTy).Contents (Elt F)),
    binary main_v46 main_v45 main_v47 (mulf : (⟨S4x1x24x24, .f32⟩ : BufTy).Contents (Elt F) → (⟨S4x1x24x24, .f32⟩ : BufTy).Contents (Elt F) → (⟨S4x1x24x24, .f32⟩ : BufTy).Contents (Elt F)),
    binary main_v43 main_v47 main_v48 (addf : (⟨S4x1x24x24, .f32⟩ : BufTy).Contents (Elt F) → (⟨S4x1x24x24, .f32⟩ : BufTy).Contents (Elt F) → (⟨S4x1x24x24, .f32⟩ : BufTy).Contents (Elt F)),
    nullary main_cst_9 (constant S_ .f32 0x3E800000#32) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3 ++ (ops_part0_4 ++ (ops_part0_5 ++ (ops_part0_6))))))

/-- @main's operations 197 … 218 of 218 (window `main_part1`). -/
abbrev ops_part1 : List (HloOp τ sig (Elt F)) :=
  [ unary main_cst_9 main_v49 (broadcastInDim S4x1x24x24 ![] bcast_S_S4x1x24x24 : (⟨S_, .f32⟩ : BufTy).Contents (Elt F) → (⟨S4x1x24x24, .f32⟩ : BufTy).Contents (Elt F)),
    binary main_v49 main_v41 main_v50 (mulf : (⟨S4x1x24x24, .f32⟩ : BufTy).Contents (Elt F) → (⟨S4x1x24x24, .f32⟩ : BufTy).Contents (Elt F) → (⟨S4x1x24x24, .f32⟩ : BufTy).Contents (Elt F)),
    binary main_v48 main_v50 main_v51 (addf : (⟨S4x1x24x24, .f32⟩ : BufTy).Contents (Elt F) → (⟨S4x1x24x24, .f32⟩ : BufTy).Contents (Elt F) → (⟨S4x1x24x24, .f32⟩ : BufTy).Contents (Elt F)),
    nullary main_cst_10 (constant S_ .f32 0x3F000000#32),
    unary main_cst_10 main_v52 (broadcastInDim S4x1x24x24 ![] bcast_S_S4x1x24x24 : (⟨S_, .f32⟩ : BufTy).Contents (Elt F) → (⟨S4x1x24x24, .f32⟩ : BufTy).Contents (Elt F)),
    binary main_v51 main_v52 main_v53 (subf : (⟨S4x1x24x24, .f32⟩ : BufTy).Contents (Elt F) → (⟨S4x1x24x24, .f32⟩ : BufTy).Contents (Elt F) → (⟨S4x1x24x24, .f32⟩ : BufTy).Contents (Elt F)),
    nullary main_cst_11 (constant S_ .f32 0x40800000#32),
    unary main_cst_11 main_v54 (broadcastInDim S4x1x24x24 ![] bcast_S_S4x1x24x24 : (⟨S_, .f32⟩ : BufTy).Contents (Elt F) → (⟨S4x1x24x24, .f32⟩ : BufTy).Contents (Elt F)),
    binary main_v54 main_v53 main_v55 (mulf : (⟨S4x1x24x24, .f32⟩ : BufTy).Contents (Elt F) → (⟨S4x1x24x24, .f32⟩ : BufTy).Contents (Elt F) → (⟨S4x1x24x24, .f32⟩ : BufTy).Contents (Elt F)),
    unary main_v55 main_v56 (Host.negf : (⟨S4x1x24x24, .f32⟩ : BufTy).Contents (Elt F) → (⟨S4x1x24x24, .f32⟩ : BufTy).Contents (Elt F)),
    unary main_v56 main_v57 (Host.exp : (⟨S4x1x24x24, .f32⟩ : BufTy).Contents (Elt F) → (⟨S4x1x24x24, .f32⟩ : BufTy).Contents (Elt F)),
    nullary main_cst_12 (constant S_ .f32 0x3F800000#32),
    unary main_cst_12 main_v58 (broadcastInDim S4x1x24x24 ![] bcast_S_S4x1x24x24 : (⟨S_, .f32⟩ : BufTy).Contents (Elt F) → (⟨S4x1x24x24, .f32⟩ : BufTy).Contents (Elt F)),
    binary main_v58 main_v57 main_v59 (addf : (⟨S4x1x24x24, .f32⟩ : BufTy).Contents (Elt F) → (⟨S4x1x24x24, .f32⟩ : BufTy).Contents (Elt F) → (⟨S4x1x24x24, .f32⟩ : BufTy).Contents (Elt F)),
    nullary main_cst_13 (constant S_ .f32 0x3F800000#32),
    unary main_cst_13 main_v60 (broadcastInDim S4x1x24x24 ![] bcast_S_S4x1x24x24 : (⟨S_, .f32⟩ : BufTy).Contents (Elt F) → (⟨S4x1x24x24, .f32⟩ : BufTy).Contents (Elt F)),
    binary main_v60 main_v59 main_v61 (Host.divf : (⟨S4x1x24x24, .f32⟩ : BufTy).Contents (Elt F) → (⟨S4x1x24x24, .f32⟩ : BufTy).Contents (Elt F) → (⟨S4x1x24x24, .f32⟩ : BufTy).Contents (Elt F)),
    nullary main_cst_14 (constant S_ .f32 0x3F800000#32),
    unary main_cst_14 main_v62 (broadcastInDim S4x1x24x24 ![] bcast_S_S4x1x24x24 : (⟨S_, .f32⟩ : BufTy).Contents (Elt F) → (⟨S4x1x24x24, .f32⟩ : BufTy).Contents (Elt F)),
    binary main_v62 main_v61 main_v63 (addf : (⟨S4x1x24x24, .f32⟩ : BufTy).Contents (Elt F) → (⟨S4x1x24x24, .f32⟩ : BufTy).Contents (Elt F) → (⟨S4x1x24x24, .f32⟩ : BufTy).Contents (Elt F)),
    reshape main_v63 main_v64 (rfl : (.f32 : EltTy) = .f32) shapeCasts_S4x1x24x24_S4x24x24,
    binary main_v38 main_v64 main_v65 (mulf : (⟨S4x24x24, .f32⟩ : BufTy).Contents (Elt F) → (⟨S4x24x24, .f32⟩ : BufTy).Contents (Elt F) → (⟨S4x24x24, .f32⟩ : BufTy).Contents (Elt F)) ]

/-- @main's 218 operations, in order (a called function's operations stand in its call's place, spelt `TRef.…`). -/
abbrev ops : List (HloOp τ sig (Elt F)) :=
  ops_part0 ++ (ops_part1)

set_option maxRecDepth 8192 in
set_option maxHeartbeats 4000000 in
/-- Part 0 of the reference is the sequence of its operations. -/
theorem main_part0_eq (c : Dev nD) : main_part0 (F := F) c = seq ops_part0 := rfl
set_option maxRecDepth 8192 in
/-- Part 1 of the reference is the sequence of its operations. -/
theorem main_part1_eq (c : Dev nD) : main_part1 (F := F) c = seq ops_part1 := rfl
set_option maxRecDepth 8192 in
/-- The reference is the sequence of its operations. -/
theorem main_eq (c : Dev nD) : main (F := F) c = seq ops := by
  simp only [ops, seq_append, ← main_part0_eq c, ← main_part1_eq c]
  rfl
/-- The reference has no scoped buffer. -/
theorem scopedRefs_eq : (Finset.univ.filter fun b : Ref sig .tc => b.isScoped) = ∅ := by decide
/-- The reference has no scoped semaphore. -/
theorem scopedSems_eq : (Finset.univ.filter fun sm : SemLoc sig => sm.isScoped .tc) = ∅ := by decide
set_option maxRecDepth 8192 in
/-- The operations touch only buffers of the device. -/
theorem ops_part0_0_sub : (ops_part0_0 : List (HloOp τ sig (Elt F))).Forall fun op => op.bufs ⊆ tcRefs τ sig :=
  ⟨reshape_bufs_sub .., binary_bufs_sub .., unary_bufs_sub .., unary_bufs_sub .., unary_bufs_sub .., binary_bufs_sub .., nullary_bufs_sub .., unary_bufs_sub .., binary_bufs_sub .., nullary_bufs_sub .., nullary_bufs_sub .., binary_bufs_sub .., nullary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., unary_bufs_sub .., unary_bufs_sub ..⟩
set_option maxRecDepth 8192 in
/-- The operations draw no fresh buffer. -/
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations touch only buffers of the device. -/
theorem ops_part0_1_sub : (ops_part0_1 : List (HloOp τ sig (Elt F))).Forall fun op => op.bufs ⊆ tcRefs τ sig :=
  ⟨binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub .., nullary_bufs_sub .., unary_bufs_sub ..⟩
set_option maxRecDepth 8192 in
/-- The operations draw no fresh buffer. -/
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations touch only buffers of the device. -/
theorem ops_part0_2_sub : (ops_part0_2 : List (HloOp τ sig (Elt F))).Forall fun op => op.bufs ⊆ tcRefs τ sig :=
  ⟨unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., unary_bufs_sub .., unary_bufs_sub .., ternary_bufs_sub .., nullary_bufs_sub .., nullary_bufs_sub .., binary_bufs_sub .., nullary_bufs_sub .., nullary_bufs_sub .., unary_bufs_sub .., binary_bufs_sub .., nullary_bufs_sub .., unary_bufs_sub .., binary_bufs_sub .., nullary_bufs_sub .., unary_bufs_sub .., binary_bufs_sub .., nullary_bufs_sub ..⟩
set_option maxRecDepth 8192 in
/-- The operations draw no fresh buffer. -/
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations touch only buffers of the device. -/
theorem ops_part0_3_sub : (ops_part0_3 : List (HloOp τ sig (Elt F))).Forall fun op => op.bufs ⊆ tcRefs τ sig :=
  ⟨unary_bufs_sub .., binary_bufs_sub .., nullary_bufs_sub .., unary_bufs_sub .., unary_bufs_sub .., unary_bufs_sub .., unary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub ..⟩
set_option maxRecDepth 8192 in
/-- The operations draw no fresh buffer. -/
theorem ops_part0_3_fresh : (ops_part0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations touch only buffers of the device. -/
theorem ops_part0_4_sub : (ops_part0_4 : List (HloOp τ sig (Elt F))).Forall fun op => op.bufs ⊆ tcRefs τ sig :=
  ⟨unary_bufs_sub .., unary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., unary_bufs_sub .., unary_bufs_sub .., ternary_bufs_sub .., binary_bufs_sub .., binary_bufs_sub .., unary_bufs_sub .., binary_bufs_sub .., reshape_bufs_sub .., binary_bufs_sub .., unary_bufs_sub ..⟩
set_option maxRecDepth 8192 in
/-- The operations draw no fresh buffer. -/
theorem ops_part0_4_fresh : (ops_part0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations touch only buffers of the device. -/
theorem ops_part0_5_sub : (ops_part0_5 : List (HloOp τ sig (Elt F))).Forall fun op => op.bufs ⊆ tcRefs τ sig :=
  ⟨unary_bufs_sub .., unary_bufs_sub .., binary_bufs_sub .., unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub ..⟩
set_option maxRecDepth 8192 in
/-- The operations draw no fresh buffer. -/
theorem ops_part0_5_fresh : (ops_part0_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations touch only buffers of the device. -/
theorem ops_part0_6_sub : (ops_part0_6 : List (HloOp τ sig (Elt F))).Forall fun op => op.bufs ⊆ tcRefs τ sig :=
  ⟨binary_bufs_sub .., reshape_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub ..⟩
set_option maxRecDepth 8192 in
/-- The operations draw no fresh buffer. -/
theorem ops_part0_6_fresh : (ops_part0_6 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
/-- The operations touch only buffers of the device. -/
theorem ops_part1_sub : (ops_part1 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., reshape_bufs_sub .., binary_bufs_sub ..⟩
set_option maxRecDepth 8192 in
/-- The operations draw no fresh buffer. -/
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The operations touch only buffers of the device. -/
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part0_4_sub op h, List.forall_iff_forall_mem.mp ops_part0_5_sub op h, List.forall_iff_forall_mem.mp ops_part0_6_sub op h, List.forall_iff_forall_mem.mp ops_part1_sub op h]
/-- The operations draw no fresh buffer. -/
theorem ops_fresh : ∀ op ∈ (ops : List (HloOp τ sig (Elt F))), op.fresh = ∅ := fun op h => by
    simp only [ops, ops_part0, List.mem_append, or_assoc] at h
    rcases h with h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part0_4_fresh op h, List.forall_iff_forall_mem.mp ops_part0_5_fresh op h, List.forall_iff_forall_mem.mp ops_part0_6_fresh op h, List.forall_iff_forall_mem.mp ops_part1_fresh op h]
end Cert.ReferenceIdeal.Hand

end

end
-- ==== Proof.Ref.Run.lean ====
/- What every buffer of the reference ends at, and its run. -/
module

public import proofs.«01_k».proof.Proof.Ref.Ops
public import Idealize.ShloMosaic.Lib.StableHlo.Run
public import Idealize.ShloMosaic.Lib.Pipeline.Frame

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_call0_v9`'s composed term of the arguments (named: it is used 3 times). -/
def res_main_call0_v9 (V0 : Valuation τ sig (Elt F)) : (Proc.devRef .tc main_call0_v9 : DevRef τ sig).ty.Contents (Elt F) :=
  subf (subf (mulf (addf (sitofp .f32 (iotaInDim S24 32 0)) (broadcastInDim S24 ![] bcast_S_S24 (constant S_ .f32 0x3F000000#32))) (broadcastInDim S24 ![] bcast_S_S24 (constant S_ .f32 0x41800000#32))) (broadcastInDim S24 ![] bcast_S_S24 (constant S_ .f32 0x00000000#32))) (broadcastInDim S24 ![] bcast_S_S24 (constant S_ .f32 0x3F000000#32))

set_option maxRecDepth 8192 in
/-- `main_call0_v24`'s composed term of the arguments (named: it is used 2 times). -/
def res_main_call0_v24 (V0 : Valuation τ sig (Elt F)) : (Proc.devRef .tc main_call0_v24 : DevRef τ sig).ty.Contents (Elt F) :=
  maximumf (broadcastInDim S384x24 ![] bcast_S_S384x24 (constant S_ .f32 0x00000000#32)) (subf (broadcastInDim S384x24 ![] bcast_S_S384x24 (constant S_ .f32 0x3F800000#32)) (Host.absf (Host.divf (Host.absf (subf (broadcastInDim S384x24 ![0, 1] bcast_S1x24_S384x24_0_1 (broadcastInDim S1x24 ![1] bcast_S24_S1x24_1 (res_main_call0_v9 V0))) (broadcastInDim S384x24 ![0, 1] bcast_S384x1_S384x24_0_1 (broadcastInDim S384x1 ![0] bcast_S384_S384x1_0 (sitofp .f32 (iotaInDim S384 32 0)))))) (broadcastInDim S384x24 ![] bcast_S_S384x24 (id (maximumf (constant S_ .f32 0x41800000#32) (constant S_ .f32 0x3F800000#32)))))))

set_option maxRecDepth 8192 in
/-- `main_call0_v26`'s composed term of the arguments (named: it is used 3 times). -/
def res_main_call0_v26 (V0 : Valuation τ sig (Elt F)) : (Proc.devRef .tc main_call0_v26 : DevRef τ sig).ty.Contents (Elt F) :=
  broadcastInDim S1x24 ![1] bcast_S24_S1x24_1 (Host.reduceAdd (res_main_call0_v24 V0) (constant S_ .f32 0x00000000#32) reducesTo_S384x24_S24_d0 h_S_)

set_option maxRecDepth 8192 in
/-- `main_call0_v52`'s composed term of the arguments (named: it is used 3 times). -/
def res_main_call0_v52 (V0 : Valuation τ sig (Elt F)) : (Proc.devRef .tc main_call0_v52 : DevRef τ sig).ty.Contents (Elt F) :=
  subf (subf (mulf (addf (sitofp .f32 (iotaInDim S24 32 0)) (broadcastInDim S24 ![] bcast_S_S24 (constant S_ .f32 0x3F000000#32))) (broadcastInDim S24 ![] bcast_S_S24 (constant S_ .f32 0x41800000#32))) (broadcastInDim S24 ![] bcast_S_S24 (constant S_ .f32 0x00000000#32))) (broadcastInDim S24 ![] bcast_S_S24 (constant S_ .f32 0x3F000000#32))

set_option maxRecDepth 8192 in
/-- `main_call0_v67`'s composed term of the arguments (named: it is used 2 times). -/
def res_main_call0_v67 (V0 : Valuation τ sig (Elt F)) : (Proc.devRef .tc main_call0_v67 : DevRef τ sig).ty.Contents (Elt F) :=
  maximumf (broadcastInDim S384x24 ![] bcast_S_S384x24 (constant S_ .f32 0x00000000#32)) (subf (broadcastInDim S384x24 ![] bcast_S_S384x24 (constant S_ .f32 0x3F800000#32)) (Host.absf (Host.divf (Host.absf (subf (broadcastInDim S384x24 ![0, 1] bcast_S1x24_S384x24_0_1 (broadcastInDim S1x24 ![1] bcast_S24_S1x24_1 (res_main_call0_v52 V0))) (broadcastInDim S384x24 ![0, 1] bcast_S384x1_S384x24_0_1 (broadcastInDim S384x1 ![0] bcast_S384_S384x1_0 (sitofp .f32 (iotaInDim S384 32 0)))))) (broadcastInDim S384x24 ![] bcast_S_S384x24 (id (maximumf (constant S_ .f32 0x41800000#32) (constant S_ .f32 0x3F800000#32)))))))

set_option maxRecDepth 8192 in
/-- `main_call0_v69`'s composed term of the arguments (named: it is used 3 times). -/
def res_main_call0_v69 (V0 : Valuation τ sig (Elt F)) : (Proc.devRef .tc main_call0_v69 : DevRef τ sig).ty.Contents (Elt F) :=
  broadcastInDim S1x24 ![1] bcast_S24_S1x24_1 (Host.reduceAdd (res_main_call0_v67 V0) (constant S_ .f32 0x00000000#32) reducesTo_S384x24_S24_d0 h_S_)

set_option maxRecDepth 8192 in
/-- `main_v8`'s composed term of the arguments (named: it is used 4 times). -/
def res_main_v8 (V0 : Valuation τ sig (Elt F)) : (Proc.devRef .tc main_v8 : DevRef τ sig).ty.Contents (Elt F) :=
  transpose S4x5x24x24 [1, 2, 0, 3] (Host.dotGeneral dot_S24x4x5x384_S384x24_S24x4x5x24_3_0_012_1_n_n (some .fp32) (Host.dotGeneral dot_S384x24_S4x5x384x384_S24x4x5x384_0_2_1_013_n_n (some .fp32) (select (broadcastInDim S384x24 ![0, 1] bcast_S1x24_S384x24_0_1 (broadcastInDim S1x24 ![1] bcast_S24_S1x24_1 (andi (cmpf .oge (res_main_call0_v9 V0) (broadcastInDim S24 ![] bcast_S_S24 (constant S_ .f32 0xBF000000#32))) (cmpf .ole (res_main_call0_v9 V0) (broadcastInDim S24 ![] bcast_S_S24 (constant S_ .f32 0x43BFC000#32)))))) (select (broadcastInDim S384x24 ![0, 1] bcast_S1x24_S384x24_0_1 (cmpf .ogt (Host.absf (res_main_call0_v26 V0)) (broadcastInDim S1x24 ![] bcast_S_S1x24 (constant S_ .f32 0x38FA0000#32)))) (Host.divf (res_main_call0_v24 V0) (broadcastInDim S384x24 ![0, 1] bcast_S1x24_S384x24_0_1 (select (cmpf .une (res_main_call0_v26 V0) (broadcastInDim S1x24 ![] bcast_S_S1x24 (constant S_ .f32 0x00000000#32))) (res_main_call0_v26 V0) (broadcastInDim S1x24 ![] bcast_S_S1x24 (sitofp .f32 (constantI S_ 32 1#32)))))) (broadcastInDim S384x24 ![] bcast_S_S384x24 (sitofp .f32 (constantI S_ 32 0#32)))) (broadcastInDim S384x24 ![] bcast_S_S384x24 (sitofp .f32 (constantI S_ 32 0#32)))) (V0 (Proc.devRef .tc main_arg1))) (select (broadcastInDim S384x24 ![0, 1] bcast_S1x24_S384x24_0_1 (broadcastInDim S1x24 ![1] bcast_S24_S1x24_1 (andi (cmpf .oge (res_main_call0_v52 V0) (broadcastInDim S24 ![] bcast_S_S24 (constant S_ .f32 0xBF000000#32))) (cmpf .ole (res_main_call0_v52 V0) (broadcastInDim S24 ![] bcast_S_S24 (constant S_ .f32 0x43BFC000#32)))))) (select (broadcastInDim S384x24 ![0, 1] bcast_S1x24_S384x24_0_1 (cmpf .ogt (Host.absf (res_main_call0_v69 V0)) (broadcastInDim S1x24 ![] bcast_S_S1x24 (constant S_ .f32 0x38FA0000#32)))) (Host.divf (res_main_call0_v67 V0) (broadcastInDim S384x24 ![0, 1] bcast_S1x24_S384x24_0_1 (select (cmpf .une (res_main_call0_v69 V0) (broadcastInDim S1x24 ![] bcast_S_S1x24 (constant S_ .f32 0x00000000#32))) (res_main_call0_v69 V0) (broadcastInDim S1x24 ![] bcast_S_S1x24 (sitofp .f32 (constantI S_ 32 1#32)))))) (broadcastInDim S384x24 ![] bcast_S_S384x24 (sitofp .f32 (constantI S_ 32 0#32)))) (broadcastInDim S384x24 ![] bcast_S_S384x24 (sitofp .f32 (constantI S_ 32 0#32))))) transposes_S24x4x5x24_S4x5x24x24_1_2_0_3

set_option maxRecDepth 8192 in
/-- `main_v17`'s composed term of the arguments (named: it is used 3 times). -/
def res_main_v17 (V0 : Valuation τ sig (Elt F)) : (Proc.devRef .tc main_v17 : DevRef τ sig).ty.Contents (Elt F) :=
  shapeCast _ (transpose S4x24x24x384 [0, 2, 3, 1] (addf (transpose S4x384x24x24 [1, 0, 2, 3] (Host.dotGeneral dot_S384x389_S4x389x24x24_S384x4x24x24_1_1_0_023_n_n none (shapeCast _ (V0 (Proc.devRef .tc main_arg4)) shapeCasts_S384x389x1x1_S384x389) (concatenate S4x389x24x24 1 [⟨S4x384x24x24, (maximumf (addf (transpose S4x384x24x24 [1, 0, 2, 3] (Host.dotGeneral dot_S384x3x16x16_S4x3x24x16x24x16_S384x4x24x24_123_135_0_024_n_n none (V0 (Proc.devRef .tc main_arg2)) (shapeCast _ (V0 (Proc.devRef .tc main_arg0)) shapeCasts_S4x3x384x384_S4x3x24x16x24x16)) transposes_S384x4x24x24_S4x384x24x24_1_0_2_3) (broadcastInDim S4x384x24x24 ![0, 1, 2, 3] bcast_S1x384x1x1_S4x384x24x24_0_1_2_3 (broadcastInDim S1x384x1x1 ![1] bcast_S384_S1x384x1x1_1 (V0 (Proc.devRef .tc main_arg3))))) (broadcastInDim S4x384x24x24 ![] bcast_S_S4x384x24x24 (constant S_ .f32 0x00000000#32)))⟩, ⟨S4x5x24x24, (res_main_v8 V0)⟩] concatenates_S4x384x24x24_S4x5x24x24_S4x389x24x24_d1)) transposes_S384x4x24x24_S4x384x24x24_1_0_2_3) (broadcastInDim S4x384x24x24 ![0, 1, 2, 3] bcast_S1x384x1x1_S4x384x24x24_0_1_2_3 (broadcastInDim S1x384x1x1 ![1] bcast_S384_S1x384x1x1_1 (V0 (Proc.devRef .tc main_arg5))))) transposes_S4x384x24x24_S4x24x24x384_0_2_3_1) shapeCasts_S4x24x24x384_S2304x384

set_option maxRecDepth 8192 in
/-- The first result, the smallest distance, as a term of the arguments. -/
def res_main_v38 (V0 : Valuation τ sig (Elt F)) : (Proc.devRef .tc main_v38 : DevRef τ sig).ty.Contents (Elt F) :=
  shapeCast _ (Host.reduce FloatOps.minimumf (Host.sqrt (addf (maximumf (subf (addf (broadcastInDim S2304x9216 ![0, 1] bcast_S2304x1_S2304x9216_0_1 (broadcastInDim S2304x1 ![0] bcast_S2304_S2304x1_0 (Host.reduceAdd (mulf (res_main_v17 V0) (res_main_v17 V0)) (constant S_ .f32 0x00000000#32) reducesTo_S2304x384_S2304_d1 h_S_))) (broadcastInDim S2304x9216 ![0, 1] bcast_S1x9216_S2304x9216_0_1 (broadcastInDim S1x9216 ![1] bcast_S9216_S1x9216_1 (Host.reduceAdd (mulf (V0 (Proc.devRef .tc main_arg6)) (V0 (Proc.devRef .tc main_arg6))) (constant S_ .f32 0x00000000#32) reducesTo_S9216x384_S9216_d1 h_S_)))) (mulf (broadcastInDim S2304x9216 ![] bcast_S_S2304x9216 (constant S_ .f32 0x40000000#32)) (Host.dotGeneral dot_S2304x384_S384x9216_S2304x9216_1_0_0_1_n_n none (res_main_v17 V0) (transpose S384x9216 [1, 0] (V0 (Proc.devRef .tc main_arg6)) transposes_S9216x384_S384x9216_1_0)))) (broadcastInDim S2304x9216 ![] bcast_S_S2304x9216 (constant S_ .f32 0x00000000#32))) (broadcastInDim S2304x9216 ![] bcast_S_S2304x9216 (constant S_ .f32 0x2B8CBCCC#32)))) (constant S_ .f32 0x7F800000#32) reducesTo_S2304x9216_S2304_d1 h_S_) shapeCasts_S2304_S4x24x24

set_option maxRecDepth 8192 in
/-- The second result, the weighted distance, as a term of the arguments. -/
def res_main_v65 (V0 : Valuation τ sig (Elt F)) : (Proc.devRef .tc main_v65 : DevRef τ sig).ty.Contents (Elt F) :=
  mulf (res_main_v38 V0) (shapeCast _ (addf (broadcastInDim S4x1x24x24 ![] bcast_S_S4x1x24x24 (constant S_ .f32 0x3F800000#32)) (Host.divf (broadcastInDim S4x1x24x24 ![] bcast_S_S4x1x24x24 (constant S_ .f32 0x3F800000#32)) (addf (broadcastInDim S4x1x24x24 ![] bcast_S_S4x1x24x24 (constant S_ .f32 0x3F800000#32)) (Host.exp (Host.negf (mulf (broadcastInDim S4x1x24x24 ![] bcast_S_S4x1x24x24 (constant S_ .f32 0x40800000#32)) (subf (addf (addf (mulf (broadcastInDim S4x1x24x24 ![] bcast_S_S4x1x24x24 (constant S_ .f32 0x3F000000#32)) (extractStridedSlice S4x1x24x24 ![0, 3, 0, 0] (res_main_v8 V0) slices_S4x5x24x24_S4x1x24x24_0_3_0_0)) (mulf (broadcastInDim S4x1x24x24 ![] bcast_S_S4x1x24x24 (constant S_ .f32 0x3E800000#32)) (subf (broadcastInDim S4x1x24x24 ![] bcast_S_S4x1x24x24 (constant S_ .f32 0x3F800000#32)) (extractStridedSlice S4x1x24x24 ![0, 2, 0, 0] (res_main_v8 V0) slices_S4x5x24x24_S4x1x24x24_0_2_0_0)))) (mulf (broadcastInDim S4x1x24x24 ![] bcast_S_S4x1x24x24 (constant S_ .f32 0x3E800000#32)) (extractStridedSlice S4x1x24x24 ![0, 4, 0, 0] (res_main_v8 V0) slices_S4x5x24x24_S4x1x24x24_0_4_0_0))) (broadcastInDim S4x1x24x24 ![] bcast_S_S4x1x24x24 (constant S_ .f32 0x3F000000#32))))))))) shapeCasts_S4x1x24x24_S4x24x24)

/-- The device's buffer contents before @main's first window. -/
def val0 (V0 : Valuation τ sig (Elt F)) : Valuation τ sig (Elt F) := V0
/-- Argument 0 is unchanged at this point of the reference. -/
theorem val0_main_arg0 (V0 : Valuation τ sig (Elt F)) : val0 V0 (no_index (Proc.devRef .tc main_arg0)) = V0 (Proc.devRef .tc main_arg0) := rfl
/-- Argument 1 is unchanged at this point of the reference. -/
theorem val0_main_arg1 (V0 : Valuation τ sig (Elt F)) : val0 V0 (no_index (Proc.devRef .tc main_arg1)) = V0 (Proc.devRef .tc main_arg1) := rfl
/-- Argument 2 is unchanged at this point of the reference. -/
theorem val0_main_arg2 (V0 : Valuation τ sig (Elt F)) : val0 V0 (no_index (Proc.devRef .tc main_arg2)) = V0 (Proc.devRef .tc main_arg2) := rfl
/-- Argument 3 is unchanged at this point of the reference. -/
theorem val0_main_arg3 (V0 : Valuation τ sig (Elt F)) : val0 V0 (no_index (Proc.devRef .tc main_arg3)) = V0 (Proc.devRef .tc main_arg3) := rfl
/-- Argument 4 is unchanged at this point of the reference. -/
theorem val0_main_arg4 (V0 : Valuation τ sig (Elt F)) : val0 V0 (no_index (Proc.devRef .tc main_arg4)) = V0 (Proc.devRef .tc main_arg4) := rfl
/-- Argument 5 is unchanged at this point of the reference. -/
theorem val0_main_arg5 (V0 : Valuation τ sig (Elt F)) : val0 V0 (no_index (Proc.devRef .tc main_arg5)) = V0 (Proc.devRef .tc main_arg5) := rfl
/-- Argument 6 is unchanged at this point of the reference. -/
theorem val0_main_arg6 (V0 : Valuation τ sig (Elt F)) : val0 V0 (no_index (Proc.devRef .tc main_arg6)) = V0 (Proc.devRef .tc main_arg6) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_cst, main_v6, main_v7, main_call0_cst, main_call0_cst_0, main_call0_v0, main_call0_v1, main_call0_cst_1, main_call0_v2, main_call0_v3, main_call0_cst_2, main_call0_v4, main_call0_v5, main_call0_cst_3, main_call0_v6, main_call0_v7, main_call0_cst_4, main_call0_v8, main_call0_v9, main_call0_v10, main_call0_v11, main_call0_v12, main_call0_v13, main_call0_v14]
set_option maxRecDepth 8192 in
/-- The operations write only the buffers of this list. -/
theorem ops_part0_0_writes : (ops_part0_0 : List (HloOp τ sig (Elt F))).Forall fun op => op.writes ⊆ (ops_part0_0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
/-- Argument 0 is unchanged at this point of the reference. -/
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
/-- Argument 1 is unchanged at this point of the reference. -/
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
/-- Argument 2 is unchanged at this point of the reference. -/
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
/-- Argument 3 is unchanged at this point of the reference. -/
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
/-- Argument 4 is unchanged at this point of the reference. -/
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
/-- Argument 5 is unchanged at this point of the reference. -/
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
/-- Argument 6 is unchanged at this point of the reference. -/
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
set_option maxRecDepth 8192 in
set_option maxHeartbeats 2000000 in
/-- What a buffer used later on holds at this point of the reference. -/
theorem val0_1_main_v7 (V0 : Valuation τ sig (Elt F)) : val0_1 V0 (no_index (Proc.devRef .tc main_v7)) = maximumf (addf (transpose S4x384x24x24 [1, 0, 2, 3] (Host.dotGeneral dot_S384x3x16x16_S4x3x24x16x24x16_S384x4x24x24_123_135_0_024_n_n none (V0 (Proc.devRef .tc main_arg2)) (shapeCast _ (V0 (Proc.devRef .tc main_arg0)) shapeCasts_S4x3x384x384_S4x3x24x16x24x16)) transposes_S384x4x24x24_S4x384x24x24_1_0_2_3) (broadcastInDim S4x384x24x24 ![0, 1, 2, 3] bcast_S1x384x1x1_S4x384x24x24_0_1_2_3 (broadcastInDim S1x384x1x1 ![1] bcast_S384_S1x384x1x1_1 (V0 (Proc.devRef .tc main_arg3))))) (broadcastInDim S4x384x24x24 ![] bcast_S_S4x384x24x24 (constant S_ .f32 0x00000000#32)) := by
  unfold val0_1
  simp only [ops_part0_0, TRef.binary, TRef.nullary, TRef.unary, TRef.toBuf, TRef.ofBuf, cast_eq]
  after_results_simp
  simp only [val0_main_arg3, val0_main_arg0, val0_main_arg2] <;> rfl
set_option maxRecDepth 8192 in
set_option maxHeartbeats 2000000 in
/-- What a buffer used later on holds at this point of the reference. -/
theorem val0_1_main_call0_v0 (V0 : Valuation τ sig (Elt F)) : val0_1 V0 (no_index (Proc.devRef .tc main_call0_v0)) = maximumf (constant S_ .f32 0x41800000#32) (constant S_ .f32 0x3F800000#32) := by
  unfold val0_1
  simp only [ops_part0_0, TRef.binary, TRef.nullary, TRef.unary, TRef.toBuf, TRef.ofBuf, cast_eq]
  after_results_simp
  all_goals rfl
set_option maxRecDepth 8192 in
set_option maxHeartbeats 2000000 in
/-- What a buffer used later on holds at this point of the reference. -/
theorem val0_1_main_call0_v9 (V0 : Valuation τ sig (Elt F)) : val0_1 V0 (no_index (Proc.devRef .tc main_call0_v9)) = res_main_call0_v9 V0 := by
  unfold val0_1
  simp only [ops_part0_0, TRef.binary, TRef.nullary, TRef.unary, TRef.toBuf, TRef.ofBuf, cast_eq]
  after_results_simp
  all_goals rfl
set_option maxRecDepth 8192 in
set_option maxHeartbeats 2000000 in
/-- What a buffer used later on holds at this point of the reference. -/
theorem val0_1_main_call0_v13 (V0 : Valuation τ sig (Elt F)) : val0_1 V0 (no_index (Proc.devRef .tc main_call0_v13)) = broadcastInDim S384x24 ![0, 1] bcast_S1x24_S384x24_0_1 (broadcastInDim S1x24 ![1] bcast_S24_S1x24_1 (res_main_call0_v9 V0)) := by
  unfold val0_1
  simp only [ops_part0_0, TRef.binary, TRef.nullary, TRef.unary, TRef.toBuf, TRef.ofBuf, cast_eq]
  after_results_simp
  all_goals rfl
set_option maxRecDepth 8192 in
set_option maxHeartbeats 2000000 in
/-- What a buffer used later on holds at this point of the reference. -/
theorem val0_1_main_call0_v14 (V0 : Valuation τ sig (Elt F)) : val0_1 V0 (no_index (Proc.devRef .tc main_call0_v14)) = broadcastInDim S384x24 ![0, 1] bcast_S384x1_S384x24_0_1 (broadcastInDim S384x1 ![0] bcast_S384_S384x1_0 (sitofp .f32 (iotaInDim S384 32 0))) := by
  unfold val0_1
  simp only [ops_part0_0, TRef.binary, TRef.nullary, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call0_v15, main_call0_v16, main_call0_v17, main_call0_v18, main_call0_v19, main_call0_v20, main_call0_cst_5, main_call0_v21, main_call0_v22, main_call0_cst_6, main_call0_v23, main_call0_v24, main_call0_cst_7, main_call0_v25, main_call0_v26, main_call0_v27, main_call0_cst_8, main_call0_v28, main_call0_v29, main_call0_cst_9, main_call0_v30, main_call0_v31, main_call0_c, main_call0_call0_v0, main_call0_call0_v1, main_call0_v32, main_call0_v33, main_call0_v34, main_call0_c_10, main_call0_call1_v0]
set_option maxRecDepth 8192 in
/-- The operations write only the buffers of this list. -/
theorem ops_part0_1_writes : (ops_part0_1 : List (HloOp τ sig (Elt F))).Forall fun op => op.writes ⊆ (ops_part0_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
/-- Argument 0 is unchanged at this point of the reference. -/
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
/-- Argument 1 is unchanged at this point of the reference. -/
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
/-- Argument 2 is unchanged at this point of the reference. -/
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
/-- Argument 3 is unchanged at this point of the reference. -/
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
/-- Argument 4 is unchanged at this point of the reference. -/
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
/-- Argument 5 is unchanged at this point of the reference. -/
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
/-- Argument 6 is unchanged at this point of the reference. -/
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
/-- What a buffer used later on holds at this point of the reference. -/
theorem val0_2_main_v7 (V0 : Valuation τ sig (Elt F)) : val0_2 V0 (no_index (Proc.devRef .tc main_v7)) = maximumf (addf (transpose S4x384x24x24 [1, 0, 2, 3] (Host.dotGeneral dot_S384x3x16x16_S4x3x24x16x24x16_S384x4x24x24_123_135_0_024_n_n none (V0 (Proc.devRef .tc main_arg2)) (shapeCast _ (V0 (Proc.devRef .tc main_arg0)) shapeCasts_S4x3x384x384_S4x3x24x16x24x16)) transposes_S384x4x24x24_S4x384x24x24_1_0_2_3) (broadcastInDim S4x384x24x24 ![0, 1, 2, 3] bcast_S1x384x1x1_S4x384x24x24_0_1_2_3 (broadcastInDim S1x384x1x1 ![1] bcast_S384_S1x384x1x1_1 (V0 (Proc.devRef .tc main_arg3))))) (broadcastInDim S4x384x24x24 ![] bcast_S_S4x384x24x24 (constant S_ .f32 0x00000000#32)) :=
  (val0_2_keep V0 main_v7 (by decide)).trans (val0_1_main_v7 V0)
/-- What a buffer used later on holds at this point of the reference. -/
theorem val0_2_main_call0_v9 (V0 : Valuation τ sig (Elt F)) : val0_2 V0 (no_index (Proc.devRef .tc main_call0_v9)) = res_main_call0_v9 V0 :=
  (val0_2_keep V0 main_call0_v9 (by decide)).trans (val0_1_main_call0_v9 V0)
set_option maxRecDepth 8192 in
set_option maxHeartbeats 2000000 in
/-- What a buffer used later on holds at this point of the reference. -/
theorem val0_2_main_call0_v29 (V0 : Valuation τ sig (Elt F)) : val0_2 V0 (no_index (Proc.devRef .tc main_call0_v29)) = cmpf .ogt (Host.absf (res_main_call0_v26 V0)) (broadcastInDim S1x24 ![] bcast_S_S1x24 (constant S_ .f32 0x38FA0000#32)) := by
  unfold val0_2
  simp only [ops_part0_1, TRef.binary, TRef.nullary, TRef.ternary, TRef.unary, TRef.toBuf, TRef.ofBuf, cast_eq]
  after_results_simp
  simp only [val0_1_main_call0_v0, val0_1_main_call0_v14, val0_1_main_call0_v13] <;> rfl
set_option maxRecDepth 8192 in
set_option maxHeartbeats 2000000 in
/-- What a buffer used later on holds at this point of the reference. -/
theorem val0_2_main_call0_v34 (V0 : Valuation τ sig (Elt F)) : val0_2 V0 (no_index (Proc.devRef .tc main_call0_v34)) = Host.divf (res_main_call0_v24 V0) (broadcastInDim S384x24 ![0, 1] bcast_S1x24_S384x24_0_1 (select (cmpf .une (res_main_call0_v26 V0) (broadcastInDim S1x24 ![] bcast_S_S1x24 (constant S_ .f32 0x00000000#32))) (res_main_call0_v26 V0) (broadcastInDim S1x24 ![] bcast_S_S1x24 (sitofp .f32 (constantI S_ 32 1#32))))) := by
  unfold val0_2
  simp only [ops_part0_1, TRef.binary, TRef.nullary, TRef.ternary, TRef.unary, TRef.toBuf, TRef.ofBuf, cast_eq]
  after_results_simp
  simp only [val0_1_main_call0_v0, val0_1_main_call0_v14, val0_1_main_call0_v13] <;> rfl
set_option maxRecDepth 8192 in
set_option maxHeartbeats 2000000 in
/-- What a buffer used later on holds at this point of the reference. -/
theorem val0_2_main_call0_call1_v0 (V0 : Valuation τ sig (Elt F)) : val0_2 V0 (no_index (Proc.devRef .tc main_call0_call1_v0)) = sitofp .f32 (constantI S_ 32 0#32) := by
  unfold val0_2
  simp only [ops_part0_1, TRef.binary, TRef.nullary, TRef.ternary, TRef.unary, TRef.toBuf, TRef.ofBuf, cast_eq]
  after_results_simp
  all_goals rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_call0_call1_v1, main_call0_call1_v2, main_call0_v35, main_call0_cst_11, main_call0_v36, main_call0_v37, main_call0_cst_12, main_call0_v38, main_call0_v39, main_call0_v40, main_call0_v41, main_call0_c_13, main_call0_call2_v0, main_call0_call2_v1, main_call0_call2_v2, main_call0_v42, main_call0_cst_14, main_call0_cst_15, main_call0_v43, main_call0_v44, main_call0_cst_16, main_call0_v45, main_call0_v46, main_call0_cst_17, main_call0_v47, main_call0_v48, main_call0_cst_18, main_call0_v49, main_call0_v50, main_call0_cst_19]
set_option maxRecDepth 8192 in
/-- The operations write only the buffers of this list. -/
theorem ops_part0_2_writes : (ops_part0_2 : List (HloOp τ sig (Elt F))).Forall fun op => op.writes ⊆ (ops_part0_2_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
/-- Argument 0 is unchanged at this point of the reference. -/
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
/-- Argument 1 is unchanged at this point of the reference. -/
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
/-- Argument 2 is unchanged at this point of the reference. -/
theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)
/-- Argument 3 is unchanged at this point of the reference. -/
theorem val0_3_main_arg3 (V0 : Valuation τ sig (Elt F)) : val0_3 V0 (no_index (Proc.devRef .tc main_arg3)) = V0 (Proc.devRef .tc main_arg3) :=
  (val0_3_keep V0 main_arg3 (by decide)).trans (val0_2_main_arg3 V0)
/-- Argument 4 is unchanged at this point of the reference. -/
theorem val0_3_main_arg4 (V0 : Valuation τ sig (Elt F)) : val0_3 V0 (no_index (Proc.devRef .tc main_arg4)) = V0 (Proc.devRef .tc main_arg4) :=
  (val0_3_keep V0 main_arg4 (by decide)).trans (val0_2_main_arg4 V0)
/-- Argument 5 is unchanged at this point of the reference. -/
theorem val0_3_main_arg5 (V0 : Valuation τ sig (Elt F)) : val0_3 V0 (no_index (Proc.devRef .tc main_arg5)) = V0 (Proc.devRef .tc main_arg5) :=
  (val0_3_keep V0 main_arg5 (by decide)).trans (val0_2_main_arg5 V0)
/-- Argument 6 is unchanged at this point of the reference. -/
theorem val0_3_main_arg6 (V0 : Valuation τ sig (Elt F)) : val0_3 V0 (no_index (Proc.devRef .tc main_arg6)) = V0 (Proc.devRef .tc main_arg6) :=
  (val0_3_keep V0 main_arg6 (by decide)).trans (val0_2_main_arg6 V0)
/-- What a buffer used later on holds at this point of the reference. -/
theorem val0_3_main_v7 (V0 : Valuation τ sig (Elt F)) : val0_3 V0 (no_index (Proc.devRef .tc main_v7)) = maximumf (addf (transpose S4x384x24x24 [1, 0, 2, 3] (Host.dotGeneral dot_S384x3x16x16_S4x3x24x16x24x16_S384x4x24x24_123_135_0_024_n_n none (V0 (Proc.devRef .tc main_arg2)) (shapeCast _ (V0 (Proc.devRef .tc main_arg0)) shapeCasts_S4x3x384x384_S4x3x24x16x24x16)) transposes_S384x4x24x24_S4x384x24x24_1_0_2_3) (broadcastInDim S4x384x24x24 ![0, 1, 2, 3] bcast_S1x384x1x1_S4x384x24x24_0_1_2_3 (broadcastInDim S1x384x1x1 ![1] bcast_S384_S1x384x1x1_1 (V0 (Proc.devRef .tc main_arg3))))) (broadcastInDim S4x384x24x24 ![] bcast_S_S4x384x24x24 (constant S_ .f32 0x00000000#32)) :=
  (val0_3_keep V0 main_v7 (by decide)).trans (val0_2_main_v7 V0)
set_option maxRecDepth 8192 in
set_option maxHeartbeats 2000000 in
/-- What a buffer used later on holds at this point of the reference. -/
theorem val0_3_main_call0_v42 (V0 : Valuation τ sig (Elt F)) : val0_3 V0 (no_index (Proc.devRef .tc main_call0_v42)) = select (broadcastInDim S384x24 ![0, 1] bcast_S1x24_S384x24_0_1 (broadcastInDim S1x24 ![1] bcast_S24_S1x24_1 (andi (cmpf .oge (res_main_call0_v9 V0) (broadcastInDim S24 ![] bcast_S_S24 (constant S_ .f32 0xBF000000#32))) (cmpf .ole (res_main_call0_v9 V0) (broadcastInDim S24 ![] bcast_S_S24 (constant S_ .f32 0x43BFC000#32)))))) (select (broadcastInDim S384x24 ![0, 1] bcast_S1x24_S384x24_0_1 (cmpf .ogt (Host.absf (res_main_call0_v26 V0)) (broadcastInDim S1x24 ![] bcast_S_S1x24 (constant S_ .f32 0x38FA0000#32)))) (Host.divf (res_main_call0_v24 V0) (broadcastInDim S384x24 ![0, 1] bcast_S1x24_S384x24_0_1 (select (cmpf .une (res_main_call0_v26 V0) (broadcastInDim S1x24 ![] bcast_S_S1x24 (constant S_ .f32 0x00000000#32))) (res_main_call0_v26 V0) (broadcastInDim S1x24 ![] bcast_S_S1x24 (sitofp .f32 (constantI S_ 32 1#32)))))) (broadcastInDim S384x24 ![] bcast_S_S384x24 (sitofp .f32 (constantI S_ 32 0#32)))) (broadcastInDim S384x24 ![] bcast_S_S384x24 (sitofp .f32 (constantI S_ 32 0#32))) := by
  unfold val0_3
  simp only [ops_part0_2, TRef.binary, TRef.nullary, TRef.ternary, TRef.unary, TRef.toBuf, TRef.ofBuf, cast_eq]
  after_results_simp
  simp only [val0_2_main_call0_call1_v0, val0_2_main_call0_v34, val0_2_main_call0_v29, val0_2_main_call0_v9] <;> rfl
set_option maxRecDepth 8192 in
set_option maxHeartbeats 2000000 in
/-- What a buffer used later on holds at this point of the reference. -/
theorem val0_3_main_call0_v43 (V0 : Valuation τ sig (Elt F)) : val0_3 V0 (no_index (Proc.devRef .tc main_call0_v43)) = maximumf (constant S_ .f32 0x41800000#32) (constant S_ .f32 0x3F800000#32) := by
  unfold val0_3
  simp only [ops_part0_2, TRef.binary, TRef.nullary, TRef.ternary, TRef.unary, TRef.toBuf, TRef.ofBuf, cast_eq]
  after_results_simp
  all_goals rfl
set_option maxRecDepth 8192 in
set_option maxHeartbeats 2000000 in
/-- What a buffer used later on holds at this point of the reference. -/
theorem val0_3_main_call0_v50 (V0 : Valuation τ sig (Elt F)) : val0_3 V0 (no_index (Proc.devRef .tc main_call0_v50)) = subf (mulf (addf (sitofp .f32 (iotaInDim S24 32 0)) (broadcastInDim S24 ![] bcast_S_S24 (constant S_ .f32 0x3F000000#32))) (broadcastInDim S24 ![] bcast_S_S24 (constant S_ .f32 0x41800000#32))) (broadcastInDim S24 ![] bcast_S_S24 (constant S_ .f32 0x00000000#32)) := by
  unfold val0_3
  simp only [ops_part0_2, TRef.binary, TRef.nullary, TRef.ternary, TRef.unary, TRef.toBuf, TRef.ofBuf, cast_eq]
  after_results_simp
  all_goals rfl
set_option maxRecDepth 8192 in
set_option maxHeartbeats 2000000 in
/-- What a buffer used later on holds at this point of the reference. -/
theorem val0_3_main_call0_cst_19 (V0 : Valuation τ sig (Elt F)) : val0_3 V0 (no_index (Proc.devRef .tc main_call0_cst_19)) = constant S_ .f32 0x3F000000#32 := by
  unfold val0_3
  simp only [ops_part0_2, TRef.binary, TRef.nullary, TRef.ternary, TRef.unary, TRef.toBuf, TRef.ofBuf, cast_eq]
  after_results_simp
  all_goals rfl

/-- The device's buffer contents after @main's first 120 operations. -/
def val0_4 (V0 : Valuation τ sig (Elt F)) : Valuation τ sig (Elt F) := after ops_part0_3 (val0_3 V0)
/-- The buffers that window `ops_part0_3`'s operations write. -/
abbrev ops_part0_3_W : List (Ref sig .tc) := [main_call0_v51, main_call0_v52, main_call0_v53, main_call0_v54, main_call0_v55, main_call0_v56, main_call0_v57, main_call0_v58, main_call0_v59, main_call0_v60, main_call0_v61, main_call0_v62, main_call0_v63, main_call0_cst_20, main_call0_v64, main_call0_v65, main_call0_cst_21, main_call0_v66, main_call0_v67, main_call0_cst_22, main_call0_v68, main_call0_v69, main_call0_v70, main_call0_cst_23, main_call0_v71, main_call0_v72, main_call0_cst_24, main_call0_v73, main_call0_v74, main_call0_c_25]
set_option maxRecDepth 8192 in
/-- The operations write only the buffers of this list. -/
theorem ops_part0_3_writes : (ops_part0_3 : List (HloOp τ sig (Elt F))).Forall fun op => op.writes ⊆ (ops_part0_3_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_3` does not write keeps its contents through it. -/
theorem val0_4_keep (V0 : Valuation τ sig (Elt F)) (r : Ref sig .tc) (h : r ∉ ops_part0_3_W) :
    val0_4 V0 (Proc.devRef .tc r) = val0_3 V0 (Proc.devRef .tc r) :=
  after_of_writes_sub ops_part0_3 _ ops_part0_3_writes h
/-- Argument 0 is unchanged at this point of the reference. -/
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
/-- Argument 1 is unchanged at this point of the reference. -/
theorem val0_4_main_arg1 (V0 : Valuation τ sig (Elt F)) : val0_4 V0 (no_index (Proc.devRef .tc main_arg1)) = V0 (Proc.devRef .tc main_arg1) :=
  (val0_4_keep V0 main_arg1 (by decide)).trans (val0_3_main_arg1 V0)
/-- Argument 2 is unchanged at this point of the reference. -/
theorem val0_4_main_arg2 (V0 : Valuation τ sig (Elt F)) : val0_4 V0 (no_index (Proc.devRef .tc main_arg2)) = V0 (Proc.devRef .tc main_arg2) :=
  (val0_4_keep V0 main_arg2 (by decide)).trans (val0_3_main_arg2 V0)
/-- Argument 3 is unchanged at this point of the reference. -/
theorem val0_4_main_arg3 (V0 : Valuation τ sig (Elt F)) : val0_4 V0 (no_index (Proc.devRef .tc main_arg3)) = V0 (Proc.devRef .tc main_arg3) :=
  (val0_4_keep V0 main_arg3 (by decide)).trans (val0_3_main_arg3 V0)
/-- Argument 4 is unchanged at this point of the reference. -/
theorem val0_4_main_arg4 (V0 : Valuation τ sig (Elt F)) : val0_4 V0 (no_index (Proc.devRef .tc main_arg4)) = V0 (Proc.devRef .tc main_arg4) :=
  (val0_4_keep V0 main_arg4 (by decide)).trans (val0_3_main_arg4 V0)
/-- Argument 5 is unchanged at this point of the reference. -/
theorem val0_4_main_arg5 (V0 : Valuation τ sig (Elt F)) : val0_4 V0 (no_index (Proc.devRef .tc main_arg5)) = V0 (Proc.devRef .tc main_arg5) :=
  (val0_4_keep V0 main_arg5 (by decide)).trans (val0_3_main_arg5 V0)
/-- Argument 6 is unchanged at this point of the reference. -/
theorem val0_4_main_arg6 (V0 : Valuation τ sig (Elt F)) : val0_4 V0 (no_index (Proc.devRef .tc main_arg6)) = V0 (Proc.devRef .tc main_arg6) :=
  (val0_4_keep V0 main_arg6 (by decide)).trans (val0_3_main_arg6 V0)
/-- What a buffer used later on holds at this point of the reference. -/
theorem val0_4_main_v7 (V0 : Valuation τ sig (Elt F)) : val0_4 V0 (no_index (Proc.devRef .tc main_v7)) = maximumf (addf (transpose S4x384x24x24 [1, 0, 2, 3] (Host.dotGeneral dot_S384x3x16x16_S4x3x24x16x24x16_S384x4x24x24_123_135_0_024_n_n none (V0 (Proc.devRef .tc main_arg2)) (shapeCast _ (V0 (Proc.devRef .tc main_arg0)) shapeCasts_S4x3x384x384_S4x3x24x16x24x16)) transposes_S384x4x24x24_S4x384x24x24_1_0_2_3) (broadcastInDim S4x384x24x24 ![0, 1, 2, 3] bcast_S1x384x1x1_S4x384x24x24_0_1_2_3 (broadcastInDim S1x384x1x1 ![1] bcast_S384_S1x384x1x1_1 (V0 (Proc.devRef .tc main_arg3))))) (broadcastInDim S4x384x24x24 ![] bcast_S_S4x384x24x24 (constant S_ .f32 0x00000000#32)) :=
  (val0_4_keep V0 main_v7 (by decide)).trans (val0_3_main_v7 V0)
/-- What a buffer used later on holds at this point of the reference. -/
theorem val0_4_main_call0_v42 (V0 : Valuation τ sig (Elt F)) : val0_4 V0 (no_index (Proc.devRef .tc main_call0_v42)) = select (broadcastInDim S384x24 ![0, 1] bcast_S1x24_S384x24_0_1 (broadcastInDim S1x24 ![1] bcast_S24_S1x24_1 (andi (cmpf .oge (res_main_call0_v9 V0) (broadcastInDim S24 ![] bcast_S_S24 (constant S_ .f32 0xBF000000#32))) (cmpf .ole (res_main_call0_v9 V0) (broadcastInDim S24 ![] bcast_S_S24 (constant S_ .f32 0x43BFC000#32)))))) (select (broadcastInDim S384x24 ![0, 1] bcast_S1x24_S384x24_0_1 (cmpf .ogt (Host.absf (res_main_call0_v26 V0)) (broadcastInDim S1x24 ![] bcast_S_S1x24 (constant S_ .f32 0x38FA0000#32)))) (Host.divf (res_main_call0_v24 V0) (broadcastInDim S384x24 ![0, 1] bcast_S1x24_S384x24_0_1 (select (cmpf .une (res_main_call0_v26 V0) (broadcastInDim S1x24 ![] bcast_S_S1x24 (constant S_ .f32 0x00000000#32))) (res_main_call0_v26 V0) (broadcastInDim S1x24 ![] bcast_S_S1x24 (sitofp .f32 (constantI S_ 32 1#32)))))) (broadcastInDim S384x24 ![] bcast_S_S384x24 (sitofp .f32 (constantI S_ 32 0#32)))) (broadcastInDim S384x24 ![] bcast_S_S384x24 (sitofp .f32 (constantI S_ 32 0#32))) :=
  (val0_4_keep V0 main_call0_v42 (by decide)).trans (val0_3_main_call0_v42 V0)
set_option maxRecDepth 8192 in
set_option maxHeartbeats 2000000 in
/-- What a buffer used later on holds at this point of the reference. -/
theorem val0_4_main_call0_v52 (V0 : Valuation τ sig (Elt F)) : val0_4 V0 (no_index (Proc.devRef .tc main_call0_v52)) = res_main_call0_v52 V0 := by
  unfold val0_4
  simp only [ops_part0_3, TRef.binary, TRef.nullary, TRef.unary, TRef.toBuf, TRef.ofBuf, cast_eq]
  after_results_simp
  simp only [val0_3_main_call0_cst_19, val0_3_main_call0_v50] <;> rfl
set_option maxRecDepth 8192 in
set_option maxHeartbeats 2000000 in
/-- What a buffer used later on holds at this point of the reference. -/
theorem val0_4_main_call0_v67 (V0 : Valuation τ sig (Elt F)) : val0_4 V0 (no_index (Proc.devRef .tc main_call0_v67)) = res_main_call0_v67 V0 := by
  unfold val0_4
  simp only [ops_part0_3, TRef.binary, TRef.nullary, TRef.unary, TRef.toBuf, TRef.ofBuf, cast_eq]
  after_results_simp
  simp only [val0_3_main_call0_v43, val0_3_main_call0_cst_19, val0_3_main_call0_v50] <;> rfl
set_option maxRecDepth 8192 in
set_option maxHeartbeats 2000000 in
/-- What a buffer used later on holds at this point of the reference. -/
theorem val0_4_main_call0_v69 (V0 : Valuation τ sig (Elt F)) : val0_4 V0 (no_index (Proc.devRef .tc main_call0_v69)) = res_main_call0_v69 V0 := by
  unfold val0_4
  simp only [ops_part0_3, TRef.binary, TRef.nullary, TRef.unary, TRef.toBuf, TRef.ofBuf, cast_eq]
  after_results_simp
  simp only [val0_3_main_call0_v43, val0_3_main_call0_cst_19, val0_3_main_call0_v50] <;> rfl
set_option maxRecDepth 8192 in
set_option maxHeartbeats 2000000 in
/-- What a buffer used later on holds at this point of the reference. -/
theorem val0_4_main_call0_v72 (V0 : Valuation τ sig (Elt F)) : val0_4 V0 (no_index (Proc.devRef .tc main_call0_v72)) = cmpf .ogt (Host.absf (res_main_call0_v69 V0)) (broadcastInDim S1x24 ![] bcast_S_S1x24 (constant S_ .f32 0x38FA0000#32)) := by
  unfold val0_4
  simp only [ops_part0_3, TRef.binary, TRef.nullary, TRef.unary, TRef.toBuf, TRef.ofBuf, cast_eq]
  after_results_simp
  simp only [val0_3_main_call0_v43, val0_3_main_call0_cst_19, val0_3_main_call0_v50] <;> rfl
set_option maxRecDepth 8192 in
set_option maxHeartbeats 2000000 in
/-- What a buffer used later on holds at this point of the reference. -/
theorem val0_4_main_call0_v74 (V0 : Valuation τ sig (Elt F)) : val0_4 V0 (no_index (Proc.devRef .tc main_call0_v74)) = cmpf .une (res_main_call0_v69 V0) (broadcastInDim S1x24 ![] bcast_S_S1x24 (constant S_ .f32 0x00000000#32)) := by
  unfold val0_4
  simp only [ops_part0_3, TRef.binary, TRef.nullary, TRef.unary, TRef.toBuf, TRef.ofBuf, cast_eq]
  after_results_simp
  simp only [val0_3_main_call0_v43, val0_3_main_call0_cst_19, val0_3_main_call0_v50] <;> rfl
set_option maxRecDepth 8192 in
set_option maxHeartbeats 2000000 in
/-- What a buffer used later on holds at this point of the reference. -/
theorem val0_4_main_call0_c_25 (V0 : Valuation τ sig (Elt F)) : val0_4 V0 (no_index (Proc.devRef .tc main_call0_c_25)) = constantI S_ 32 1#32 := by
  unfold val0_4
  simp only [ops_part0_3, TRef.binary, TRef.nullary, TRef.unary, TRef.toBuf, TRef.ofBuf, cast_eq]
  after_results_simp
  all_goals rfl

/-- The device's buffer contents after @main's first 150 operations. -/
def val0_5 (V0 : Valuation τ sig (Elt F)) : Valuation τ sig (Elt F) := after ops_part0_4 (val0_4 V0)
/-- The buffers that window `ops_part0_4`'s operations write. -/
abbrev ops_part0_4_W : List (Ref sig .tc) := [main_call0_call3_v0, main_call0_call3_v1, main_call0_v75, main_call0_v76, main_call0_v77, main_call0_c_26, main_call0_call4_v0, main_call0_call4_v1, main_call0_call4_v2, main_call0_v78, main_call0_cst_27, main_call0_v79, main_call0_v80, main_call0_cst_28, main_call0_v81, main_call0_v82, main_call0_v83, main_call0_v84, main_call0_c_29, main_call0_call5_v0, main_call0_call5_v1, main_call0_call5_v2, main_call0_v85, main_call0_v86, main_call0_v87, main_v8, main_v9, main_v10, main_v11, main_v12]
set_option maxRecDepth 8192 in
/-- The operations write only the buffers of this list. -/
theorem ops_part0_4_writes : (ops_part0_4 : List (HloOp τ sig (Elt F))).Forall fun op => op.writes ⊆ (ops_part0_4_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_4` does not write keeps its contents through it. -/
theorem val0_5_keep (V0 : Valuation τ sig (Elt F)) (r : Ref sig .tc) (h : r ∉ ops_part0_4_W) :
    val0_5 V0 (Proc.devRef .tc r) = val0_4 V0 (Proc.devRef .tc r) :=
  after_of_writes_sub ops_part0_4 _ ops_part0_4_writes h
/-- Argument 0 is unchanged at this point of the reference. -/
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
/-- Argument 1 is unchanged at this point of the reference. -/
theorem val0_5_main_arg1 (V0 : Valuation τ sig (Elt F)) : val0_5 V0 (no_index (Proc.devRef .tc main_arg1)) = V0 (Proc.devRef .tc main_arg1) :=
  (val0_5_keep V0 main_arg1 (by decide)).trans (val0_4_main_arg1 V0)
/-- Argument 2 is unchanged at this point of the reference. -/
theorem val0_5_main_arg2 (V0 : Valuation τ sig (Elt F)) : val0_5 V0 (no_index (Proc.devRef .tc main_arg2)) = V0 (Proc.devRef .tc main_arg2) :=
  (val0_5_keep V0 main_arg2 (by decide)).trans (val0_4_main_arg2 V0)
/-- Argument 3 is unchanged at this point of the reference. -/
theorem val0_5_main_arg3 (V0 : Valuation τ sig (Elt F)) : val0_5 V0 (no_index (Proc.devRef .tc main_arg3)) = V0 (Proc.devRef .tc main_arg3) :=
  (val0_5_keep V0 main_arg3 (by decide)).trans (val0_4_main_arg3 V0)
/-- Argument 4 is unchanged at this point of the reference. -/
theorem val0_5_main_arg4 (V0 : Valuation τ sig (Elt F)) : val0_5 V0 (no_index (Proc.devRef .tc main_arg4)) = V0 (Proc.devRef .tc main_arg4) :=
  (val0_5_keep V0 main_arg4 (by decide)).trans (val0_4_main_arg4 V0)
/-- Argument 5 is unchanged at this point of the reference. -/
theorem val0_5_main_arg5 (V0 : Valuation τ sig (Elt F)) : val0_5 V0 (no_index (Proc.devRef .tc main_arg5)) = V0 (Proc.devRef .tc main_arg5) :=
  (val0_5_keep V0 main_arg5 (by decide)).trans (val0_4_main_arg5 V0)
/-- Argument 6 is unchanged at this point of the reference. -/
theorem val0_5_main_arg6 (V0 : Valuation τ sig (Elt F)) : val0_5 V0 (no_index (Proc.devRef .tc main_arg6)) = V0 (Proc.devRef .tc main_arg6) :=
  (val0_5_keep V0 main_arg6 (by decide)).trans (val0_4_main_arg6 V0)
set_option maxRecDepth 8192 in
set_option maxHeartbeats 2000000 in
/-- What a buffer used later on holds at this point of the reference. -/
theorem val0_5_main_v8 (V0 : Valuation τ sig (Elt F)) : val0_5 V0 (no_index (Proc.devRef .tc main_v8)) = res_main_v8 V0 := by
  unfold val0_5
  simp only [ops_part0_4, TRef.binary, TRef.nullary, TRef.ternary, TRef.unary, TRef.toBuf, TRef.ofBuf, cast_eq]
  after_results_simp
  simp only [val0_4_main_call0_c_25, val0_4_main_call0_v69, val0_4_main_call0_v74, val0_4_main_call0_v67, val0_4_main_call0_v72, val0_4_main_call0_v52, val0_4_main_arg1, val0_4_main_call0_v42] <;> rfl
set_option maxRecDepth 8192 in
set_option maxHeartbeats 2000000 in
/-- What a buffer used later on holds at this point of the reference. -/
theorem val0_5_main_v12 (V0 : Valuation τ sig (Elt F)) : val0_5 V0 (no_index (Proc.devRef .tc main_v12)) = transpose S4x384x24x24 [1, 0, 2, 3] (Host.dotGeneral dot_S384x389_S4x389x24x24_S384x4x24x24_1_1_0_023_n_n none (shapeCast _ (V0 (Proc.devRef .tc main_arg4)) shapeCasts_S384x389x1x1_S384x389) (concatenate S4x389x24x24 1 [⟨S4x384x24x24, (maximumf (addf (transpose S4x384x24x24 [1, 0, 2, 3] (Host.dotGeneral dot_S384x3x16x16_S4x3x24x16x24x16_S384x4x24x24_123_135_0_024_n_n none (V0 (Proc.devRef .tc main_arg2)) (shapeCast _ (V0 (Proc.devRef .tc main_arg0)) shapeCasts_S4x3x384x384_S4x3x24x16x24x16)) transposes_S384x4x24x24_S4x384x24x24_1_0_2_3) (broadcastInDim S4x384x24x24 ![0, 1, 2, 3] bcast_S1x384x1x1_S4x384x24x24_0_1_2_3 (broadcastInDim S1x384x1x1 ![1] bcast_S384_S1x384x1x1_1 (V0 (Proc.devRef .tc main_arg3))))) (broadcastInDim S4x384x24x24 ![] bcast_S_S4x384x24x24 (constant S_ .f32 0x00000000#32)))⟩, ⟨S4x5x24x24, (res_main_v8 V0)⟩] concatenates_S4x384x24x24_S4x5x24x24_S4x389x24x24_d1)) transposes_S384x4x24x24_S4x384x24x24_1_0_2_3 := by
  unfold val0_5
  simp only [ops_part0_4, TRef.binary, TRef.nullary, TRef.ternary, TRef.unary, TRef.toBuf, TRef.ofBuf, cast_eq]
  after_results_simp
  simp only [val0_4_main_call0_c_25, val0_4_main_call0_v69, val0_4_main_call0_v74, val0_4_main_call0_v67, val0_4_main_call0_v72, val0_4_main_call0_v52, val0_4_main_arg1, val0_4_main_call0_v42, val0_4_main_v7, val0_4_main_arg4] <;> rfl

/-- The device's buffer contents after @main's first 180 operations. -/
def val0_6 (V0 : Valuation τ sig (Elt F)) : Valuation τ sig (Elt F) := after ops_part0_5 (val0_5 V0)
/-- The buffers that window `ops_part0_5`'s operations write. -/
abbrev ops_part0_5_W : List (Ref sig .tc) := [main_v13, main_v14, main_v15, main_v16, main_v17, main_v18, main_cst_0, main_v19, main_v20, main_v21, main_cst_1, main_v22, main_v23, main_v24, main_v25, main_v26, main_v27, main_v28, main_cst_2, main_v29, main_v30, main_v31, main_cst_3, main_v32, main_v33, main_cst_4, main_v34, main_v35, main_v36, main_cst_5]
set_option maxRecDepth 8192 in
/-- The operations write only the buffers of this list. -/
theorem ops_part0_5_writes : (ops_part0_5 : List (HloOp τ sig (Elt F))).Forall fun op => op.writes ⊆ (ops_part0_5_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_5` does not write keeps its contents through it. -/
theorem val0_6_keep (V0 : Valuation τ sig (Elt F)) (r : Ref sig .tc) (h : r ∉ ops_part0_5_W) :
    val0_6 V0 (Proc.devRef .tc r) = val0_5 V0 (Proc.devRef .tc r) :=
  after_of_writes_sub ops_part0_5 _ ops_part0_5_writes h
/-- Argument 0 is unchanged at this point of the reference. -/
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
/-- Argument 1 is unchanged at this point of the reference. -/
theorem val0_6_main_arg1 (V0 : Valuation τ sig (Elt F)) : val0_6 V0 (no_index (Proc.devRef .tc main_arg1)) = V0 (Proc.devRef .tc main_arg1) :=
  (val0_6_keep V0 main_arg1 (by decide)).trans (val0_5_main_arg1 V0)
/-- Argument 2 is unchanged at this point of the reference. -/
theorem val0_6_main_arg2 (V0 : Valuation τ sig (Elt F)) : val0_6 V0 (no_index (Proc.devRef .tc main_arg2)) = V0 (Proc.devRef .tc main_arg2) :=
  (val0_6_keep V0 main_arg2 (by decide)).trans (val0_5_main_arg2 V0)
/-- Argument 3 is unchanged at this point of the reference. -/
theorem val0_6_main_arg3 (V0 : Valuation τ sig (Elt F)) : val0_6 V0 (no_index (Proc.devRef .tc main_arg3)) = V0 (Proc.devRef .tc main_arg3) :=
  (val0_6_keep V0 main_arg3 (by decide)).trans (val0_5_main_arg3 V0)
/-- Argument 4 is unchanged at this point of the reference. -/
theorem val0_6_main_arg4 (V0 : Valuation τ sig (Elt F)) : val0_6 V0 (no_index (Proc.devRef .tc main_arg4)) = V0 (Proc.devRef .tc main_arg4) :=
  (val0_6_keep V0 main_arg4 (by decide)).trans (val0_5_main_arg4 V0)
/-- Argument 5 is unchanged at this point of the reference. -/
theorem val0_6_main_arg5 (V0 : Valuation τ sig (Elt F)) : val0_6 V0 (no_index (Proc.devRef .tc main_arg5)) = V0 (Proc.devRef .tc main_arg5) :=
  (val0_6_keep V0 main_arg5 (by decide)).trans (val0_5_main_arg5 V0)
/-- Argument 6 is unchanged at this point of the reference. -/
theorem val0_6_main_arg6 (V0 : Valuation τ sig (Elt F)) : val0_6 V0 (no_index (Proc.devRef .tc main_arg6)) = V0 (Proc.devRef .tc main_arg6) :=
  (val0_6_keep V0 main_arg6 (by decide)).trans (val0_5_main_arg6 V0)
/-- What a buffer used later on holds at this point of the reference. -/
theorem val0_6_main_v8 (V0 : Valuation τ sig (Elt F)) : val0_6 V0 (no_index (Proc.devRef .tc main_v8)) = res_main_v8 V0 :=
  (val0_6_keep V0 main_v8 (by decide)).trans (val0_5_main_v8 V0)
set_option maxRecDepth 8192 in
set_option maxHeartbeats 2000000 in
/-- What a buffer used later on holds at this point of the reference. -/
theorem val0_6_main_v36 (V0 : Valuation τ sig (Elt F)) : val0_6 V0 (no_index (Proc.devRef .tc main_v36)) = Host.sqrt (addf (maximumf (subf (addf (broadcastInDim S2304x9216 ![0, 1] bcast_S2304x1_S2304x9216_0_1 (broadcastInDim S2304x1 ![0] bcast_S2304_S2304x1_0 (Host.reduceAdd (mulf (res_main_v17 V0) (res_main_v17 V0)) (constant S_ .f32 0x00000000#32) reducesTo_S2304x384_S2304_d1 h_S_))) (broadcastInDim S2304x9216 ![0, 1] bcast_S1x9216_S2304x9216_0_1 (broadcastInDim S1x9216 ![1] bcast_S9216_S1x9216_1 (Host.reduceAdd (mulf (V0 (Proc.devRef .tc main_arg6)) (V0 (Proc.devRef .tc main_arg6))) (constant S_ .f32 0x00000000#32) reducesTo_S9216x384_S9216_d1 h_S_)))) (mulf (broadcastInDim S2304x9216 ![] bcast_S_S2304x9216 (constant S_ .f32 0x40000000#32)) (Host.dotGeneral dot_S2304x384_S384x9216_S2304x9216_1_0_0_1_n_n none (res_main_v17 V0) (transpose S384x9216 [1, 0] (V0 (Proc.devRef .tc main_arg6)) transposes_S9216x384_S384x9216_1_0)))) (broadcastInDim S2304x9216 ![] bcast_S_S2304x9216 (constant S_ .f32 0x00000000#32))) (broadcastInDim S2304x9216 ![] bcast_S_S2304x9216 (constant S_ .f32 0x2B8CBCCC#32))) := by
  unfold val0_6
  simp only [ops_part0_5]
  after_results_simp
  simp only [val0_5_main_arg6, val0_5_main_arg5, val0_5_main_v12] <;> rfl
set_option maxRecDepth 8192 in
set_option maxHeartbeats 2000000 in
/-- What a buffer used later on holds at this point of the reference. -/
theorem val0_6_main_cst_5 (V0 : Valuation τ sig (Elt F)) : val0_6 V0 (no_index (Proc.devRef .tc main_cst_5)) = constant S_ .f32 0x7F800000#32 := by
  unfold val0_6
  simp only [ops_part0_5]
  after_results_simp
  all_goals rfl

/-- The device's buffer contents after @main's first 1 window. -/
def val1 (V0 : Valuation τ sig (Elt F)) : Valuation τ sig (Elt F) := after ops_part0_6 (val0_6 V0)
/-- The buffers that window `ops_part0_6`'s operations write. -/
abbrev ops_part0_6_W : List (Ref sig .tc) := [main_v37, main_v38, main_v39, main_v40, main_v41, main_cst_6, main_v42, main_v43, main_cst_7, main_v44, main_v45, main_cst_8, main_v46, main_v47, main_v48, main_cst_9]
set_option maxRecDepth 8192 in
/-- The operations write only the buffers of this list. -/
theorem ops_part0_6_writes : (ops_part0_6 : List (HloOp τ sig (Elt F))).Forall fun op => op.writes ⊆ (ops_part0_6_W.map (Proc.devRef (τ := τ) .tc)).toFinset := by
  simp only [List.Forall]; refine ⟨?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_6` does not write keeps its contents through it. -/
theorem val1_keep (V0 : Valuation τ sig (Elt F)) (r : Ref sig .tc) (h : r ∉ ops_part0_6_W) :
    val1 V0 (Proc.devRef .tc r) = val0_6 V0 (Proc.devRef .tc r) :=
  after_of_writes_sub ops_part0_6 _ ops_part0_6_writes h
/-- Argument 0 is unchanged at this point of the reference. -/
theorem val1_main_arg0 (V0 : Valuation τ sig (Elt F)) : val1 V0 (no_index (Proc.devRef .tc main_arg0)) = V0 (Proc.devRef .tc main_arg0) :=
  (val1_keep V0 main_arg0 (by decide)).trans (val0_6_main_arg0 V0)
/-- Argument 1 is unchanged at this point of the reference. -/
theorem val1_main_arg1 (V0 : Valuation τ sig (Elt F)) : val1 V0 (no_index (Proc.devRef .tc main_arg1)) = V0 (Proc.devRef .tc main_arg1) :=
  (val1_keep V0 main_arg1 (by decide)).trans (val0_6_main_arg1 V0)
/-- Argument 2 is unchanged at this point of the reference. -/
theorem val1_main_arg2 (V0 : Valuation τ sig (Elt F)) : val1 V0 (no_index (Proc.devRef .tc main_arg2)) = V0 (Proc.devRef .tc main_arg2) :=
  (val1_keep V0 main_arg2 (by decide)).trans (val0_6_main_arg2 V0)
/-- Argument 3 is unchanged at this point of the reference. -/
theorem val1_main_arg3 (V0 : Valuation τ sig (Elt F)) : val1 V0 (no_index (Proc.devRef .tc main_arg3)) = V0 (Proc.devRef .tc main_arg3) :=
  (val1_keep V0 main_arg3 (by decide)).trans (val0_6_main_arg3 V0)
/-- Argument 4 is unchanged at this point of the reference. -/
theorem val1_main_arg4 (V0 : Valuation τ sig (Elt F)) : val1 V0 (no_index (Proc.devRef .tc main_arg4)) = V0 (Proc.devRef .tc main_arg4) :=
  (val1_keep V0 main_arg4 (by decide)).trans (val0_6_main_arg4 V0)
/-- Argument 5 is unchanged at this point of the reference. -/
theorem val1_main_arg5 (V0 : Valuation τ sig (Elt F)) : val1 V0 (no_index (Proc.devRef .tc main_arg5)) = V0 (Proc.devRef .tc main_arg5) :=
  (val1_keep V0 main_arg5 (by decide)).trans (val0_6_main_arg5 V0)
/-- Argument 6 is unchanged at this point of the reference. -/
theorem val1_main_arg6 (V0 : Valuation τ sig (Elt F)) : val1 V0 (no_index (Proc.devRef .tc main_arg6)) = V0 (Proc.devRef .tc main_arg6) :=
  (val1_keep V0 main_arg6 (by decide)).trans (val0_6_main_arg6 V0)
set_option maxRecDepth 8192 in
set_option maxHeartbeats 1600000 in
/-- What a buffer used later on holds at this point of the reference. -/
theorem val1_main_v38 (V0 : Valuation τ sig (Elt F)) : val1 V0 (no_index (Proc.devRef .tc main_v38)) = res_main_v38 V0 := by
  unfold val1
  simp only [ops_part0_6]
  after_results_simp
  simp only [val0_6_main_cst_5, val0_6_main_v36] <;> rfl
set_option maxRecDepth 8192 in
set_option maxHeartbeats 1600000 in
/-- What a buffer used later on holds at this point of the reference. -/
theorem val1_main_v41 (V0 : Valuation τ sig (Elt F)) : val1 V0 (no_index (Proc.devRef .tc main_v41)) = extractStridedSlice S4x1x24x24 ![0, 4, 0, 0] (res_main_v8 V0) slices_S4x5x24x24_S4x1x24x24_0_4_0_0 := by
  unfold val1
  simp only [ops_part0_6]
  after_results_simp
  simp only [val0_6_main_v8] <;> rfl
set_option maxRecDepth 8192 in
set_option maxHeartbeats 1600000 in
/-- What a buffer used later on holds at this point of the reference. -/
theorem val1_main_v48 (V0 : Valuation τ sig (Elt F)) : val1 V0 (no_index (Proc.devRef .tc main_v48)) = addf (mulf (broadcastInDim S4x1x24x24 ![] bcast_S_S4x1x24x24 (constant S_ .f32 0x3F000000#32)) (extractStridedSlice S4x1x24x24 ![0, 3, 0, 0] (res_main_v8 V0) slices_S4x5x24x24_S4x1x24x24_0_3_0_0)) (mulf (broadcastInDim S4x1x24x24 ![] bcast_S_S4x1x24x24 (constant S_ .f32 0x3E800000#32)) (subf (broadcastInDim S4x1x24x24 ![] bcast_S_S4x1x24x24 (constant S_ .f32 0x3F800000#32)) (extractStridedSlice S4x1x24x24 ![0, 2, 0, 0] (res_main_v8 V0) slices_S4x5x24x24_S4x1x24x24_0_2_0_0))) := by
  unfold val1
  simp only [ops_part0_6]
  after_results_simp
  simp only [val0_6_main_v8] <;> rfl
set_option maxRecDepth 8192 in
set_option maxHeartbeats 1600000 in
/-- What a buffer used later on holds at this point of the reference. -/
theorem val1_main_cst_9 (V0 : Valuation τ sig (Elt F)) : val1 V0 (no_index (Proc.devRef .tc main_cst_9)) = constant S_ .f32 0x3E800000#32 := by
  unfold val1
  simp only [ops_part0_6]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v49, main_v50, main_v51, main_cst_10, main_v52, main_v53, main_cst_11, main_v54, main_v55, main_v56, main_v57, main_cst_12, main_v58, main_v59, main_cst_13, main_v60, main_v61, main_cst_14, main_v62, main_v63, main_v64, main_v65]
set_option maxRecDepth 8192 in
/-- The operations write only the buffers of this list. -/
theorem ops_part1_writes : (ops_part1 : List (HloOp τ sig (Elt F))).Forall fun op => op.writes ⊆ (ops_part1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
/-- Argument 0 is unchanged at this point of the reference. -/
theorem val2_main_arg0 (V0 : Valuation τ sig (Elt F)) : val2 V0 (no_index (Proc.devRef .tc main_arg0)) = V0 (Proc.devRef .tc main_arg0) :=
  (val2_keep V0 main_arg0 (by decide)).trans (val1_main_arg0 V0)
/-- Argument 1 is unchanged at this point of the reference. -/
theorem val2_main_arg1 (V0 : Valuation τ sig (Elt F)) : val2 V0 (no_index (Proc.devRef .tc main_arg1)) = V0 (Proc.devRef .tc main_arg1) :=
  (val2_keep V0 main_arg1 (by decide)).trans (val1_main_arg1 V0)
/-- Argument 2 is unchanged at this point of the reference. -/
theorem val2_main_arg2 (V0 : Valuation τ sig (Elt F)) : val2 V0 (no_index (Proc.devRef .tc main_arg2)) = V0 (Proc.devRef .tc main_arg2) :=
  (val2_keep V0 main_arg2 (by decide)).trans (val1_main_arg2 V0)
/-- Argument 3 is unchanged at this point of the reference. -/
theorem val2_main_arg3 (V0 : Valuation τ sig (Elt F)) : val2 V0 (no_index (Proc.devRef .tc main_arg3)) = V0 (Proc.devRef .tc main_arg3) :=
  (val2_keep V0 main_arg3 (by decide)).trans (val1_main_arg3 V0)
/-- Argument 4 is unchanged at this point of the reference. -/
theorem val2_main_arg4 (V0 : Valuation τ sig (Elt F)) : val2 V0 (no_index (Proc.devRef .tc main_arg4)) = V0 (Proc.devRef .tc main_arg4) :=
  (val2_keep V0 main_arg4 (by decide)).trans (val1_main_arg4 V0)
/-- Argument 5 is unchanged at this point of the reference. -/
theorem val2_main_arg5 (V0 : Valuation τ sig (Elt F)) : val2 V0 (no_index (Proc.devRef .tc main_arg5)) = V0 (Proc.devRef .tc main_arg5) :=
  (val2_keep V0 main_arg5 (by decide)).trans (val1_main_arg5 V0)
/-- Argument 6 is unchanged at this point of the reference. -/
theorem val2_main_arg6 (V0 : Valuation τ sig (Elt F)) : val2 V0 (no_index (Proc.devRef .tc main_arg6)) = V0 (Proc.devRef .tc main_arg6) :=
  (val2_keep V0 main_arg6 (by decide)).trans (val1_main_arg6 V0)
/-- What a buffer used later on holds at this point of the reference. -/
theorem val2_main_v38 (V0 : Valuation τ sig (Elt F)) : val2 V0 (no_index (Proc.devRef .tc main_v38)) = res_main_v38 V0 :=
  (val2_keep V0 main_v38 (by decide)).trans (val1_main_v38 V0)
set_option maxRecDepth 8192 in
set_option maxHeartbeats 2000000 in
/-- What a buffer used later on holds at this point of the reference. -/
theorem val2_main_v65 (V0 : Valuation τ sig (Elt F)) : val2 V0 (no_index (Proc.devRef .tc main_v65)) = res_main_v65 V0 := by
  unfold val2
  simp only [ops_part1]
  after_results_simp
  simp only [val1_main_v41, val1_main_cst_9, val1_main_v48, val1_main_v38] <;> rfl

/-- The contents after all operations are those of the last point. -/
theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = res_main_v38 (launchContents m c)
      ∧ r.2.mem ((c.tc : Thread nD τ).loc main_v65) = res_main_v65 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v38).trans ((congrFun (after_ops (launchContents m c)) (Proc.devRef .tc main_v38)).trans (val2_main_v38 (launchContents m c))),
      (h c main_v65).trans ((congrFun (after_ops (launchContents m c)) (Proc.devRef .tc main_v65)).trans (val2_main_v65 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c))),
      (h c main_arg3).trans ((congrFun (after_ops (launchContents m c)) (Proc.devRef .tc main_arg3)).trans (val2_main_arg3 (launchContents m c))),
      (h c main_arg4).trans ((congrFun (after_ops (launchContents m c)) (Proc.devRef .tc main_arg4)).trans (val2_main_arg4 (launchContents m c))),
      (h c main_arg5).trans ((congrFun (after_ops (launchContents m c)) (Proc.devRef .tc main_arg5)).trans (val2_main_arg5 (launchContents m c))),
      (h c main_arg6).trans ((congrFun (after_ops (launchContents m c)) (Proc.devRef .tc main_arg6)).trans (val2_main_arg6 (launchContents m c)))⟩)
    (run_seq scopedRefs_eq scopedSems_eq defs main (fun _ => ops) main_eq (fun _ => ops_sub) m ρ fun _ => ops_fresh)

end Cert.ReferenceIdeal.Hand

end

end
-- ==== Proof.Ideal.Body0.lean ====
/- Region 0 (the first kernel call: patches, pooled geometry, squared lengths of the memory bank): its body and the data of its pipeline, at any contents the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Rectangle 0 that the body of call 0 loads or stores. -/
abbrev r0_0 : Rect S1x3x384x384 := Rect.unit (s := S1x3x384x384) ![0, 0, 0, 0] S1x1x16x384.size inb_S1x3x384x384_S1x1x16x384_0_0_0_0
/-- Rectangle 1 that the body of call 0 loads or stores. -/
abbrev r0_1 : Rect S1x3x384x384 := Rect.unit (s := S1x3x384x384) ![0, 1, 0, 0] S1x1x16x384.size inb_S1x3x384x384_S1x1x16x384_0_1_0_0
/-- Rectangle 2 that the body of call 0 loads or stores. -/
abbrev r0_2 : Rect S1x3x384x384 := Rect.unit (s := S1x3x384x384) ![0, 2, 0, 0] S1x1x16x384.size inb_S1x3x384x384_S1x1x16x384_0_2_0_0
/-- Rectangle 3 that the body of call 0 loads or stores. -/
abbrev r0_3 : Rect S576x768 := Rect.unit (s := S576x768) ![0, 0] S24x768.size inb_S576x768_S24x768_0_0
/-- Rectangle 4 that the body of call 0 loads or stores. -/
abbrev r0_4 : Rect S1x3x384x384 := Rect.unit (s := S1x3x384x384) ![0, 0, 16, 0] S1x1x16x384.size inb_S1x3x384x384_S1x1x16x384_0_0_16_0
/-- Rectangle 5 that the body of call 0 loads or stores. -/
abbrev r0_5 : Rect S1x3x384x384 := Rect.unit (s := S1x3x384x384) ![0, 1, 16, 0] S1x1x16x384.size inb_S1x3x384x384_S1x1x16x384_0_1_16_0
/-- Rectangle 6 that the body of call 0 loads or stores. -/
abbrev r0_6 : Rect S1x3x384x384 := Rect.unit (s := S1x3x384x384) ![0, 2, 16, 0] S1x1x16x384.size inb_S1x3x384x384_S1x1x16x384_0_2_16_0
/-- Rectangle 7 that the body of call 0 loads or stores. -/
abbrev r0_7 : Rect S576x768 := Rect.unit (s := S576x768) ![24, 0] S24x768.size inb_S576x768_S24x768_24_0
/-- Rectangle 8 that the body of call 0 loads or stores. -/
abbrev r0_8 : Rect S1x3x384x384 := Rect.unit (s := S1x3x384x384) ![0, 0, 32, 0] S1x1x16x384.size inb_S1x3x384x384_S1x1x16x384_0_0_32_0
/-- Rectangle 9 that the body of call 0 loads or stores. -/
abbrev r0_9 : Rect S1x3x384x384 := Rect.unit (s := S1x3x384x384) ![0, 1, 32, 0] S1x1x16x384.size inb_S1x3x384x384_S1x1x16x384_0_1_32_0
/-- Rectangle 10 that the body of call 0 loads or stores. -/
abbrev r0_10 : Rect S1x3x384x384 := Rect.unit (s := S1x3x384x384) ![0, 2, 32, 0] S1x1x16x384.size inb_S1x3x384x384_S1x1x16x384_0_2_32_0
/-- Rectangle 11 that the body of call 0 loads or stores. -/
abbrev r0_11 : Rect S576x768 := Rect.unit (s := S576x768) ![48, 0] S24x768.size inb_S576x768_S24x768_48_0
/-- Rectangle 12 that the body of call 0 loads or stores. -/
abbrev r0_12 : Rect S1x3x384x384 := Rect.unit (s := S1x3x384x384) ![0, 0, 48, 0] S1x1x16x384.size inb_S1x3x384x384_S1x1x16x384_0_0_48_0
/-- Rectangle 13 that the body of call 0 loads or stores. -/
abbrev r0_13 : Rect S1x3x384x384 := Rect.unit (s := S1x3x384x384) ![0, 1, 48, 0] S1x1x16x384.size inb_S1x3x384x384_S1x1x16x384_0_1_48_0
/-- Rectangle 14 that the body of call 0 loads or stores. -/
abbrev r0_14 : Rect S1x3x384x384 := Rect.unit (s := S1x3x384x384) ![0, 2, 48, 0] S1x1x16x384.size inb_S1x3x384x384_S1x1x16x384_0_2_48_0
/-- Rectangle 15 that the body of call 0 loads or stores. -/
abbrev r0_15 : Rect S576x768 := Rect.unit (s := S576x768) ![72, 0] S24x768.size inb_S576x768_S24x768_72_0
/-- Rectangle 16 that the body of call 0 loads or stores. -/
abbrev r0_16 : Rect S1x3x384x384 := Rect.unit (s := S1x3x384x384) ![0, 0, 64, 0] S1x1x16x384.size inb_S1x3x384x384_S1x1x16x384_0_0_64_0
/-- Rectangle 17 that the body of call 0 loads or stores. -/
abbrev r0_17 : Rect S1x3x384x384 := Rect.unit (s := S1x3x384x384) ![0, 1, 64, 0] S1x1x16x384.size inb_S1x3x384x384_S1x1x16x384_0_1_64_0
/-- Rectangle 18 that the body of call 0 loads or stores. -/
abbrev r0_18 : Rect S1x3x384x384 := Rect.unit (s := S1x3x384x384) ![0, 2, 64, 0] S1x1x16x384.size inb_S1x3x384x384_S1x1x16x384_0_2_64_0
/-- Rectangle 19 that the body of call 0 loads or stores. -/
abbrev r0_19 : Rect S576x768 := Rect.unit (s := S576x768) ![96, 0] S24x768.size inb_S576x768_S24x768_96_0
/-- Rectangle 20 that the body of call 0 loads or stores. -/
abbrev r0_20 : Rect S1x3x384x384 := Rect.unit (s := S1x3x384x384) ![0, 0, 80, 0] S1x1x16x384.size inb_S1x3x384x384_S1x1x16x384_0_0_80_0
/-- Rectangle 21 that the body of call 0 loads or stores. -/
abbrev r0_21 : Rect S1x3x384x384 := Rect.unit (s := S1x3x384x384) ![0, 1, 80, 0] S1x1x16x384.size inb_S1x3x384x384_S1x1x16x384_0_1_80_0
/-- Rectangle 22 that the body of call 0 loads or stores. -/
abbrev r0_22 : Rect S1x3x384x384 := Rect.unit (s := S1x3x384x384) ![0, 2, 80, 0] S1x1x16x384.size inb_S1x3x384x384_S1x1x16x384_0_2_80_0
/-- Rectangle 23 that the body of call 0 loads or stores. -/
abbrev r0_23 : Rect S576x768 := Rect.unit (s := S576x768) ![120, 0] S24x768.size inb_S576x768_S24x768_120_0
/-- Rectangle 24 that the body of call 0 loads or stores. -/
abbrev r0_24 : Rect S1x3x384x384 := Rect.unit (s := S1x3x384x384) ![0, 0, 96, 0] S1x1x16x384.size inb_S1x3x384x384_S1x1x16x384_0_0_96_0
/-- Rectangle 25 that the body of call 0 loads or stores. -/
abbrev r0_25 : Rect S1x3x384x384 := Rect.unit (s := S1x3x384x384) ![0, 1, 96, 0] S1x1x16x384.size inb_S1x3x384x384_S1x1x16x384_0_1_96_0
/-- Rectangle 26 that the body of call 0 loads or stores. -/
abbrev r0_26 : Rect S1x3x384x384 := Rect.unit (s := S1x3x384x384) ![0, 2, 96, 0] S1x1x16x384.size inb_S1x3x384x384_S1x1x16x384_0_2_96_0
/-- Rectangle 27 that the body of call 0 loads or stores. -/
abbrev r0_27 : Rect S576x768 := Rect.unit (s := S576x768) ![144, 0] S24x768.size inb_S576x768_S24x768_144_0
/-- Rectangle 28 that the body of call 0 loads or stores. -/
abbrev r0_28 : Rect S1x3x384x384 := Rect.unit (s := S1x3x384x384) ![0, 0, 112, 0] S1x1x16x384.size inb_S1x3x384x384_S1x1x16x384_0_0_112_0
/-- Rectangle 29 that the body of call 0 loads or stores. -/
abbrev r0_29 : Rect S1x3x384x384 := Rect.unit (s := S1x3x384x384) ![0, 1, 112, 0] S1x1x16x384.size inb_S1x3x384x384_S1x1x16x384_0_1_112_0
/-- Rectangle 30 that the body of call 0 loads or stores. -/
abbrev r0_30 : Rect S1x3x384x384 := Rect.unit (s := S1x3x384x384) ![0, 2, 112, 0] S1x1x16x384.size inb_S1x3x384x384_S1x1x16x384_0_2_112_0
/-- Rectangle 31 that the body of call 0 loads or stores. -/
abbrev r0_31 : Rect S576x768 := Rect.unit (s := S576x768) ![168, 0] S24x768.size inb_S576x768_S24x768_168_0
/-- Rectangle 32 that the body of call 0 loads or stores. -/
abbrev r0_32 : Rect S1x3x384x384 := Rect.unit (s := S1x3x384x384) ![0, 0, 128, 0] S1x1x16x384.size inb_S1x3x384x384_S1x1x16x384_0_0_128_0
/-- Rectangle 33 that the body of call 0 loads or stores. -/
abbrev r0_33 : Rect S1x3x384x384 := Rect.unit (s := S1x3x384x384) ![0, 1, 128, 0] S1x1x16x384.size inb_S1x3x384x384_S1x1x16x384_0_1_128_0
/-- Rectangle 34 that the body of call 0 loads or stores. -/
abbrev r0_34 : Rect S1x3x384x384 := Rect.unit (s := S1x3x384x384) ![0, 2, 128, 0] S1x1x16x384.size inb_S1x3x384x384_S1x1x16x384_0_2_128_0
/-- Rectangle 35 that the body of call 0 loads or stores. -/
abbrev r0_35 : Rect S576x768 := Rect.unit (s := S576x768) ![192, 0] S24x768.size inb_S576x768_S24x768_192_0
/-- Rectangle 36 that the body of call 0 loads or stores. -/
abbrev r0_36 : Rect S1x3x384x384 := Rect.unit (s := S1x3x384x384) ![0, 0, 144, 0] S1x1x16x384.size inb_S1x3x384x384_S1x1x16x384_0_0_144_0
/-- Rectangle 37 that the body of call 0 loads or stores. -/
abbrev r0_37 : Rect S1x3x384x384 := Rect.unit (s := S1x3x384x384) ![0, 1, 144, 0] S1x1x16x384.size inb_S1x3x384x384_S1x1x16x384_0_1_144_0
/-- Rectangle 38 that the body of call 0 loads or stores. -/
abbrev r0_38 : Rect S1x3x384x384 := Rect.unit (s := S1x3x384x384) ![0, 2, 144, 0] S1x1x16x384.size inb_S1x3x384x384_S1x1x16x384_0_2_144_0
/-- Rectangle 39 that the body of call 0 loads or stores. -/
abbrev r0_39 : Rect S576x768 := Rect.unit (s := S576x768) ![216, 0] S24x768.size inb_S576x768_S24x768_216_0
/-- Rectangle 40 that the body of call 0 loads or stores. -/
abbrev r0_40 : Rect S1x3x384x384 := Rect.unit (s := S1x3x384x384) ![0, 0, 160, 0] S1x1x16x384.size inb_S1x3x384x384_S1x1x16x384_0_0_160_0
/-- Rectangle 41 that the body of call 0 loads or stores. -/
abbrev r0_41 : Rect S1x3x384x384 := Rect.unit (s := S1x3x384x384) ![0, 1, 160, 0] S1x1x16x384.size inb_S1x3x384x384_S1x1x16x384_0_1_160_0
/-- Rectangle 42 that the body of call 0 loads or stores. -/
abbrev r0_42 : Rect S1x3x384x384 := Rect.unit (s := S1x3x384x384) ![0, 2, 160, 0] S1x1x16x384.size inb_S1x3x384x384_S1x1x16x384_0_2_160_0
/-- Rectangle 43 that the body of call 0 loads or stores. -/
abbrev r0_43 : Rect S576x768 := Rect.unit (s := S576x768) ![240, 0] S24x768.size inb_S576x768_S24x768_240_0
/-- Rectangle 44 that the body of call 0 loads or stores. -/
abbrev r0_44 : Rect S1x3x384x384 := Rect.unit (s := S1x3x384x384) ![0, 0, 176, 0] S1x1x16x384.size inb_S1x3x384x384_S1x1x16x384_0_0_176_0
/-- Rectangle 45 that the body of call 0 loads or stores. -/
abbrev r0_45 : Rect S1x3x384x384 := Rect.unit (s := S1x3x384x384) ![0, 1, 176, 0] S1x1x16x384.size inb_S1x3x384x384_S1x1x16x384_0_1_176_0
/-- Rectangle 46 that the body of call 0 loads or stores. -/
abbrev r0_46 : Rect S1x3x384x384 := Rect.unit (s := S1x3x384x384) ![0, 2, 176, 0] S1x1x16x384.size inb_S1x3x384x384_S1x1x16x384_0_2_176_0
/-- Rectangle 47 that the body of call 0 loads or stores. -/
abbrev r0_47 : Rect S576x768 := Rect.unit (s := S576x768) ![264, 0] S24x768.size inb_S576x768_S24x768_264_0
/-- Rectangle 48 that the body of call 0 loads or stores. -/
abbrev r0_48 : Rect S1x3x384x384 := Rect.unit (s := S1x3x384x384) ![0, 0, 192, 0] S1x1x16x384.size inb_S1x3x384x384_S1x1x16x384_0_0_192_0
/-- Rectangle 49 that the body of call 0 loads or stores. -/
abbrev r0_49 : Rect S1x3x384x384 := Rect.unit (s := S1x3x384x384) ![0, 1, 192, 0] S1x1x16x384.size inb_S1x3x384x384_S1x1x16x384_0_1_192_0
/-- Rectangle 50 that the body of call 0 loads or stores. -/
abbrev r0_50 : Rect S1x3x384x384 := Rect.unit (s := S1x3x384x384) ![0, 2, 192, 0] S1x1x16x384.size inb_S1x3x384x384_S1x1x16x384_0_2_192_0
/-- Rectangle 51 that the body of call 0 loads or stores. -/
abbrev r0_51 : Rect S576x768 := Rect.unit (s := S576x768) ![288, 0] S24x768.size inb_S576x768_S24x768_288_0
/-- Rectangle 52 that the body of call 0 loads or stores. -/
abbrev r0_52 : Rect S1x3x384x384 := Rect.unit (s := S1x3x384x384) ![0, 0, 208, 0] S1x1x16x384.size inb_S1x3x384x384_S1x1x16x384_0_0_208_0
/-- Rectangle 53 that the body of call 0 loads or stores. -/
abbrev r0_53 : Rect S1x3x384x384 := Rect.unit (s := S1x3x384x384) ![0, 1, 208, 0] S1x1x16x384.size inb_S1x3x384x384_S1x1x16x384_0_1_208_0
/-- Rectangle 54 that the body of call 0 loads or stores. -/
abbrev r0_54 : Rect S1x3x384x384 := Rect.unit (s := S1x3x384x384) ![0, 2, 208, 0] S1x1x16x384.size inb_S1x3x384x384_S1x1x16x384_0_2_208_0
/-- Rectangle 55 that the body of call 0 loads or stores. -/
abbrev r0_55 : Rect S576x768 := Rect.unit (s := S576x768) ![312, 0] S24x768.size inb_S576x768_S24x768_312_0
/-- Rectangle 56 that the body of call 0 loads or stores. -/
abbrev r0_56 : Rect S1x3x384x384 := Rect.unit (s := S1x3x384x384) ![0, 0, 224, 0] S1x1x16x384.size inb_S1x3x384x384_S1x1x16x384_0_0_224_0
/-- Rectangle 57 that the body of call 0 loads or stores. -/
abbrev r0_57 : Rect S1x3x384x384 := Rect.unit (s := S1x3x384x384) ![0, 1, 224, 0] S1x1x16x384.size inb_S1x3x384x384_S1x1x16x384_0_1_224_0
/-- Rectangle 58 that the body of call 0 loads or stores. -/
abbrev r0_58 : Rect S1x3x384x384 := Rect.unit (s := S1x3x384x384) ![0, 2, 224, 0] S1x1x16x384.size inb_S1x3x384x384_S1x1x16x384_0_2_224_0
/-- Rectangle 59 that the body of call 0 loads or stores. -/
abbrev r0_59 : Rect S576x768 := Rect.unit (s := S576x768) ![336, 0] S24x768.size inb_S576x768_S24x768_336_0
/-- Rectangle 60 that the body of call 0 loads or stores. -/
abbrev r0_60 : Rect S1x3x384x384 := Rect.unit (s := S1x3x384x384) ![0, 0, 240, 0] S1x1x16x384.size inb_S1x3x384x384_S1x1x16x384_0_0_240_0
/-- Rectangle 61 that the body of call 0 loads or stores. -/
abbrev r0_61 : Rect S1x3x384x384 := Rect.unit (s := S1x3x384x384) ![0, 1, 240, 0] S1x1x16x384.size inb_S1x3x384x384_S1x1x16x384_0_1_240_0
/-- Rectangle 62 that the body of call 0 loads or stores. -/
abbrev r0_62 : Rect S1x3x384x384 := Rect.unit (s := S1x3x384x384) ![0, 2, 240, 0] S1x1x16x384.size inb_S1x3x384x384_S1x1x16x384_0_2_240_0
/-- Rectangle 63 that the body of call 0 loads or stores. -/
abbrev r0_63 : Rect S576x768 := Rect.unit (s := S576x768) ![360, 0] S24x768.size inb_S576x768_S24x768_360_0
/-- Rectangle 64 that the body of call 0 loads or stores. -/
abbrev r0_64 : Rect S1x3x384x384 := Rect.unit (s := S1x3x384x384) ![0, 0, 256, 0] S1x1x16x384.size inb_S1x3x384x384_S1x1x16x384_0_0_256_0
/-- Rectangle 65 that the body of call 0 loads or stores. -/
abbrev r0_65 : Rect S1x3x384x384 := Rect.unit (s := S1x3x384x384) ![0, 1, 256, 0] S1x1x16x384.size inb_S1x3x384x384_S1x1x16x384_0_1_256_0
/-- Rectangle 66 that the body of call 0 loads or stores. -/
abbrev r0_66 : Rect S1x3x384x384 := Rect.unit (s := S1x3x384x384) ![0, 2, 256, 0] S1x1x16x384.size inb_S1x3x384x384_S1x1x16x384_0_2_256_0
/-- Rectangle 67 that the body of call 0 loads or stores. -/
abbrev r0_67 : Rect S576x768 := Rect.unit (s := S576x768) ![384, 0] S24x768.size inb_S576x768_S24x768_384_0
/-- Rectangle 68 that the body of call 0 loads or stores. -/
abbrev r0_68 : Rect S1x3x384x384 := Rect.unit (s := S1x3x384x384) ![0, 0, 272, 0] S1x1x16x384.size inb_S1x3x384x384_S1x1x16x384_0_0_272_0
/-- Rectangle 69 that the body of call 0 loads or stores. -/
abbrev r0_69 : Rect S1x3x384x384 := Rect.unit (s := S1x3x384x384) ![0, 1, 272, 0] S1x1x16x384.size inb_S1x3x384x384_S1x1x16x384_0_1_272_0
/-- Rectangle 70 that the body of call 0 loads or stores. -/
abbrev r0_70 : Rect S1x3x384x384 := Rect.unit (s := S1x3x384x384) ![0, 2, 272, 0] S1x1x16x384.size inb_S1x3x384x384_S1x1x16x384_0_2_272_0
/-- Rectangle 71 that the body of call 0 loads or stores. -/
abbrev r0_71 : Rect S576x768 := Rect.unit (s := S576x768) ![408, 0] S24x768.size inb_S576x768_S24x768_408_0
/-- Rectangle 72 that the body of call 0 loads or stores. -/
abbrev r0_72 : Rect S1x3x384x384 := Rect.unit (s := S1x3x384x384) ![0, 0, 288, 0] S1x1x16x384.size inb_S1x3x384x384_S1x1x16x384_0_0_288_0
/-- Rectangle 73 that the body of call 0 loads or stores. -/
abbrev r0_73 : Rect S1x3x384x384 := Rect.unit (s := S1x3x384x384) ![0, 1, 288, 0] S1x1x16x384.size inb_S1x3x384x384_S1x1x16x384_0_1_288_0
/-- Rectangle 74 that the body of call 0 loads or stores. -/
abbrev r0_74 : Rect S1x3x384x384 := Rect.unit (s := S1x3x384x384) ![0, 2, 288, 0] S1x1x16x384.size inb_S1x3x384x384_S1x1x16x384_0_2_288_0
/-- Rectangle 75 that the body of call 0 loads or stores. -/
abbrev r0_75 : Rect S576x768 := Rect.unit (s := S576x768) ![432, 0] S24x768.size inb_S576x768_S24x768_432_0
/-- Rectangle 76 that the body of call 0 loads or stores. -/
abbrev r0_76 : Rect S1x3x384x384 := Rect.unit (s := S1x3x384x384) ![0, 0, 304, 0] S1x1x16x384.size inb_S1x3x384x384_S1x1x16x384_0_0_304_0
/-- Rectangle 77 that the body of call 0 loads or stores. -/
abbrev r0_77 : Rect S1x3x384x384 := Rect.unit (s := S1x3x384x384) ![0, 1, 304, 0] S1x1x16x384.size inb_S1x3x384x384_S1x1x16x384_0_1_304_0
/-- Rectangle 78 that the body of call 0 loads or stores. -/
abbrev r0_78 : Rect S1x3x384x384 := Rect.unit (s := S1x3x384x384) ![0, 2, 304, 0] S1x1x16x384.size inb_S1x3x384x384_S1x1x16x384_0_2_304_0
/-- Rectangle 79 that the body of call 0 loads or stores. -/
abbrev r0_79 : Rect S576x768 := Rect.unit (s := S576x768) ![456, 0] S24x768.size inb_S576x768_S24x768_456_0
/-- Rectangle 80 that the body of call 0 loads or stores. -/
abbrev r0_80 : Rect S1x3x384x384 := Rect.unit (s := S1x3x384x384) ![0, 0, 320, 0] S1x1x16x384.size inb_S1x3x384x384_S1x1x16x384_0_0_320_0
/-- Rectangle 81 that the body of call 0 loads or stores. -/
abbrev r0_81 : Rect S1x3x384x384 := Rect.unit (s := S1x3x384x384) ![0, 1, 320, 0] S1x1x16x384.size inb_S1x3x384x384_S1x1x16x384_0_1_320_0
/-- Rectangle 82 that the body of call 0 loads or stores. -/
abbrev r0_82 : Rect S1x3x384x384 := Rect.unit (s := S1x3x384x384) ![0, 2, 320, 0] S1x1x16x384.size inb_S1x3x384x384_S1x1x16x384_0_2_320_0
/-- Rectangle 83 that the body of call 0 loads or stores. -/
abbrev r0_83 : Rect S576x768 := Rect.unit (s := S576x768) ![480, 0] S24x768.size inb_S576x768_S24x768_480_0
/-- Rectangle 84 that the body of call 0 loads or stores. -/
abbrev r0_84 : Rect S1x3x384x384 := Rect.unit (s := S1x3x384x384) ![0, 0, 336, 0] S1x1x16x384.size inb_S1x3x384x384_S1x1x16x384_0_0_336_0
/-- Rectangle 85 that the body of call 0 loads or stores. -/
abbrev r0_85 : Rect S1x3x384x384 := Rect.unit (s := S1x3x384x384) ![0, 1, 336, 0] S1x1x16x384.size inb_S1x3x384x384_S1x1x16x384_0_1_336_0
/-- Rectangle 86 that the body of call 0 loads or stores. -/
abbrev r0_86 : Rect S1x3x384x384 := Rect.unit (s := S1x3x384x384) ![0, 2, 336, 0] S1x1x16x384.size inb_S1x3x384x384_S1x1x16x384_0_2_336_0
/-- Rectangle 87 that the body of call 0 loads or stores. -/
abbrev r0_87 : Rect S576x768 := Rect.unit (s := S576x768) ![504, 0] S24x768.size inb_S576x768_S24x768_504_0
/-- Rectangle 88 that the body of call 0 loads or stores. -/
abbrev r0_88 : Rect S1x3x384x384 := Rect.unit (s := S1x3x384x384) ![0, 0, 352, 0] S1x1x16x384.size inb_S1x3x384x384_S1x1x16x384_0_0_352_0
/-- Rectangle 89 that the body of call 0 loads or stores. -/
abbrev r0_89 : Rect S1x3x384x384 := Rect.unit (s := S1x3x384x384) ![0, 1, 352, 0] S1x1x16x384.size inb_S1x3x384x384_S1x1x16x384_0_1_352_0
/-- Rectangle 90 that the body of call 0 loads or stores. -/
abbrev r0_90 : Rect S1x3x384x384 := Rect.unit (s := S1x3x384x384) ![0, 2, 352, 0] S1x1x16x384.size inb_S1x3x384x384_S1x1x16x384_0_2_352_0
/-- Rectangle 91 that the body of call 0 loads or stores. -/
abbrev r0_91 : Rect S576x768 := Rect.unit (s := S576x768) ![528, 0] S24x768.size inb_S576x768_S24x768_528_0
/-- Rectangle 92 that the body of call 0 loads or stores. -/
abbrev r0_92 : Rect S1x3x384x384 := Rect.unit (s := S1x3x384x384) ![0, 0, 368, 0] S1x1x16x384.size inb_S1x3x384x384_S1x1x16x384_0_0_368_0
/-- Rectangle 93 that the body of call 0 loads or stores. -/
abbrev r0_93 : Rect S1x3x384x384 := Rect.unit (s := S1x3x384x384) ![0, 1, 368, 0] S1x1x16x384.size inb_S1x3x384x384_S1x1x16x384_0_1_368_0
/-- Rectangle 94 that the body of call 0 loads or stores. -/
abbrev r0_94 : Rect S1x3x384x384 := Rect.unit (s := S1x3x384x384) ![0, 2, 368, 0] S1x1x16x384.size inb_S1x3x384x384_S1x1x16x384_0_2_368_0
/-- Rectangle 95 that the body of call 0 loads or stores. -/
abbrev r0_95 : Rect S576x768 := Rect.unit (s := S576x768) ![552, 0] S24x768.size inb_S576x768_S24x768_552_0
/-- Rectangle 96 that the body of call 0 loads or stores. -/
abbrev r0_96 : Rect S24x384 := Rect.unit (s := S24x384) ![0, 0] S24x384.size inb_S24x384_S24x384_0_0
/-- Rectangle 97 that the body of call 0 loads or stores. -/
abbrev r0_97 : Rect S1x5x384x384 := Rect.unit (s := S1x5x384x384) ![0, 0, 0, 0] S1x1x384x384.size inb_S1x5x384x384_S1x1x384x384_0_0_0_0
/-- Rectangle 98 that the body of call 0 loads or stores. -/
abbrev r0_98 : Rect S1x5x384x384 := Rect.unit (s := S1x5x384x384) ![0, 1, 0, 0] S1x1x384x384.size inb_S1x5x384x384_S1x1x384x384_0_1_0_0
/-- Rectangle 99 that the body of call 0 loads or stores. -/
abbrev r0_99 : Rect S1x5x384x384 := Rect.unit (s := S1x5x384x384) ![0, 2, 0, 0] S1x1x384x384.size inb_S1x5x384x384_S1x1x384x384_0_2_0_0
/-- Rectangle 100 that the body of call 0 loads or stores. -/
abbrev r0_100 : Rect S1x5x384x384 := Rect.unit (s := S1x5x384x384) ![0, 3, 0, 0] S1x1x384x384.size inb_S1x5x384x384_S1x1x384x384_0_3_0_0
/-- Rectangle 101 that the body of call 0 loads or stores. -/
abbrev r0_101 : Rect S1x5x384x384 := Rect.unit (s := S1x5x384x384) ![0, 4, 0, 0] S1x1x384x384.size inb_S1x5x384x384_S1x1x384x384_0_4_0_0
/-- Rectangle 102 that the body of call 0 loads or stores. -/
abbrev r0_102 : Rect S576x8 := Rect.unit (s := S576x8) ![0, 0] S576x8.size inb_S576x8_S576x8_0_0
/-- Rectangle 103 that the body of call 0 loads or stores. -/
abbrev r0_103 : Rect S9216x384 := Rect.unit (s := S9216x384) ![0, 0] S9216x384.size inb_S9216x384_S9216x384_0_0
/-- Rectangle 104 that the body of call 0 loads or stores. -/
abbrev r0_104 : Rect S1x9216 := Rect.unit (s := S1x9216) ![0, 0] S1x9216.size inb_S1x9216_S1x9216_0_0

/-! ## What the body leaves in each output window's buffer -/

/-- Window 4's staging buffer after the body, from the input windows' blocks: its 24 stores as pieces, LAST
    FIRST. -/
def out0_4 (x0 : Vec F S1x3x384x384 .bf16) (x1 : Vec F S1x5x384x384 .f32) (x2 : Vec F S24x384 .f32) (x3 : Vec F S9216x384 .bf16) : Vec F S576x768 .bf16 :=
  View.canon [⟨r0_95, k0_pay127 (k0_pay114 (View.ld x0 r0_92) (View.ld x0 r0_93) (View.ld x0 r0_94)) (k0_pay115 (View.ld x0 r0_92) (View.ld x0 r0_93) (View.ld x0 r0_94)) (k0_pay116 (View.ld x0 r0_92) (View.ld x0 r0_93) (View.ld x0 r0_94)) (k0_pay117 (View.ld x0 r0_92) (View.ld x0 r0_93) (View.ld x0 r0_94)) (k0_pay118 (View.ld x0 r0_92) (View.ld x0 r0_93) (View.ld x0 r0_94)) (k0_pay119 (View.ld x0 r0_92) (View.ld x0 r0_93) (View.ld x0 r0_94)) (k0_pay120 (View.ld x0 r0_92) (View.ld x0 r0_93) (View.ld x0 r0_94)) (k0_pay121 (View.ld x0 r0_92) (View.ld x0 r0_93) (View.ld x0 r0_94)) (k0_pay122 (View.ld x0 r0_92) (View.ld x0 r0_93) (View.ld x0 r0_94)) (k0_pay123 (View.ld x0 r0_92) (View.ld x0 r0_93) (View.ld x0 r0_94)) (k0_pay124 (View.ld x0 r0_92) (View.ld x0 r0_93) (View.ld x0 r0_94)) (k0_pay125 (View.ld x0 r0_92) (View.ld x0 r0_93) (View.ld x0 r0_94)) (k0_pay126 (View.ld x0 r0_92) (View.ld x0 r0_93) (View.ld x0 r0_94))⟩,
    ⟨r0_91, k0_pay113 (k0_pay101 (View.ld x0 r0_88) (View.ld x0 r0_89) (View.ld x0 r0_90)) (k0_pay102 (View.ld x0 r0_88) (View.ld x0 r0_89) (View.ld x0 r0_90)) (k0_pay103 (View.ld x0 r0_88) (View.ld x0 r0_89) (View.ld x0 r0_90)) (k0_pay104 (View.ld x0 r0_88) (View.ld x0 r0_89) (View.ld x0 r0_90)) (k0_pay105 (View.ld x0 r0_88) (View.ld x0 r0_89) (View.ld x0 r0_90)) (k0_pay106 (View.ld x0 r0_88) (View.ld x0 r0_89) (View.ld x0 r0_90)) (k0_pay107 (View.ld x0 r0_88) (View.ld x0 r0_89) (View.ld x0 r0_90)) (k0_pay108 (View.ld x0 r0_88) (View.ld x0 r0_89) (View.ld x0 r0_90)) (k0_pay109 (View.ld x0 r0_88) (View.ld x0 r0_89) (View.ld x0 r0_90)) (k0_pay110 (View.ld x0 r0_88) (View.ld x0 r0_89) (View.ld x0 r0_90)) (k0_pay111 (View.ld x0 r0_88) (View.ld x0 r0_89) (View.ld x0 r0_90)) (k0_pay112 (View.ld x0 r0_88) (View.ld x0 r0_89) (View.ld x0 r0_90))⟩,
    ⟨r0_87, k0_pay100 (k0_pay89 (View.ld x0 r0_84) (View.ld x0 r0_85) (View.ld x0 r0_86)) (k0_pay90 (View.ld x0 r0_84) (View.ld x0 r0_85) (View.ld x0 r0_86)) (k0_pay91 (View.ld x0 r0_84) (View.ld x0 r0_85) (View.ld x0 r0_86)) (k0_pay92 (View.ld x0 r0_84) (View.ld x0 r0_85) (View.ld x0 r0_86)) (k0_pay93 (View.ld x0 r0_84) (View.ld x0 r0_85) (View.ld x0 r0_86)) (k0_pay94 (View.ld x0 r0_84) (View.ld x0 r0_85) (View.ld x0 r0_86)) (k0_pay95 (View.ld x0 r0_84) (View.ld x0 r0_85) (View.ld x0 r0_86)) (k0_pay96 (View.ld x0 r0_84) (View.ld x0 r0_85) (View.ld x0 r0_86)) (k0_pay97 (View.ld x0 r0_84) (View.ld x0 r0_85) (View.ld x0 r0_86)) (k0_pay98 (View.ld x0 r0_84) (View.ld x0 r0_85) (View.ld x0 r0_86)) (k0_pay99 (View.ld x0 r0_84) (View.ld x0 r0_85) (View.ld x0 r0_86))⟩,
    ⟨r0_83, k0_pay88 (k0_pay78 (View.ld x0 r0_80) (View.ld x0 r0_81) (View.ld x0 r0_82)) (k0_pay79 (View.ld x0 r0_80) (View.ld x0 r0_81) (View.ld x0 r0_82)) (k0_pay80 (View.ld x0 r0_80) (View.ld x0 r0_81) (View.ld x0 r0_82)) (k0_pay81 (View.ld x0 r0_80) (View.ld x0 r0_81) (View.ld x0 r0_82)) (k0_pay82 (View.ld x0 r0_80) (View.ld x0 r0_81) (View.ld x0 r0_82)) (k0_pay83 (View.ld x0 r0_80) (View.ld x0 r0_81) (View.ld x0 r0_82)) (k0_pay84 (View.ld x0 r0_80) (View.ld x0 r0_81) (View.ld x0 r0_82)) (k0_pay85 (View.ld x0 r0_80) (View.ld x0 r0_81) (View.ld x0 r0_82)) (k0_pay86 (View.ld x0 r0_80) (View.ld x0 r0_81) (View.ld x0 r0_82)) (k0_pay87 (View.ld x0 r0_80) (View.ld x0 r0_81) (View.ld x0 r0_82))⟩,
    ⟨r0_79, k0_pay77 (k0_pay68 (View.ld x0 r0_76) (View.ld x0 r0_77) (View.ld x0 r0_78)) (k0_pay69 (View.ld x0 r0_76) (View.ld x0 r0_77) (View.ld x0 r0_78)) (k0_pay70 (View.ld x0 r0_76) (View.ld x0 r0_77) (View.ld x0 r0_78)) (k0_pay71 (View.ld x0 r0_76) (View.ld x0 r0_77) (View.ld x0 r0_78)) (k0_pay72 (View.ld x0 r0_76) (View.ld x0 r0_77) (View.ld x0 r0_78)) (k0_pay73 (View.ld x0 r0_76) (View.ld x0 r0_77) (View.ld x0 r0_78)) (k0_pay74 (View.ld x0 r0_76) (View.ld x0 r0_77) (View.ld x0 r0_78)) (k0_pay75 (View.ld x0 r0_76) (View.ld x0 r0_77) (View.ld x0 r0_78)) (k0_pay76 (View.ld x0 r0_76) (View.ld x0 r0_77) (View.ld x0 r0_78))⟩,
    ⟨r0_75, k0_pay67 (k0_pay59 (View.ld x0 r0_72) (View.ld x0 r0_73) (View.ld x0 r0_74)) (k0_pay60 (View.ld x0 r0_72) (View.ld x0 r0_73) (View.ld x0 r0_74)) (k0_pay61 (View.ld x0 r0_72) (View.ld x0 r0_73) (View.ld x0 r0_74)) (k0_pay62 (View.ld x0 r0_72) (View.ld x0 r0_73) (View.ld x0 r0_74)) (k0_pay63 (View.ld x0 r0_72) (View.ld x0 r0_73) (View.ld x0 r0_74)) (k0_pay64 (View.ld x0 r0_72) (View.ld x0 r0_73) (View.ld x0 r0_74)) (k0_pay65 (View.ld x0 r0_72) (View.ld x0 r0_73) (View.ld x0 r0_74)) (k0_pay66 (View.ld x0 r0_72) (View.ld x0 r0_73) (View.ld x0 r0_74))⟩,
    ⟨r0_71, k0_pay58 (k0_pay51 (View.ld x0 r0_68) (View.ld x0 r0_69) (View.ld x0 r0_70)) (k0_pay52 (View.ld x0 r0_68) (View.ld x0 r0_69) (View.ld x0 r0_70)) (k0_pay53 (View.ld x0 r0_68) (View.ld x0 r0_69) (View.ld x0 r0_70)) (k0_pay54 (View.ld x0 r0_68) (View.ld x0 r0_69) (View.ld x0 r0_70)) (k0_pay55 (View.ld x0 r0_68) (View.ld x0 r0_69) (View.ld x0 r0_70)) (k0_pay56 (View.ld x0 r0_68) (View.ld x0 r0_69) (View.ld x0 r0_70)) (k0_pay57 (View.ld x0 r0_68) (View.ld x0 r0_69) (View.ld x0 r0_70))⟩,
    ⟨r0_67, k0_pay50 (k0_pay44 (View.ld x0 r0_64) (View.ld x0 r0_65) (View.ld x0 r0_66)) (k0_pay45 (View.ld x0 r0_64) (View.ld x0 r0_65) (View.ld x0 r0_66)) (k0_pay46 (View.ld x0 r0_64) (View.ld x0 r0_65) (View.ld x0 r0_66)) (k0_pay47 (View.ld x0 r0_64) (View.ld x0 r0_65) (View.ld x0 r0_66)) (k0_pay48 (View.ld x0 r0_64) (View.ld x0 r0_65) (View.ld x0 r0_66)) (k0_pay49 (View.ld x0 r0_64) (View.ld x0 r0_65) (View.ld x0 r0_66))⟩,
    ⟨r0_63, k0_pay43 (k0_pay38 (View.ld x0 r0_60) (View.ld x0 r0_61) (View.ld x0 r0_62)) (k0_pay39 (View.ld x0 r0_60) (View.ld x0 r0_61) (View.ld x0 r0_62)) (k0_pay40 (View.ld x0 r0_60) (View.ld x0 r0_61) (View.ld x0 r0_62)) (k0_pay41 (View.ld x0 r0_60) (View.ld x0 r0_61) (View.ld x0 r0_62)) (k0_pay42 (View.ld x0 r0_60) (View.ld x0 r0_61) (View.ld x0 r0_62))⟩,
    ⟨r0_59, k0_pay37 (k0_pay33 (View.ld x0 r0_56) (View.ld x0 r0_57) (View.ld x0 r0_58)) (k0_pay34 (View.ld x0 r0_56) (View.ld x0 r0_57) (View.ld x0 r0_58)) (k0_pay35 (View.ld x0 r0_56) (View.ld x0 r0_57) (View.ld x0 r0_58)) (k0_pay36 (View.ld x0 r0_56) (View.ld x0 r0_57) (View.ld x0 r0_58))⟩,
    ⟨r0_55, k0_pay32 (k0_pay29 (View.ld x0 r0_52) (View.ld x0 r0_53) (View.ld x0 r0_54)) (k0_pay30 (View.ld x0 r0_52) (View.ld x0 r0_53) (View.ld x0 r0_54)) (k0_pay31 (View.ld x0 r0_52) (View.ld x0 r0_53) (View.ld x0 r0_54))⟩,
    ⟨r0_51, k0_pay28 (k0_pay26 (View.ld x0 r0_48) (View.ld x0 r0_49) (View.ld x0 r0_50)) (k0_pay27 (View.ld x0 r0_48) (View.ld x0 r0_49) (View.ld x0 r0_50))⟩,
    ⟨r0_47, k0_pay25 (k0_pay24 (View.ld x0 r0_44) (View.ld x0 r0_45) (View.ld x0 r0_46))⟩,
    ⟨r0_43, k0_pay23 (k0_pay22 (View.ld x0 r0_40) (View.ld x0 r0_41) (View.ld x0 r0_42))⟩,
    ⟨r0_39, k0_pay21 (k0_pay19 (View.ld x0 r0_36)) (k0_pay20 (View.ld x0 r0_37)) (View.ld x0 r0_38)⟩,
    ⟨r0_35, k0_pay18 (k0_pay16 (View.ld x0 r0_32)) (k0_pay17 (View.ld x0 r0_33)) (View.ld x0 r0_34)⟩,
    ⟨r0_31, k0_pay15 (k0_pay13 (View.ld x0 r0_28)) (k0_pay14 (View.ld x0 r0_29)) (View.ld x0 r0_30)⟩,
    ⟨r0_27, k0_pay12 (k0_pay11 (View.ld x0 r0_24)) (View.ld x0 r0_25) (View.ld x0 r0_26)⟩,
    ⟨r0_23, k0_pay10 (k0_pay9 (View.ld x0 r0_20)) (View.ld x0 r0_21) (View.ld x0 r0_22)⟩,
    ⟨r0_19, k0_pay8 (k0_pay7 (View.ld x0 r0_16)) (View.ld x0 r0_17) (View.ld x0 r0_18)⟩,
    ⟨r0_15, k0_pay6 (View.ld x0 r0_12) (View.ld x0 r0_13) (View.ld x0 r0_14)⟩,
    ⟨r0_11, k0_pay5 (View.ld x0 r0_8) (View.ld x0 r0_9) (View.ld x0 r0_10)⟩,
    ⟨r0_7, k0_pay4 (View.ld x0 r0_4) (View.ld x0 r0_5) (View.ld x0 r0_6)⟩,
    ⟨r0_3, k0_pay3 (View.ld x0 r0_0) (View.ld x0 r0_1) (View.ld x0 r0_2)⟩]

/-- Its stores tile the buffer, so they cover it. -/
theorem cover0_4 (p0 : Vec F S24x768 .bf16) (p1 : Vec F S24x768 .bf16) (p2 : Vec F S24x768 .bf16) (p3 : Vec F S24x768 .bf16) (p4 : Vec F S24x768 .bf16) (p5 : Vec F S24x768 .bf16) (p6 : Vec F S24x768 .bf16) (p7 : Vec F S24x768 .bf16) (p8 : Vec F S24x768 .bf16) (p9 : Vec F S24x768 .bf16) (p10 : Vec F S24x768 .bf16) (p11 : Vec F S24x768 .bf16) (p12 : Vec F S24x768 .bf16) (p13 : Vec F S24x768 .bf16) (p14 : Vec F S24x768 .bf16) (p15 : Vec F S24x768 .bf16) (p16 : Vec F S24x768 .bf16) (p17 : Vec F S24x768 .bf16) (p18 : Vec F S24x768 .bf16) (p19 : Vec F S24x768 .bf16) (p20 : Vec F S24x768 .bf16) (p21 : Vec F S24x768 .bf16) (p22 : Vec F S24x768 .bf16) (p23 : Vec F S24x768 .bf16) (y : S576x768.Idx) :
    ∃ pc ∈ ([⟨r0_95, p0⟩, ⟨r0_91, p1⟩, ⟨r0_87, p2⟩, ⟨r0_83, p3⟩, ⟨r0_79, p4⟩, ⟨r0_75, p5⟩, ⟨r0_71, p6⟩, ⟨r0_67, p7⟩, ⟨r0_63, p8⟩, ⟨r0_59, p9⟩, ⟨r0_55, p10⟩, ⟨r0_51, p11⟩, ⟨r0_47, p12⟩, ⟨r0_43, p13⟩, ⟨r0_39, p14⟩, ⟨r0_35, p15⟩, ⟨r0_31, p16⟩, ⟨r0_27, p17⟩, ⟨r0_23, p18⟩, ⟨r0_19, p19⟩, ⟨r0_15, p20⟩, ⟨r0_11, p21⟩, ⟨r0_7, p22⟩, ⟨r0_3, p23⟩] : List (View.Piece (Elt F) S576x768 .bf16)), y ∈ pc.1.set :=
  View.cover_of_tiled [⟨r0_95, p0⟩, ⟨r0_91, p1⟩, ⟨r0_87, p2⟩, ⟨r0_83, p3⟩, ⟨r0_79, p4⟩, ⟨r0_75, p5⟩, ⟨r0_71, p6⟩, ⟨r0_67, p7⟩, ⟨r0_63, p8⟩, ⟨r0_59, p9⟩, ⟨r0_55, p10⟩, ⟨r0_51, p11⟩, ⟨r0_47, p12⟩, ⟨r0_43, p13⟩, ⟨r0_39, p14⟩, ⟨r0_35, p15⟩, ⟨r0_31, p16⟩, ⟨r0_27, p17⟩, ⟨r0_23, p18⟩, ⟨r0_19, p19⟩, ⟨r0_15, p20⟩, ⟨r0_11, p21⟩, ⟨r0_7, p22⟩, ⟨r0_3, p23⟩] S24x768.size (by rfl) y

/-- Window 5's staging buffer after the body, from the input windows' blocks: its 1 store as pieces, LAST
    FIRST. -/
def out0_5 (x0 : Vec F S1x3x384x384 .bf16) (x1 : Vec F S1x5x384x384 .f32) (x2 : Vec F S24x384 .f32) (x3 : Vec F S9216x384 .bf16) : Vec F S576x8 .f32 :=
  View.canon [⟨r0_102, k0_pay1 (k0_pay129 (View.ld x2 r0_96)) (k0_pay130 (View.ld x2 r0_96) (View.ld x1 r0_97)) (k0_pay131 (View.ld x2 r0_96) (View.ld x1 r0_98)) (k0_pay133 (k0_pay128 (View.ld x2 r0_96)) (k0_pay129 (View.ld x2 r0_96)) (k0_pay132 (View.ld x1 r0_99)) (constant S24x384 .f32 0x00000000#32)) (k0_pay134 (k0_pay128 (View.ld x2 r0_96)) (k0_pay129 (View.ld x2 r0_96)) (View.ld x1 r0_100)) (k0_pay135 (k0_pay128 (View.ld x2 r0_96)) (View.ld x1 r0_101))⟩]

/-- Its stores tile the buffer, so they cover it. -/
theorem cover0_5 (p0 : Vec F S576x8 .f32) (y : S576x8.Idx) :
    ∃ pc ∈ ([⟨r0_102, p0⟩] : List (View.Piece (Elt F) S576x8 .f32)), y ∈ pc.1.set :=
  View.cover_of_tiled [⟨r0_102, p0⟩] S576x8.size (by rfl) y

/-- Window 6's staging buffer after the body, from the input windows' blocks: its 1 store as pieces, LAST
    FIRST. -/
def out0_6 (x0 : Vec F S1x3x384x384 .bf16) (x1 : Vec F S1x5x384x384 .f32) (x2 : Vec F S24x384 .f32) (x3 : Vec F S9216x384 .bf16) : Vec F S1x9216 .f32 :=
  View.canon [⟨r0_104, k0_pay2 (View.ld x3 r0_103)⟩]

/-- Its stores tile the buffer, so they cover it. -/
theorem cover0_6 (p0 : Vec F S1x9216 .f32) (y : S1x9216.Idx) :
    ∃ pc ∈ ([⟨r0_104, p0⟩] : List (View.Piece (Elt F) S1x9216 .f32)), y ∈ pc.1.set :=
  View.cover_of_tiled [⟨r0_104, p0⟩] S1x9216.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (i : grid0.Coords) (arg1 : Memref sig .tc .vmem S1x3x384x384 .bf16) (harg1 : arg1.IsWhole) (arg2 : Memref sig .tc .vmem S1x5x384x384 .f32) (harg2 : arg2.IsWhole) (arg3 : Memref sig .tc .vmem S24x384 .f32) (harg3 : arg3.IsWhole) (arg4 : Memref sig .tc .vmem S9216x384 .bf16) (harg4 : arg4.IsWhole) (arg5 : Memref sig .tc .vmem S576x768 .bf16) (harg5 : arg5.IsWhole) (arg6 : Memref sig .tc .vmem S576x8 .f32) (harg6 : arg6.IsWhole) (arg7 : Memref sig .tc .vmem S1x9216 .f32) (harg7 : arg7.IsWhole)
    (x0 : Vec F S1x3x384x384 .bf16) (x1 : Vec F S1x5x384x384 .f32) (x2 : Vec F S24x384 .f32) (x3 : Vec F S9216x384 .bf16) (d6 : Vec F S1x9216 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare d6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (if k0_cond1 i = 1#1 then out0_6 x0 x1 x2 x3 else d6)) -∗ K ⟨⟩))
      ⊢ wp frame (wpE (defs₀ (F := F)) Variants.none c none) E (cc0__prep_kernel i arg1 harg1 arg2 harg2 arg3 harg3 arg4 harg4 arg5 harg5 arg6 harg6 arg7 harg7) K := by
  simp only [cc0__prep_kernel_eq_skeleton]; unfold cc0__prep_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  subst hf0 hf1 hf2 hf3 hf6
  by_cases hc : k0_cond1 i = 1#1
  · simp only [dif_pos hc, if_pos hc]
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      exact View.read_writes_eq_canon _ _ _ (cover0_4 _ _ _ _ _ _ _ _ _ _ _ _ _ _ _ _ _ _ _ _ _ _ _ _)
    isplitl [H5]
    · iexists _; isplitr
      swap; · iexact H5
      ipureintro
      exact View.read_writes_eq_canon _ _ _ (cover0_5 _)
    iexists _; isplitr
    swap; · iexact H6
    ipureintro
    exact View.read_writes_eq_canon _ _ _ (cover0_6 _)
  · simp only [dif_neg hc, if_neg hc]
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      exact View.read_writes_eq_canon _ _ _ (cover0_4 _ _ _ _ _ _ _ _ _ _ _ _ _ _ _ _ _ _ _ _ _ _ _ _)
    isplitl [H5]
    · iexists _; isplitr
      swap; · iexact H5
      ipureintro
      exact View.read_writes_eq_canon _ _ _ (cover0_5 _)
    iexists f6; isplitr; · ipureintro; rfl
    iexact H6

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
/-- What window 1 of call 0 holds after a grid point's body. -/
theorem after0_1 (c : Dev nD) (t : Fin cfg0.N) : (dat0 V c).after 1 t = iblk0 V c 1 t := by dsimp only [dat0]
/-- What window 2 of call 0 holds after a grid point's body. -/
theorem after0_2 (c : Dev nD) (t : Fin cfg0.N) : (dat0 V c).after 2 t = iblk0 V c 2 t := by dsimp only [dat0]
/-- What window 3 of call 0 holds after a grid point's body. -/
theorem after0_3 (c : Dev nD) (t : Fin cfg0.N) : (dat0 V c).after 3 t = iblk0 V c 3 t := by dsimp only [dat0]
/-- What window 4 of call 0 holds after a grid point's body. -/
theorem after0_4 (c : Dev nD) (t : Fin cfg0.N) : (dat0 V c).after 4 t = out0_4 (iblk0 V c 0 t) (iblk0 V c 1 t) (iblk0 V c 2 t) (iblk0 V c 3 t) := by dsimp only [dat0]
/-- What window 5 of call 0 holds after a grid point's body. -/
theorem after0_5 (c : Dev nD) (t : Fin cfg0.N) : (dat0 V c).after 5 t = out0_5 (iblk0 V c 0 t) (iblk0 V c 1 t) (iblk0 V c 2 t) (iblk0 V c 3 t) := by dsimp only [dat0]
/-- What window 6 of call 0 holds after a grid point's body. -/
theorem after0_6 (c : Dev nD) (t : Fin cfg0.N) : (dat0 V c).after 6 t = out0_6 (iblk0 V c 0 t) (iblk0 V c 1 t) (iblk0 V c 2 t) (iblk0 V c 3 t) := by dsimp only [dat0]

/-- The block of the memory bank is the same at every point, so what the row of squared lengths holds is too. -/
theorem after0_6_const (c : Dev nD) (t t' : Fin cfg0.N) : (dat0 V c).after 6 t = (dat0 V c).after 6 t' := by
  rw [after0_6, after0_6]; rfl
/-- The kernel computes the row of squared lengths at the first point. -/
theorem cond_zero (t : Fin cfg0.N) : k0_cond1 (grid0.coords t) = 1#1 ↔ t.val = 0 := by
  revert t; decide +kernel
/-- After the first point nothing has yet been written back from that row's buffer. -/
theorem fresh0_6 (t : Fin cfg0.N) (ht : t.val ≠ 0) : cfg0.fresh 6 t.val = false := by
  revert t; decide +kernel
/-- After the first point the row's buffer holds the squared lengths. -/
theorem before0_6 (c : Dev nD) (t : Fin cfg0.N) (ht : t.val ≠ 0) (d) : (dat0 V c).before 6 t d = (dat0 V c).after 6 t := by
  rw [(dat0 V c).before_out_traj 6 rfl (fun _ _ => rfl) (fun t h _ _ => after0_6_const V c _ _) t.val t rfl d, fresh0_6 t ht]
  exact after0_6_const V c _ _
/-- Whatever the schedule asks of the row's buffer after the body, the squared lengths in it are that. -/
theorem leaves0_6 (c : Dev nD) (t : Fin cfg0.N) :
    owns (c : Thread nD τ) (st0_6 t) fullShare ((dat0 V c).after 6 t) ⊢ ((dat0 V c).leavesExact 6 t : sProp 𝕄) := by
  by_cases ht : t.val = 0
  · have hi : cfg0.idle 6 (cfg0.grid.coords t) = false := by revert t; decide +kernel
    unfold Dat.leavesExact; rw [hi]
  · unfold Dat.leavesExact
    cases cfg0.idle 6 (cfg0.grid.coords t)
    · exact .rfl
    · cases (cfg0.win 6).flush t
      · dsimp only
        iintro H
        iexists (dat0 V c).after 6 t
        rw [before0_6 V c t ht]
        iexact H
      · exact .rfl

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- What window 1 of call 0 holds before a grid point's body: the block of its array there. -/
theorem before0_1 (c : Dev nD) (t : Fin cfg0.N) (d) : (dat0 V c).before 1 t d = iblk0 V c 1 t :=
  before0_1_of V (dat0 V c) (A_eq0 V c 1) (after0_1 V c) t d
/-- What window 2 of call 0 holds before a grid point's body: the block of its array there. -/
theorem before0_2 (c : Dev nD) (t : Fin cfg0.N) (d) : (dat0 V c).before 2 t d = iblk0 V c 2 t :=
  before0_2_of V (dat0 V c) (A_eq0 V c 2) (after0_2 V c) t d
/-- What window 3 of call 0 holds before a grid point's body: the block of its array there. -/
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ (dat0 V c).leavesExact 6 t)

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩, ⟨%d6, H6⟩⟩
  have hrow : (if k0_cond1 (grid0.coords t) = 1#1 then out0_6 (iblk0 V c 0 t) (iblk0 V c 1 t) (iblk0 V c 2 t) (iblk0 V c 3 t)
      else (dat0 V c).before 6 t d6) = (dat0 V c).after 6 t := by
    by_cases ht : t.val = 0
    · rw [if_pos ((cond_zero t).mpr ht), after0_6]
    · rw [if_neg (fun h => ht ((cond_zero t).mp h)), before0_6 V c t ht]
  iapply (sound_kernel0 c Set.univ (grid0.coords t) _ _ _ _ _ _ _ _ _ _ _ _ _ _ (iblk0 V c 0 t) (iblk0 V c 1 t) (iblk0 V c 2 t) (iblk0 V c 3 t) ((dat0 V c).before 6 t d6) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [hrow]
  iapply (leaves0_6 V c t)
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.Ideal.Body1.lean ====
/- Region 1 (the main kernel call): its body and the data of its pipeline, at any contents the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5 holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6 holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7 holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8 holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Rectangle 0 that the body of call 1 loads or stores. -/
abbrev r1_0 : Rect S576x768 := Rect.unit (s := S576x768) ![0, 0] S576x768.size inb_S576x768_S576x768_0_0
/-- Rectangle 1 that the body of call 1 loads or stores. -/
abbrev r1_1 : Rect S768x384 := Rect.unit (s := S768x384) ![0, 0] S768x384.size inb_S768x384_S768x384_0_0
/-- Rectangle 2 that the body of call 1 loads or stores. -/
abbrev r1_2 : Rect S1x384 := Rect.unit (s := S1x384) ![0, 0] S1x384.size inb_S1x384_S1x384_0_0
/-- Rectangle 3 that the body of call 1 loads or stores. -/
abbrev r1_3 : Rect S576x8 := Rect.unit (s := S576x8) ![0, 0] S576x8.size inb_S576x8_S576x8_0_0
/-- Rectangle 4 that the body of call 1 loads or stores. -/
abbrev r1_4 : Rect S384x384 := Rect.unit (s := S384x384) ![0, 0] S384x384.size inb_S384x384_S384x384_0_0
/-- Rectangle 5 that the body of call 1 loads or stores. -/
abbrev r1_5 : Rect S8x384 := Rect.unit (s := S8x384) ![0, 0] S8x384.size inb_S8x384_S8x384_0_0
/-- Rectangle 6 that the body of call 1 loads or stores. -/
abbrev r1_6 : Rect S9216x384 := Rect.unit (s := S9216x384) ![0, 0] S4608x384.size inb_S9216x384_S4608x384_0_0
/-- Rectangle 7 that the body of call 1 loads or stores. -/
abbrev r1_7 : Rect S1x9216 := Rect.unit (s := S1x9216) ![0, 0] S1x4608.size inb_S1x9216_S1x4608_0_0
/-- Rectangle 8 that the body of call 1 loads or stores. -/
abbrev r1_8 : Rect S9216x384 := Rect.unit (s := S9216x384) ![4608, 0] S4608x384.size inb_S9216x384_S4608x384_4608_0
/-- Rectangle 9 that the body of call 1 loads or stores. -/
abbrev r1_9 : Rect S1x9216 := Rect.unit (s := S1x9216) ![0, 4608] S1x4608.size inb_S1x9216_S1x4608_0_4608
/-- Rectangle 10 that the body of call 1 loads or stores. -/
abbrev r1_10 : Rect S576x1 := Rect.unit (s := S576x1) ![0, 0] S576x1.size inb_S576x1_S576x1_0_0

/-! ## What the body leaves in each output window's buffer -/

/-! ### Values of the body that the stores' payloads, spelt out, would write more than once

    Each is a vector the body binds (often a part call's result), stated over the input windows' blocks and
    numbered on from the skeleton's payload functions (`k1_pay9` …, after `k1_pay8`), so that
    `out1_W` and the values after it name it instead of spelling it out ; the comment after each is the printed function's
    name for the value (a count appended where that name is bound again). -/

/-- The value that the second call's body stores to its second result. -/
def k1_pay9 (x0 : Vec F S576x768 .bf16) (x1 : Vec F S768x384 .bf16) (x2 : Vec F S1x384 .f32) (x3 : Vec F S384x384 .bf16) (x4 : Vec F S8x384 .bf16) (x5 : Vec F S1x384 .f32) (x6 : Vec F S576x8 .f32) (x7 : Vec F S9216x384 .bf16) (x8 : Vec F S1x9216 .f32) : FVec F S576x1 .f32 :=
  k1_pay7 (k1_pay4 (View.ld x0 r1_0) (View.ld x1 r1_1) (View.ld x2 r1_2) (View.ld x6 r1_3) (View.ld x3 r1_4) (View.ld x4 r1_5) (View.ld x5 r1_2)) (k1_pay5 (View.ld x0 r1_0) (View.ld x1 r1_1) (View.ld x2 r1_2) (View.ld x6 r1_3) (View.ld x3 r1_4) (View.ld x4 r1_5) (View.ld x5 r1_2)) (k1_pay6 (View.ld x0 r1_0) (View.ld x1 r1_1) (View.ld x2 r1_2) (View.ld x6 r1_3) (View.ld x3 r1_4) (View.ld x4 r1_5) (View.ld x5 r1_2) (View.ld x7 r1_6)) (View.ld x8 r1_7) (View.ld x7 r1_8) (View.ld x8 r1_9) -- `v56`

/-- Window 9's staging buffer after the body, from the input windows' blocks: its 1 store as pieces, LAST
    FIRST. -/
def out1_9 (x0 : Vec F S576x768 .bf16) (x1 : Vec F S768x384 .bf16) (x2 : Vec F S1x384 .f32) (x3 : Vec F S384x384 .bf16) (x4 : Vec F S8x384 .bf16) (x5 : Vec F S1x384 .f32) (x6 : Vec F S576x8 .f32) (x7 : Vec F S9216x384 .bf16) (x8 : Vec F S1x9216 .f32) : Vec F S576x1 .f32 :=
  View.canon [⟨r1_10, k1_pay9 x0 x1 x2 x3 x4 x5 x6 x7 x8⟩]

/-- Its stores tile the buffer, so they cover it. -/
theorem cover1_9 (p0 : Vec F S576x1 .f32) (y : S576x1.Idx) :
    ∃ pc ∈ ([⟨r1_10, p0⟩] : List (View.Piece (Elt F) S576x1 .f32)), y ∈ pc.1.set :=
  View.cover_of_tiled [⟨r1_10, p0⟩] S576x1.size (by rfl) y

/-- Window 10's staging buffer after the body, from the input windows' blocks: its 1 store as pieces, LAST
    FIRST. -/
def out1_10 (x0 : Vec F S576x768 .bf16) (x1 : Vec F S768x384 .bf16) (x2 : Vec F S1x384 .f32) (x3 : Vec F S384x384 .bf16) (x4 : Vec F S8x384 .bf16) (x5 : Vec F S1x384 .f32) (x6 : Vec F S576x8 .f32) (x7 : Vec F S9216x384 .bf16) (x8 : Vec F S1x9216 .f32) : Vec F S576x1 .f32 :=
  View.canon [⟨r1_10, k1_pay1 (k1_pay9 x0 x1 x2 x3 x4 x5 x6 x7 x8) (k1_pay8 (k1_pay2 (View.ld x6 r1_3)))⟩]

/-- Its stores tile the buffer, so they cover it. -/
theorem cover1_10 (p0 : Vec F S576x1 .f32) (y : S576x1.Idx) :
    ∃ pc ∈ ([⟨r1_10, p0⟩] : List (View.Piece (Elt F) S576x1 .f32)), y ∈ pc.1.set :=
  View.cover_of_tiled [⟨r1_10, p0⟩] S576x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs, through every part call. -/
theorem sound_kernel1 (c : Dev nD) (E : Set ℕ) (i : grid1.Coords) (arg1 : Memref sig .tc .vmem S576x768 .bf16) (harg1 : arg1.IsWhole) (arg2 : Memref sig .tc .vmem S768x384 .bf16) (harg2 : arg2.IsWhole) (arg3 : Memref sig .tc .vmem S1x384 .f32) (harg3 : arg3.IsWhole) (arg4 : Memref sig .tc .vmem S384x384 .bf16) (harg4 : arg4.IsWhole) (arg5 : Memref sig .tc .vmem S8x384 .bf16) (harg5 : arg5.IsWhole) (arg6 : Memref sig .tc .vmem S1x384 .f32) (harg6 : arg6.IsWhole) (arg7 : Memref sig .tc .vmem S576x8 .f32) (harg7 : arg7.IsWhole) (arg8 : Memref sig .tc .vmem S9216x384 .bf16) (harg8 : arg8.IsWhole) (arg9 : Memref sig .tc .vmem S1x9216 .f32) (harg9 : arg9.IsWhole) (arg10 : Memref sig .tc .vmem S576x1 .f32) (harg10 : arg10.IsWhole) (arg11 : Memref sig .tc .vmem S576x1 .f32) (harg11 : arg11.IsWhole)
    (x0 : Vec F S576x768 .bf16) (x1 : Vec F S768x384 .bf16) (x2 : Vec F S1x384 .f32) (x3 : Vec F S384x384 .bf16) (x4 : Vec F S8x384 .bf16) (x5 : Vec F S1x384 .f32) (x6 : Vec F S576x8 .f32) (x7 : Vec F S9216x384 .bf16) (x8 : Vec F S1x9216 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8) ∗ owns (c : Thread nD τ) arg11 fullShare (out1_10 x0 x1 x2 x3 x4 x5 x6 x7 x8)) -∗ K ⟨⟩))
      ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11) K := by
  simp only [cc1__main_kernel_eq_skeleton]; unfold cc1__main_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover1_9 _)).trans ?_
    rfl
  iexists _; isplitr
  swap; · iexact H10
  ipureintro
  refine (View.read_writes_eq_canon _ _ _ (cover1_10 _)).trans ?_
  rfl

/-! ## The pipeline's proof data -/

/-- The proof data of pipeline 1 on core `c`: the arrays as the region finds them (`V`); after the body at
    point `t` each input's buffer at its block and each output's at `out1_W` of the input blocks; the invariant the
    class's; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- What window 1 of call 1 holds after a grid point's body. -/
theorem after1_1 (c : Dev nD) (t : Fin cfg1.N) : (dat1 V c).after 1 t = iblk1 V c 1 t := by dsimp only [dat1]
/-- What window 2 of call 1 holds after a grid point's body. -/
theorem after1_2 (c : Dev nD) (t : Fin cfg1.N) : (dat1 V c).after 2 t = iblk1 V c 2 t := by dsimp only [dat1]
/-- What window 3 of call 1 holds after a grid point's body. -/
theorem after1_3 (c : Dev nD) (t : Fin cfg1.N) : (dat1 V c).after 3 t = iblk1 V c 3 t := by dsimp only [dat1]
/-- What window 4 of call 1 holds after a grid point's body. -/
theorem after1_4 (c : Dev nD) (t : Fin cfg1.N) : (dat1 V c).after 4 t = iblk1 V c 4 t := by dsimp only [dat1]
/-- What window 5 of call 1 holds after a grid point's body. -/
theorem after1_5 (c : Dev nD) (t : Fin cfg1.N) : (dat1 V c).after 5 t = iblk1 V c 5 t := by dsimp only [dat1]
/-- What window 6 of call 1 holds after a grid point's body. -/
theorem after1_6 (c : Dev nD) (t : Fin cfg1.N) : (dat1 V c).after 6 t = iblk1 V c 6 t := by dsimp only [dat1]
/-- What window 7 of call 1 holds after a grid point's body. -/
theorem after1_7 (c : Dev nD) (t : Fin cfg1.N) : (dat1 V c).after 7 t = iblk1 V c 7 t := by dsimp only [dat1]
/-- What window 8 of call 1 holds after a grid point's body. -/
theorem after1_8 (c : Dev nD) (t : Fin cfg1.N) : (dat1 V c).after 8 t = iblk1 V c 8 t := by dsimp only [dat1]
/-- What window 9 of call 1 holds after a grid point's body. -/
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
/-- What window 10 of call 1 holds after a grid point's body. -/
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What window 1 of call 1 holds before a grid point's body: the block of its array there. -/
theorem before1_1 (c : Dev nD) (t : Fin cfg1.N) (d) : (dat1 V c).before 1 t d = iblk1 V c 1 t :=
  before1_1_of V (dat1 V c) (A_eq1 V c 1) (after1_1 V c) t d
/-- What window 2 of call 1 holds before a grid point's body: the block of its array there. -/
theorem before1_2 (c : Dev nD) (t : Fin cfg1.N) (d) : (dat1 V c).before 2 t d = iblk1 V c 2 t :=
  before1_2_of V (dat1 V c) (A_eq1 V c 2) (after1_2 V c) t d
/-- What window 3 of call 1 holds before a grid point's body: the block of its array there. -/
theorem before1_3 (c : Dev nD) (t : Fin cfg1.N) (d) : (dat1 V c).before 3 t d = iblk1 V c 3 t :=
  before1_3_of V (dat1 V c) (A_eq1 V c 3) (after1_3 V c) t d
/-- What window 4 of call 1 holds before a grid point's body: the block of its array there. -/
theorem before1_4 (c : Dev nD) (t : Fin cfg1.N) (d) : (dat1 V c).before 4 t d = iblk1 V c 4 t :=
  before1_4_of V (dat1 V c) (A_eq1 V c 4) (after1_4 V c) t d
/-- What window 5 of call 1 holds before a grid point's body: the block of its array there. -/
theorem before1_5 (c : Dev nD) (t : Fin cfg1.N) (d) : (dat1 V c).before 5 t d = iblk1 V c 5 t :=
  before1_5_of V (dat1 V c) (A_eq1 V c 5) (after1_5 V c) t d
/-- What window 6 of call 1 holds before a grid point's body: the block of its array there. -/
theorem before1_6 (c : Dev nD) (t : Fin cfg1.N) (d) : (dat1 V c).before 6 t d = iblk1 V c 6 t :=
  before1_6_of V (dat1 V c) (A_eq1 V c 6) (after1_6 V c) t d
/-- What window 7 of call 1 holds before a grid point's body: the block of its array there. -/
theorem before1_7 (c : Dev nD) (t : Fin cfg1.N) (d) : (dat1 V c).before 7 t d = iblk1 V c 7 t :=
  before1_7_of V (dat1 V c) (A_eq1 V c 7) (after1_7 V c) t d
/-- What window 8 of call 1 holds before a grid point's body: the block of its array there. -/
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.Ideal.Run.lean ====
/- The whole program as a run of its items, both kernel calls among the host stretches: what every buffer ends at. -/
module

public import proofs.«01_k».proof.Proof.Ideal.Body0
public import proofs.«01_k».proof.Proof.Ideal.Body1

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_c]
/-- The host operations of stretch 0 write only the buffers of its list. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays. -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v11]
/-- The host operations of stretch 0.1 write only the buffers of its list. -/
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays. -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v12, main_v13, main_v14, main_cst, main_cst_0, main_v15, main_v16, main_cst_1, main_v17, main_v18, main_cst_2, main_v19, main_v20, main_cst_3, main_v21, main_v22, main_cst_4, main_v23, main_v24, main_v25, main_v26, main_v27, main_v28, main_v29, main_v30, main_v31, main_v32, main_v33, main_v34, main_v35, main_cst_5, main_v36, main_v37, main_cst_6, main_v38, main_v39, main_cst_7, main_v40, main_v41, main_v42, main_cst_8, main_v43, main_v44, main_cst_9, main_v45, main_v46, main_c_10]
/-- The host operations of stretch 0.2 write only the buffers of its list. -/
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays. -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_call1_v1, main_v47]
/-- The host operations of stretch 0.3 write only the buffers of its list. -/
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays. -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_v48, main_v49, main_c_11]
/-- The host operations of stretch 0.4 write only the buffers of its list. -/
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays. -/
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- The reference each operation of `hostOps0_5` writes, in order. -/
abbrev hostOps0_5_W : List (Ref sig .tc) := [main_call2_v0, main_call2_v1, main_call2_v2, main_v50]
/-- The host operations of stretch 0.5 write only the buffers of its list. -/
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes none of the argument arrays. -/
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- The reference each operation of `hostOps0_6` writes, in order. -/
abbrev hostOps0_6_W : List (Ref sig .tc) := [main_cst_12, main_v51, main_v52, main_cst_13, main_v53, main_v54, main_v55, main_v56, main_c_14]
/-- The host operations of stretch 0.6 write only the buffers of its list. -/
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes none of the argument arrays. -/
theorem hostOps0_6_args : ∀ a ∈ argRefs, a ∉ hostOps0_6_W := ListAll.forall_mem_of_all_decide (by decide +kernel)

/-- No operation of `hostOps0_7` allocates a buffer. -/
theorem hostOps0_7_fresh : (hostOps0_7 : List (HloOp τ sig (Elt F))).Forall fun op => op.fresh = ∅ := by
  simp only [List.Forall]; repeat' constructor
/-- The reference each operation of `hostOps0_7` writes, in order. -/
abbrev hostOps0_7_W : List (Ref sig .tc) := [main_call3_v0, main_call3_v1, main_call3_v2, main_v57]
/-- The host operations of stretch 0.7 write only the buffers of its list. -/
theorem hostOps0_7_writes : (hostOps0_7 : List (HloOp τ sig (Elt F))).Forall fun op => op.writes ⊆ (hostOps0_7_W.map (Proc.devRef (τ := τ) .tc)).toFinset :=
  StableHlo.forall_writes_sub_of_map rfl
/-- `hostOps0_7` writes none of the argument arrays. -/
theorem hostOps0_7_args : ∀ a ∈ argRefs, a ∉ hostOps0_7_W := ListAll.forall_mem_of_all_decide (by decide +kernel)

/-- No operation of `hostOps0_8` allocates a buffer. -/
theorem hostOps0_8_fresh : (hostOps0_8 : List (HloOp τ sig (Elt F))).Forall fun op => op.fresh = ∅ := by
  simp only [List.Forall]; repeat' constructor
/-- The reference each operation of `hostOps0_8` writes, in order. -/
abbrev hostOps0_8_W : List (Ref sig .tc) := [main_v58]
/-- The host operations of stretch 0.8 write only the buffers of its list. -/
theorem hostOps0_8_writes : (hostOps0_8 : List (HloOp τ sig (Elt F))).Forall fun op => op.writes ⊆ (hostOps0_8_W.map (Proc.devRef (τ := τ) .tc)).toFinset :=
  StableHlo.forall_writes_sub_of_map rfl
/-- `hostOps0_8` writes none of the argument arrays. -/
theorem hostOps0_8_args : ∀ a ∈ argRefs, a ∉ hostOps0_8_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v61, main_v62]
/-- The host operations of stretch 2 write only the buffers of its list. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays. -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- At boundary 0 the arguments are as launched. -/
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- At boundary 1 the arguments are as launched. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- At boundary 2 the arguments are as launched. -/
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- At boundary 3 the arguments are as launched. -/
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
/-- At boundary 4 the arguments are as launched. -/
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
/-- At boundary 5 the arguments are as launched. -/
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
/-- At boundary 6 the arguments are as launched. -/
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6`. -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
/-- At boundary 7 the arguments are as launched. -/
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- After `hostOps0_7`. -/
abbrev W8 : Dev nD → Valuation τ sig (Elt F) := fun c => StableHlo.after hostOps0_7 (W7 m ρ c)
/-- A reference `hostOps0_7` does not write keeps its contents across it. -/
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
/-- At boundary 8 the arguments are as launched. -/
theorem W8_args (c : Dev nD) : ∀ a ∈ argRefs, W8 m ρ c (Proc.devRef .tc a) = m ((c : Thread nD τ).loc a) :=
  fun a ha => (W8_of m ρ c a (hostOps0_7_args a ha)).trans (W7_args m ρ c a ha)
/-- After `hostOps0_8` (region 0's entry). -/
abbrev W9 : Dev nD → Valuation τ sig (Elt F) := fun c => StableHlo.after hostOps0_8 (W8 m ρ c)
/-- A reference `hostOps0_8` does not write keeps its contents across it. -/
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
/-- At boundary 9 the arguments are as launched. -/
theorem W9_args (c : Dev nD) : ∀ a ∈ argRefs, W9 m ρ c (Proc.devRef .tc a) = m ((c : Thread nD τ).loc a) :=
  fun a ha => (W9_of m ρ c a (hostOps0_8_args a ha)).trans (W8_args m ρ c a ha)
/-- The same read at the TensorCore's references (what region 0's proof data take). -/
abbrev V9 : (c : Dev nD) → (b : Ref sig .tc) → Buf (Elt F) ((c : Thread nD τ).loc b) := fun c b => W9 m ρ c b
/-- At region 0's exit: its arrays at what the pipeline leaves (the inputs as entered, each output's write-backs
    folded: `Dat.arrAt … N`), every other buffer as entered (region 1's entry). -/
def W10 (c : Dev nD) : Valuation τ sig (Elt F) :=
  Pipeline.withArrays spec0 c (W9 m ρ c) fun w => (dat0 (V9 m ρ) c).arrAt w cfg0.N
/-- At boundary 10 a window's array holds what the call before it leaves there. -/
theorem W10_arr (c : Dev nD) (w : Fin cfg0.W) :
    W10 m ρ c (Proc.devRef .tc (Pipeline.arrRef spec0 w)) = (dat0 (V9 m ρ) c).arrAt w cfg0.N := by
  unfold W10; exact Pipeline.withArrays_arr spec0 launch0.win.arr_inj c _ _ w
/-- At boundary 10 a buffer that is no window's array holds what it held before the call. -/
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
/-- A reference that is none of region 0's OUTPUT arrays keeps its entry contents across it: an input window's
    array is never written back (`Dat.arrAt_in`, `A_eq0`); any other buffer is left as is. -/
theorem W10_of (c : Dev nD) (r : Ref sig .tc) (h : ∀ w : Fin cfg0.W, Pipeline.arrRef spec0 w = r → (cfg0.win w).isOut = false) :
    W10 m ρ c (Proc.devRef .tc r) = W9 m ρ c (Proc.devRef .tc r) := by
  by_cases hw : ∃ w : Fin cfg0.W, Pipeline.arrRef spec0 w = r
  · obtain ⟨w, rfl⟩ := hw
    exact (W10_arr m ρ c w).trans (((dat0 (V9 m ρ) c).arrAt_in w (h w rfl) _).trans (A_eq0 (V9 m ρ) c w))
  · exact W10_of_ne m ρ c r fun w e => hw ⟨w, e⟩
/-- Every argument among region 0's arrays is an input window's. -/
theorem argsIn0 : ∀ a ∈ argRefs, ∀ w : Fin cfg0.W, Pipeline.arrRef spec0 w = a → (cfg0.win w).isOut = false :=
  ListAll.forall_mem_of_all_decide (by decide +kernel)
/-- At boundary 10 the arguments are as launched. -/
theorem W10_args (c : Dev nD) : ∀ a ∈ argRefs, W10 m ρ c (Proc.devRef .tc a) = m ((c : Thread nD τ).loc a) :=
  fun a ha => (W10_of m ρ c a (argsIn0 a ha)).trans (W9_args m ρ c a ha)
/-- The same read at the TensorCore's references (region 0's exit contents). -/
abbrev V10 : (c : Dev nD) → (b : Ref sig .tc) → Buf (Elt F) ((c : Thread nD τ).loc b) := fun c b => W10 m ρ c b
/-- At region 0's exit each of its arrays holds what the pipeline leaves (`hF0`) and every other buffer what it
    held at entry (`hrest0`). -/
theorem hF0 (c : Dev nD) (w : Fin cfg0.W) : (dat0 (V9 m ρ) c).arrAt w cfg0.N = V10 m ρ c (Pipeline.arrRef spec0 w) :=
  (W10_arr m ρ c w).symm
/-- Call 0 leaves every buffer but its windows' arrays alone. -/
theorem hrest0 (c : Dev nD) : ∀ b, b ∉ Finset.univ.image (Pipeline.arrRef spec0) → V10 m ρ c b = V9 m ρ c b :=
  fun b hb => W10_of_ne m ρ c b fun w e => hb (Finset.mem_image.mpr ⟨w, Finset.mem_univ _, e⟩)

/-- At region 1's exit: its arrays at what the pipeline leaves (the inputs as entered, each output's write-backs
    folded: `Dat.arrAt … N`), every other buffer as entered. -/
def W11 (c : Dev nD) : Valuation τ sig (Elt F) :=
  Pipeline.withArrays spec1 c (W10 m ρ c) fun w => (dat1 (V10 m ρ) c).arrAt w cfg1.N
/-- At boundary 11 a window's array holds what the call before it leaves there. -/
theorem W11_arr (c : Dev nD) (w : Fin cfg1.W) :
    W11 m ρ c (Proc.devRef .tc (Pipeline.arrRef spec1 w)) = (dat1 (V10 m ρ) c).arrAt w cfg1.N := by
  unfold W11; exact Pipeline.withArrays_arr spec1 launch1.win.arr_inj c _ _ w
/-- At boundary 11 a buffer that is no window's array holds what it held before the call. -/
theorem W11_of_ne (c : Dev nD) (b : Ref sig .tc) (hb : ∀ w, Pipeline.arrRef spec1 w ≠ b) :
    W11 m ρ c (Proc.devRef .tc b) = W10 m ρ c (Proc.devRef .tc b) := by
  unfold W11; exact Pipeline.withArrays_of_ne spec1 c _ _ b hb
/-- A reference that is none of region 1's OUTPUT arrays keeps its entry contents across it: an input window's
    array is never written back (`Dat.arrAt_in`, `A_eq1`); any other buffer is left as is. -/
theorem W11_of (c : Dev nD) (r : Ref sig .tc) (h : ∀ w : Fin cfg1.W, Pipeline.arrRef spec1 w = r → (cfg1.win w).isOut = false) :
    W11 m ρ c (Proc.devRef .tc r) = W10 m ρ c (Proc.devRef .tc r) := by
  by_cases hw : ∃ w : Fin cfg1.W, Pipeline.arrRef spec1 w = r
  · obtain ⟨w, rfl⟩ := hw
    exact (W11_arr m ρ c w).trans (((dat1 (V10 m ρ) c).arrAt_in w (h w rfl) _).trans (A_eq1 (V10 m ρ) c w))
  · exact W11_of_ne m ρ c r fun w e => hw ⟨w, e⟩
/-- Every argument among region 1's arrays is an input window's. -/
theorem argsIn1 : ∀ a ∈ argRefs, ∀ w : Fin cfg1.W, Pipeline.arrRef spec1 w = a → (cfg1.win w).isOut = false :=
  ListAll.forall_mem_of_all_decide (by decide +kernel)
/-- At boundary 11 the arguments are as launched. -/
theorem W11_args (c : Dev nD) : ∀ a ∈ argRefs, W11 m ρ c (Proc.devRef .tc a) = m ((c : Thread nD τ).loc a) :=
  fun a ha => (W11_of m ρ c a (argsIn1 a ha)).trans (W10_args m ρ c a ha)
/-- The same read at the TensorCore's references (region 1's exit contents). -/
abbrev V11 : (c : Dev nD) → (b : Ref sig .tc) → Buf (Elt F) ((c : Thread nD τ).loc b) := fun c b => W11 m ρ c b
/-- At region 1's exit each of its arrays holds what the pipeline leaves (`hF1`) and every other buffer what it
    held at entry (`hrest1`). -/
theorem hF1 (c : Dev nD) (w : Fin cfg1.W) : (dat1 (V10 m ρ) c).arrAt w cfg1.N = V11 m ρ c (Pipeline.arrRef spec1 w) :=
  (W11_arr m ρ c w).symm
/-- Call 1 leaves every buffer but its windows' arrays alone. -/
theorem hrest1 (c : Dev nD) : ∀ b, b ∉ Finset.univ.image (Pipeline.arrRef spec1) → V11 m ρ c b = V10 m ρ c b :=
  fun b hb => W11_of_ne m ρ c b fun w e => hb (Finset.mem_image.mpr ⟨w, Finset.mem_univ _, e⟩)

/-- After `hostOps2`. -/
abbrev W12 : Dev nD → Valuation τ sig (Elt F) := fun c => StableHlo.after hostOps2 (W11 m ρ c)
/-- A reference `hostOps2` does not write keeps its contents across it. -/
theorem W12_of (c : Dev nD) (r : Ref sig .tc) (h : r ∉ hostOps2_W) : W12 m ρ c (Proc.devRef .tc r) = W11 m ρ c (Proc.devRef .tc r) :=
  StableHlo.after_of_writes_sub hostOps2 _ hostOps2_writes h
/-- At boundary 12 the arguments are as launched. -/
theorem W12_args (c : Dev nD) : ∀ a ∈ argRefs, W12 m ρ c (Proc.devRef .tc a) = m ((c : Thread nD τ).loc a) :=
  fun a ha => (W12_of m ρ c a (hostOps2_args a ha)).trans (W11_args m ρ c a ha)

/-! ### The arguments end as launched: no host stretch writes one and no region may change one (a region reads it
    through an input window or bypasses it) -/

/-- Argument 0 ends as launched. -/
theorem W12_main_arg0 (c : Dev nD) : W12 m ρ c (Proc.devRef .tc main_arg0) = m ((c : Thread nD τ).loc main_arg0) :=
  W12_args m ρ c main_arg0 (by decide)
/-- Argument 1 ends as launched. -/
theorem W12_main_arg1 (c : Dev nD) : W12 m ρ c (Proc.devRef .tc main_arg1) = m ((c : Thread nD τ).loc main_arg1) :=
  W12_args m ρ c main_arg1 (by decide)
/-- Argument 2 ends as launched. -/
theorem W12_main_arg2 (c : Dev nD) : W12 m ρ c (Proc.devRef .tc main_arg2) = m ((c : Thread nD τ).loc main_arg2) :=
  W12_args m ρ c main_arg2 (by decide)
/-- Argument 3 ends as launched. -/
theorem W12_main_arg3 (c : Dev nD) : W12 m ρ c (Proc.devRef .tc main_arg3) = m ((c : Thread nD τ).loc main_arg3) :=
  W12_args m ρ c main_arg3 (by decide)
/-- Argument 4 ends as launched. -/
theorem W12_main_arg4 (c : Dev nD) : W12 m ρ c (Proc.devRef .tc main_arg4) = m ((c : Thread nD τ).loc main_arg4) :=
  W12_args m ρ c main_arg4 (by decide)
/-- Argument 5 ends as launched. -/
theorem W12_main_arg5 (c : Dev nD) : W12 m ρ c (Proc.devRef .tc main_arg5) = m ((c : Thread nD τ).loc main_arg5) :=
  W12_args m ρ c main_arg5 (by decide)
/-- Argument 6 ends as launched. -/
theorem W12_main_arg6 (c : Dev nD) : W12 m ρ c (Proc.devRef .tc main_arg6) = m ((c : Thread nD τ).loc main_arg6) :=
  W12_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V9 m ρ) c
  | ⟨1, _⟩ => fun c => dat1 (V10 m ρ) c
/-- No loop needs a variant. -/
abbrev 𝒱₀ : Variants := Variants.none
/-- No core owes another anything: no level is assigned. -/
abbrev L : GSem nD τ sig → Finset Unit := fun _ => ∅
/-- Every semaphore at level zero. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W12`, the generator register at some state. -/
abbrev Tₙ (c : Dev nD) : sProp 𝕄 := iprop(StableHlo.held (c : Thread nD τ) (Pipeline.ucRefs τ sig) (W12 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W9`, left at `W10`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9 m ρ) c).loose
  hwaits := Pipeline.hwaits_of_owed_zero _ _ _ _ L lv 0 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec0 c (V9 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V9 m ρ c) (A_eq0 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V9 m ρ c) (V10 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W10`, left at `W11`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V10 m ρ) c).loose
  hwaits := Pipeline.hwaits_of_owed_zero _ _ _ _ L lv 1 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec1 c (V10 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V10 m ρ c) (A_eq1 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V10 m ρ c) (V11 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 12 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .region (reg1 m ρ),
    .host (hseg hostOps2 hostOps2_sub hostOps2_fresh (W11 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the launch theorem's implicit arguments are found by unifying its conclusion with this one
set_option backward.isDefEq.respectTransparency.types false in
/-- THE RUN: from any memory with zero counters every fair execution ends, nothing faulting, with every unscoped buffer at
    the contents the fold through the items gives it, and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W12 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨h, funext fun g => hz g (.inr (no_unscoped g.2))⟩)

/-- THE FRAME: every argument ends as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun s h => ⟨fun c =>
      ⟨(h.1 c _ (mem_uc main_arg0 (by decide))).trans (W12_main_arg0 m ρ c),
       (h.1 c _ (mem_uc main_arg1 (by decide))).trans (W12_main_arg1 m ρ c),
       (h.1 c _ (mem_uc main_arg2 (by decide))).trans (W12_main_arg2 m ρ c),
       (h.1 c _ (mem_uc main_arg3 (by decide))).trans (W12_main_arg3 m ρ c),
       (h.1 c _ (mem_uc main_arg4 (by decide))).trans (W12_main_arg4 m ρ c),
       (h.1 c _ (mem_uc main_arg5 (by decide))).trans (W12_main_arg5 m ρ c),
       (h.1 c _ (mem_uc main_arg6 (by decide))).trans (W12_main_arg6 m ρ c)⟩, h.2⟩) (run m ρ)

end Cert.KernelIdeal.Hand

end
-- ==== Proof.Value.Host.lean ====
/- What the host lines around the kernel calls compute. -/
module

public import proofs.«01_k».proof.Proof.Ideal.Run
public import Idealize.ShloMosaic.Lib.StableHlo.Run
public import Idealize.ShloMosaic.Lib.Pointwise

@[expose] public section

set_option maxRecDepth 16384

noncomputable section

namespace Cert.KernelIdeal.Hand

open Idealize.ShloMosaic Idealize.ShloMosaic.TcCoe Idealize.SL.Sem Idealize.ShloMosaic.StableHlo
open Cert.KernelIdeal.Gen

/-- The sampling positions of the resize. -/
def samp : FVec Ideal S24 .f32 :=
  subf (subf (mulf (addf (sitofp .f32 (iotaInDim S24 32 0)) (broadcastInDim S24 ![] bcast_S_S24 (constant S_ .f32 0x3F000000#32))) (broadcastInDim S24 ![] bcast_S_S24 (constant S_ .f32 0x41800000#32))) (broadcastInDim S24 ![] bcast_S_S24 (constant S_ .f32 0x00000000#32))) (broadcastInDim S24 ![] bcast_S_S24 (constant S_ .f32 0x3F000000#32))

/-- The triangle weights before they are normalised. -/
def tri : FVec Ideal S384x24 .f32 :=
  maximumf (broadcastInDim S384x24 ![] bcast_S_S384x24 (constant S_ .f32 0x00000000#32)) (subf (broadcastInDim S384x24 ![] bcast_S_S384x24 (constant S_ .f32 0x3F800000#32)) (Host.absf (Host.divf (Host.absf (subf (broadcastInDim S384x24 ![0, 1] bcast_S1x24_S384x24_0_1 (broadcastInDim S1x24 ![1] bcast_S24_S1x24_1 samp)) (broadcastInDim S384x24 ![0, 1] bcast_S384x1_S384x24_0_1 (broadcastInDim S384x1 ![0] bcast_S384_S384x1_0 (sitofp .f32 (iotaInDim S384 32 0)))))) (broadcastInDim S384x24 ![] bcast_S_S384x24 (id (maximumf (constant S_ .f32 0x41800000#32) (constant S_ .f32 0x3F800000#32)))))))

/-- The column sums of the triangle weights. -/
def tot : FVec Ideal S1x24 .f32 :=
  broadcastInDim S1x24 ![1] bcast_S24_S1x24_1 (Host.reduceAdd tri (constant S_ .f32 0x00000000#32) reducesTo_S384x24_S24_d0 h_S_)

/-- The weight matrix of the resize. -/
def wmat : FVec Ideal S384x24 .f32 :=
  select (broadcastInDim S384x24 ![0, 1] bcast_S1x24_S384x24_0_1 (broadcastInDim S1x24 ![1] bcast_S24_S1x24_1 (andi (cmpf .oge samp (broadcastInDim S24 ![] bcast_S_S24 (constant S_ .f32 0xBF000000#32))) (cmpf .ole samp (broadcastInDim S24 ![] bcast_S_S24 (constant S_ .f32 0x43BFC000#32)))))) (select (broadcastInDim S384x24 ![0, 1] bcast_S1x24_S384x24_0_1 (cmpf .ogt (Host.absf tot) (broadcastInDim S1x24 ![] bcast_S_S1x24 (constant S_ .f32 0x38FA0000#32)))) (Host.divf tri (broadcastInDim S384x24 ![0, 1] bcast_S1x24_S384x24_0_1 (select (cmpf .une tot (broadcastInDim S1x24 ![] bcast_S_S1x24 (constant S_ .f32 0x00000000#32))) tot (broadcastInDim S1x24 ![] bcast_S_S1x24 (sitofp .f32 (constantI S_ 32 1#32)))))) (broadcastInDim S384x24 ![] bcast_S_S384x24 (sitofp .f32 (constantI S_ 32 0#32)))) (broadcastInDim S384x24 ![] bcast_S_S384x24 (sitofp .f32 (constantI S_ 32 0#32)))

/-! ### The longest stretch: the weights before the selections -/

/-- The sampling positions after the long stretch. -/
theorem st2_v24 (V0 : Valuation τ sig (Elt Ideal)) : after hostOps0_2 V0 (Proc.devRef .tc main_v24) = samp := by
  unfold hostOps0_2
  after_results_simp
  rfl
/-- The triangle weights after the long stretch. -/
theorem st2_v39 (V0 : Valuation τ sig (Elt Ideal)) : after hostOps0_2 V0 (Proc.devRef .tc main_v39) = tri := by
  unfold hostOps0_2
  after_results_simp
  rfl
/-- The column sums after the long stretch. -/
theorem st2_v41 (V0 : Valuation τ sig (Elt Ideal)) : after hostOps0_2 V0 (Proc.devRef .tc main_v41) = tot := by
  unfold hostOps0_2
  after_results_simp
  rfl

/-- The divisors of the columns. -/
def selDiv (p : IVec S1x24 1) (t : FVec Ideal S1x24 .f32) (c : IVec S_ 32) : FVec Ideal S1x24 .f32 :=
  select p t (broadcastInDim S1x24 ![] bcast_S_S1x24 (sitofp .f32 c))
/-- The normalised weights. -/
def normed (a : FVec Ideal S384x24 .f32) (b : FVec Ideal S1x24 .f32) : FVec Ideal S384x24 .f32 :=
  Host.divf a (broadcastInDim S384x24 ![0, 1] bcast_S1x24_S384x24_0_1 b)
/-- The columns that are kept, the others filled. -/
def keepCols (p : IVec S1x24 1) (v : FVec Ideal S384x24 .f32) (c : IVec S_ 32) : FVec Ideal S384x24 .f32 :=
  select (broadcastInDim S384x24 ![0, 1] bcast_S1x24_S384x24_0_1 p) v (broadcastInDim S384x24 ![] bcast_S_S384x24 (sitofp .f32 c))
/-- Which sampling positions lie in the image. -/
def inside (s : FVec Ideal S24 .f32) : IVec S1x24 1 :=
  broadcastInDim S1x24 ![1] bcast_S24_S1x24_1 (andi (cmpf .oge s (broadcastInDim S24 ![] bcast_S_S24 (constant S_ .f32 0xBF000000#32))) (cmpf .ole s (broadcastInDim S24 ![] bcast_S_S24 (constant S_ .f32 0x43BFC000#32))))
/-- Padding of the geometry weights by three zero rows. -/
def padRows (x : FVec Ideal S5x384 .f32) (c : IVec S_ 32) : FVec Ideal S8x384 .f32 :=
  pad S8x384 ![0, 0] ![3, 0] ![0, 0] x (sitofp .f32 c) pads_S5x384_S8x384_030_000 h_S_

/-- Which columns have weights at all. -/
theorem st2_v44 (V0 : Valuation τ sig (Elt Ideal)) : after hostOps0_2 V0 (Proc.devRef .tc main_v44) = cmpf .ogt (Host.absf tot) (broadcastInDim S1x24 ![] bcast_S_S1x24 (constant S_ .f32 0x38FA0000#32)) := by
  unfold hostOps0_2
  try simp only [TRef.binary, TRef.nullary, TRef.unary, TRef.ternary, TRef.toBuf, TRef.ofBuf, cast_eq]
  after_results_simp
  all_goals rfl

/-- Which columns have a sum to divide by. -/
theorem st2_v46 (V0 : Valuation τ sig (Elt Ideal)) : after hostOps0_2 V0 (Proc.devRef .tc main_v46) = cmpf .une tot (broadcastInDim S1x24 ![] bcast_S_S1x24 (constant S_ .f32 0x00000000#32)) := by
  unfold hostOps0_2
  try simp only [TRef.binary, TRef.nullary, TRef.unary, TRef.ternary, TRef.toBuf, TRef.ofBuf, cast_eq]
  after_results_simp
  all_goals rfl

/-- The divisor that stands in for a zero sum. -/
theorem st2_c_10 (V0 : Valuation τ sig (Elt Ideal)) : after hostOps0_2 V0 (Proc.devRef .tc main_c_10) = constantI S_ 32 1#32 := by
  unfold hostOps0_2
  try simp only [TRef.binary, TRef.nullary, TRef.unary, TRef.ternary, TRef.toBuf, TRef.ofBuf, cast_eq]
  after_results_simp
  all_goals rfl

/-- The geometry part of the fusing weights. -/
theorem st2_v12 (V0 : Valuation τ sig (Elt Ideal)) : after hostOps0_2 V0 (Proc.devRef .tc main_v12) = (truncf .bf16 ((V0 (Proc.devRef .tc main_v11)) : FVec Ideal S8x384 .f32) bitsLt_bf16_f32 : FVec Ideal S8x384 .bf16) := by
  unfold hostOps0_2
  try simp only [TRef.binary, TRef.nullary, TRef.unary, TRef.ternary, TRef.toBuf, TRef.ofBuf, cast_eq]
  after_results_simp
  all_goals rfl

/-- The fusing bias. -/
theorem st2_v13 (V0 : Valuation τ sig (Elt Ideal)) : after hostOps0_2 V0 (Proc.devRef .tc main_v13) = (shapeCast S1x384 ((V0 (Proc.devRef .tc main_arg5)) : FVec Ideal S384 .f32) shapeCasts_S384_S1x384 : FVec Ideal S1x384 .f32) := by
  unfold hostOps0_2
  try simp only [TRef.binary, TRef.nullary, TRef.unary, TRef.ternary, TRef.toBuf, TRef.ofBuf, cast_eq]
  after_results_simp
  all_goals rfl

/-- The bank. -/
theorem st2_v14 (V0 : Valuation τ sig (Elt Ideal)) : after hostOps0_2 V0 (Proc.devRef .tc main_v14) = (truncf .bf16 ((V0 (Proc.devRef .tc main_arg6)) : FVec Ideal S9216x384 .f32) bitsLt_bf16_f32 : FVec Ideal S9216x384 .bf16) := by
  unfold hostOps0_2
  try simp only [TRef.binary, TRef.nullary, TRef.unary, TRef.ternary, TRef.toBuf, TRef.ofBuf, cast_eq]
  after_results_simp
  all_goals rfl

/-- The divisors of the columns. -/
theorem st3_v47 (V0 : Valuation τ sig (Elt Ideal)) : after hostOps0_3 V0 (Proc.devRef .tc main_v47) = selDiv (V0 (Proc.devRef .tc main_v46)) (V0 (Proc.devRef .tc main_v41)) (V0 (Proc.devRef .tc main_c_10)) := by
  unfold hostOps0_3
  try simp only [TRef.binary, TRef.nullary, TRef.unary, TRef.ternary, TRef.toBuf, TRef.ofBuf, cast_eq]
  after_results_simp
  all_goals rfl

/-- The normalised weights. -/
theorem st4_v49 (V0 : Valuation τ sig (Elt Ideal)) : after hostOps0_4 V0 (Proc.devRef .tc main_v49) = normed (V0 (Proc.devRef .tc main_v39)) (V0 (Proc.devRef .tc main_v47)) := by
  unfold hostOps0_4
  try simp only [TRef.binary, TRef.nullary, TRef.unary, TRef.ternary, TRef.toBuf, TRef.ofBuf, cast_eq]
  after_results_simp
  all_goals rfl

/-- The zero of the first selection. -/
theorem st4_c_11 (V0 : Valuation τ sig (Elt Ideal)) : after hostOps0_4 V0 (Proc.devRef .tc main_c_11) = constantI S_ 32 0#32 := by
  unfold hostOps0_4
  try simp only [TRef.binary, TRef.nullary, TRef.unary, TRef.ternary, TRef.toBuf, TRef.ofBuf, cast_eq]
  after_results_simp
  all_goals rfl

/-- The weights of the columns that have any. -/
theorem st5_v50 (V0 : Valuation τ sig (Elt Ideal)) : after hostOps0_5 V0 (Proc.devRef .tc main_v50) = keepCols (V0 (Proc.devRef .tc main_v44)) (V0 (Proc.devRef .tc main_v49)) (V0 (Proc.devRef .tc main_c_11)) := by
  unfold hostOps0_5
  try simp only [TRef.binary, TRef.nullary, TRef.unary, TRef.ternary, TRef.toBuf, TRef.ofBuf, cast_eq]
  after_results_simp
  all_goals rfl

/-- Which sampling positions lie in the image. -/
theorem st6_v56 (V0 : Valuation τ sig (Elt Ideal)) : after hostOps0_6 V0 (Proc.devRef .tc main_v56) = inside (V0 (Proc.devRef .tc main_v24)) := by
  unfold hostOps0_6
  try simp only [TRef.binary, TRef.nullary, TRef.unary, TRef.ternary, TRef.toBuf, TRef.ofBuf, cast_eq]
  after_results_simp
  all_goals rfl

/-- The zero of the second selection. -/
theorem st6_c_14 (V0 : Valuation τ sig (Elt Ideal)) : after hostOps0_6 V0 (Proc.devRef .tc main_c_14) = constantI S_ 32 0#32 := by
  unfold hostOps0_6
  try simp only [TRef.binary, TRef.nullary, TRef.unary, TRef.ternary, TRef.toBuf, TRef.ofBuf, cast_eq]
  after_results_simp
  all_goals rfl

/-- The weights of the sampling positions in the image. -/
theorem st7_v57 (V0 : Valuation τ sig (Elt Ideal)) : after hostOps0_7 V0 (Proc.devRef .tc main_v57) = keepCols (V0 (Proc.devRef .tc main_v56)) (V0 (Proc.devRef .tc main_v50)) (V0 (Proc.devRef .tc main_c_14)) := by
  unfold hostOps0_7
  try simp only [TRef.binary, TRef.nullary, TRef.unary, TRef.ternary, TRef.toBuf, TRef.ofBuf, cast_eq]
  after_results_simp
  all_goals rfl

/-- The padded geometry weights. -/
theorem st1_v11 (V0 : Valuation τ sig (Elt Ideal)) : after hostOps0_1 V0 (Proc.devRef .tc main_v11) = padRows (V0 (Proc.devRef .tc main_v10)) (V0 (Proc.devRef .tc main_c)) := by
  unfold hostOps0_1
  try simp only [TRef.binary, TRef.nullary, TRef.unary, TRef.ternary, TRef.toBuf, TRef.ofBuf, cast_eq]
  after_results_simp
  all_goals rfl

/-- The resize operator. -/
theorem st8_v58 (V0 : Valuation τ sig (Elt Ideal)) : after hostOps0_8 V0 (Proc.devRef .tc main_v58) = (transpose S24x384 [1, 0] ((V0 (Proc.devRef .tc main_v57)) : FVec Ideal S384x24 .f32) transposes_S384x24_S24x384_1_0 : FVec Ideal S24x384 .f32) := by
  unfold hostOps0_8
  try simp only [TRef.binary, TRef.nullary, TRef.unary, TRef.ternary, TRef.toBuf, TRef.ofBuf, cast_eq]
  after_results_simp
  all_goals rfl

/-- The images. -/
theorem st0_v0 (V0 : Valuation τ sig (Elt Ideal)) : after hostOps0 V0 (Proc.devRef .tc main_v0) = (truncf .bf16 ((V0 (Proc.devRef .tc main_arg0)) : FVec Ideal S4x3x384x384 .f32) bitsLt_bf16_f32 : FVec Ideal S4x3x384x384 .bf16) := by
  unfold hostOps0
  try simp only [TRef.binary, TRef.nullary, TRef.unary, TRef.ternary, TRef.toBuf, TRef.ofBuf, cast_eq]
  after_results_simp
  all_goals rfl

/-- The patch weights. -/
theorem st0_v3 (V0 : Valuation τ sig (Elt Ideal)) : after hostOps0 V0 (Proc.devRef .tc main_v3) = (truncf .bf16 (shapeCast S768x384 (transpose S16x3x16x384 [3, 1, 2, 0] ((V0 (Proc.devRef .tc main_arg2)) : FVec Ideal S384x3x16x16 .f32) transposes_S384x3x16x16_S16x3x16x384_3_1_2_0) shapeCasts_S16x3x16x384_S768x384 : FVec Ideal S768x384 .f32) bitsLt_bf16_f32 : FVec Ideal S768x384 .bf16) := by
  unfold hostOps0
  try simp only [TRef.binary, TRef.nullary, TRef.unary, TRef.ternary, TRef.toBuf, TRef.ofBuf, cast_eq]
  after_results_simp
  all_goals rfl

/-- The patch bias. -/
theorem st0_v4 (V0 : Valuation τ sig (Elt Ideal)) : after hostOps0 V0 (Proc.devRef .tc main_v4) = (shapeCast S1x384 ((V0 (Proc.devRef .tc main_arg3)) : FVec Ideal S384 .f32) shapeCasts_S384_S1x384 : FVec Ideal S1x384 .f32) := by
  unfold hostOps0
  try simp only [TRef.binary, TRef.nullary, TRef.unary, TRef.ternary, TRef.toBuf, TRef.ofBuf, cast_eq]
  after_results_simp
  all_goals rfl

/-- The feature part of the fusing weights. -/
theorem st0_v8 (V0 : Valuation τ sig (Elt Ideal)) : after hostOps0 V0 (Proc.devRef .tc main_v8) = (truncf .bf16 (transpose S384x384 [1, 0] (extractStridedSlice S384x384 ![0, 0] (shapeCast S384x389 ((V0 (Proc.devRef .tc main_arg4)) : FVec Ideal S384x389x1x1 .f32) shapeCasts_S384x389x1x1_S384x389) slices_S384x389_S384x384_0_0) transposes_S384x384_S384x384_1_0 : FVec Ideal S384x384 .f32) bitsLt_bf16_f32 : FVec Ideal S384x384 .bf16) := by
  unfold hostOps0
  try simp only [TRef.binary, TRef.nullary, TRef.unary, TRef.ternary, TRef.toBuf, TRef.ofBuf, cast_eq]
  after_results_simp
  all_goals rfl

/-- The geometry part of the fusing weights before its padding. -/
theorem st0_v10 (V0 : Valuation τ sig (Elt Ideal)) : after hostOps0 V0 (Proc.devRef .tc main_v10) = (transpose S5x384 [1, 0] (extractStridedSlice S384x5 ![0, 384] (shapeCast S384x389 ((V0 (Proc.devRef .tc main_arg4)) : FVec Ideal S384x389x1x1 .f32) shapeCasts_S384x389x1x1_S384x389) slices_S384x389_S384x5_0_384) transposes_S384x5_S5x384_1_0 : FVec Ideal S5x384 .f32) := by
  unfold hostOps0
  try simp only [TRef.binary, TRef.nullary, TRef.unary, TRef.ternary, TRef.toBuf, TRef.ofBuf, cast_eq]
  after_results_simp
  all_goals rfl

/-- The padding of the geometry weights. -/
theorem st0_c (V0 : Valuation τ sig (Elt Ideal)) : after hostOps0 V0 (Proc.devRef .tc main_c) = constantI S_ 32 0#32 := by
  unfold hostOps0
  try simp only [TRef.binary, TRef.nullary, TRef.unary, TRef.ternary, TRef.toBuf, TRef.ofBuf, cast_eq]
  after_results_simp
  all_goals rfl

end Cert.KernelIdeal.Hand

end

end
-- ==== Proof.Value.Strip.lean ====
/- The patch rows of one image block: every strip of sixteen image rows is rearranged in the same way, and the column of a
   patch row that holds a given pixel of the patch. -/
module

public import proofs.«01_k».proof.Proof.Ideal.Body0
public import Idealize.ShloMosaic.Lib.Pointwise
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Cert.KernelIdeal.Gen

section

variable {F : FTy → Type} [FloatOps F]

/-- Strip 1 of the image is rearranged into patch rows as strip 0 is. -/
theorem strip1_eq (a b d : Vec F S1x1x16x384 .bf16) : k0_pay4 a b d = k0_pay3 a b d := rfl

/-- Strip 2 of the image is rearranged into patch rows as strip 0 is. -/
theorem strip2_eq (a b d : Vec F S1x1x16x384 .bf16) : k0_pay5 a b d = k0_pay3 a b d := rfl

/-- Strip 3 of the image is rearranged into patch rows as strip 0 is. -/
theorem strip3_eq (a b d : Vec F S1x1x16x384 .bf16) : k0_pay6 a b d = k0_pay3 a b d := rfl

/-- Strip 4 of the image is rearranged into patch rows as strip 0 is. -/
theorem strip4_eq (a b d : Vec F S1x1x16x384 .bf16) : k0_pay8 (k0_pay7 a) b d = k0_pay3 a b d := rfl

/-- Strip 5 of the image is rearranged into patch rows as strip 0 is. -/
theorem strip5_eq (a b d : Vec F S1x1x16x384 .bf16) : k0_pay10 (k0_pay9 a) b d = k0_pay3 a b d := rfl

/-- Strip 6 of the image is rearranged into patch rows as strip 0 is. -/
theorem strip6_eq (a b d : Vec F S1x1x16x384 .bf16) : k0_pay12 (k0_pay11 a) b d = k0_pay3 a b d := rfl

/-- Strip 7 of the image is rearranged into patch rows as strip 0 is. -/
theorem strip7_eq (a b d : Vec F S1x1x16x384 .bf16) : k0_pay15 (k0_pay13 a) (k0_pay14 b) d = k0_pay3 a b d := rfl

/-- Strip 8 of the image is rearranged into patch rows as strip 0 is. -/
theorem strip8_eq (a b d : Vec F S1x1x16x384 .bf16) : k0_pay18 (k0_pay16 a) (k0_pay17 b) d = k0_pay3 a b d := rfl

/-- Strip 9 of the image is rearranged into patch rows as strip 0 is. -/
theorem strip9_eq (a b d : Vec F S1x1x16x384 .bf16) : k0_pay21 (k0_pay19 a) (k0_pay20 b) d = k0_pay3 a b d := rfl

/-- Strip 10 of the image is rearranged into patch rows as strip 0 is. -/
theorem strip10_eq (a b d : Vec F S1x1x16x384 .bf16) : k0_pay23 (k0_pay22 a b d) = k0_pay3 a b d := rfl

/-- Strip 11 of the image is rearranged into patch rows as strip 0 is. -/
theorem strip11_eq (a b d : Vec F S1x1x16x384 .bf16) : k0_pay25 (k0_pay24 a b d) = k0_pay3 a b d := rfl

/-- Strip 12 of the image is rearranged into patch rows as strip 0 is. -/
theorem strip12_eq (a b d : Vec F S1x1x16x384 .bf16) : k0_pay28 (k0_pay26 a b d) (k0_pay27 a b d) = k0_pay3 a b d := rfl

/-- Strip 13 of the image is rearranged into patch rows as strip 0 is. -/
theorem strip13_eq (a b d : Vec F S1x1x16x384 .bf16) : k0_pay32 (k0_pay29 a b d) (k0_pay30 a b d) (k0_pay31 a b d) = k0_pay3 a b d := rfl

/-- Strip 14 of the image is rearranged into patch rows as strip 0 is. -/
theorem strip14_eq (a b d : Vec F S1x1x16x384 .bf16) : k0_pay37 (k0_pay33 a b d) (k0_pay34 a b d) (k0_pay35 a b d) (k0_pay36 a b d) = k0_pay3 a b d := rfl

/-- Strip 15 of the image is rearranged into patch rows as strip 0 is. -/
theorem strip15_eq (a b d : Vec F S1x1x16x384 .bf16) : k0_pay43 (k0_pay38 a b d) (k0_pay39 a b d) (k0_pay40 a b d) (k0_pay41 a b d) (k0_pay42 a b d) = k0_pay3 a b d := rfl

/-- Strip 16 of the image is rearranged into patch rows as strip 0 is. -/
theorem strip16_eq (a b d : Vec F S1x1x16x384 .bf16) : k0_pay50 (k0_pay44 a b d) (k0_pay45 a b d) (k0_pay46 a b d) (k0_pay47 a b d) (k0_pay48 a b d) (k0_pay49 a b d) = k0_pay3 a b d := rfl

/-- Strip 17 of the image is rearranged into patch rows as strip 0 is. -/
theorem strip17_eq (a b d : Vec F S1x1x16x384 .bf16) : k0_pay58 (k0_pay51 a b d) (k0_pay52 a b d) (k0_pay53 a b d) (k0_pay54 a b d) (k0_pay55 a b d) (k0_pay56 a b d) (k0_pay57 a b d) = k0_pay3 a b d := rfl

/-- Strip 18 of the image is rearranged into patch rows as strip 0 is. -/
theorem strip18_eq (a b d : Vec F S1x1x16x384 .bf16) : k0_pay67 (k0_pay59 a b d) (k0_pay60 a b d) (k0_pay61 a b d) (k0_pay62 a b d) (k0_pay63 a b d) (k0_pay64 a b d) (k0_pay65 a b d) (k0_pay66 a b d) = k0_pay3 a b d := rfl

/-- Strip 19 of the image is rearranged into patch rows as strip 0 is. -/
theorem strip19_eq (a b d : Vec F S1x1x16x384 .bf16) : k0_pay77 (k0_pay68 a b d) (k0_pay69 a b d) (k0_pay70 a b d) (k0_pay71 a b d) (k0_pay72 a b d) (k0_pay73 a b d) (k0_pay74 a b d) (k0_pay75 a b d) (k0_pay76 a b d) = k0_pay3 a b d := rfl

/-- Strip 20 of the image is rearranged into patch rows as strip 0 is. -/
theorem strip20_eq (a b d : Vec F S1x1x16x384 .bf16) : k0_pay88 (k0_pay78 a b d) (k0_pay79 a b d) (k0_pay80 a b d) (k0_pay81 a b d) (k0_pay82 a b d) (k0_pay83 a b d) (k0_pay84 a b d) (k0_pay85 a b d) (k0_pay86 a b d) (k0_pay87 a b d) = k0_pay3 a b d := rfl

/-- Strip 21 of the image is rearranged into patch rows as strip 0 is. -/
theorem strip21_eq (a b d : Vec F S1x1x16x384 .bf16) : k0_pay100 (k0_pay89 a b d) (k0_pay90 a b d) (k0_pay91 a b d) (k0_pay92 a b d) (k0_pay93 a b d) (k0_pay94 a b d) (k0_pay95 a b d) (k0_pay96 a b d) (k0_pay97 a b d) (k0_pay98 a b d) (k0_pay99 a b d) = k0_pay3 a b d := rfl

/-- Strip 22 of the image is rearranged into patch rows as strip 0 is. -/
theorem strip22_eq (a b d : Vec F S1x1x16x384 .bf16) : k0_pay113 (k0_pay101 a b d) (k0_pay102 a b d) (k0_pay103 a b d) (k0_pay104 a b d) (k0_pay105 a b d) (k0_pay106 a b d) (k0_pay107 a b d) (k0_pay108 a b d) (k0_pay109 a b d) (k0_pay110 a b d) (k0_pay111 a b d) (k0_pay112 a b d) = k0_pay3 a b d := rfl

/-- Strip 23 of the image is rearranged into patch rows as strip 0 is. -/
theorem strip23_eq (a b d : Vec F S1x1x16x384 .bf16) : k0_pay127 (k0_pay114 a b d) (k0_pay115 a b d) (k0_pay116 a b d) (k0_pay117 a b d) (k0_pay118 a b d) (k0_pay119 a b d) (k0_pay120 a b d) (k0_pay121 a b d) (k0_pay122 a b d) (k0_pay123 a b d) (k0_pay124 a b d) (k0_pay125 a b d) (k0_pay126 a b d) = k0_pay3 a b d := rfl

end

/-- The slices `[:, p, :]` of a strip's array are within it. -/
theorem slices_pixel (p : Fin 16) : Shape.Slices S24x16x48 ![0, p.val, 0] S24x1x48 := by
  revert p; decide

/-- Column `48 p + k` of a patch row holds pixel column `p`, entry `k` of the strip's 48 rows. -/
theorem columns_apply (t : FVec Ideal S24x16x48 .bf16) (w : Fin 24) (p : Fin 16) (k : Fin 48) (j : Fin 768)
    (hj : j.val = 48 * p.val + k.val) : k0_pay25 t (ix2 w j) = t (ix3 w p k) := by
  refine (concatenate_ofFn_apply (t := S24x768) (s₁ := S24x48) 1 (fun p : Fin 16 => shapeCast S24x48 (extractStridedSlice S24x1x48
      ![0, p.val, 0] t (slices_pixel p)) shapeCasts_S24x1x48_S24x48)
      concatenates_S24x48_S24x48_S24x48_S24x48_S24x48_S24x48_S24x48_S24x48_S24x48_S24x48_S24x48_S24x48_S24x48_S24x48_S24x48_S24x48_S24x768_d1
      rfl 48 rfl (ix2 w j) p (by show j.val / 48 = _; omega)
      (ix2 w k) (by show k.val = j.val % 48; omega) (by
        intro b hb
        match b with
        | ⟨0, _⟩ => rfl
        | ⟨1, _⟩ => exact absurd rfl hb)).trans ?_
  pointwise
  blk_ext

/-- The strip's 48 rows: channel `c`, row `q` of the strip, at pixel column `16 w + p`. -/
theorem rows_apply (a b d : Vec Ideal S1x1x16x384 .bf16) (w : Fin 24) (p : Fin 16) (c : Fin 3) (q : Fin 16) (k : Fin 48)
    (hk : k.val = 16 * c.val + q.val) (l : Fin 384) (hl : l.val = 16 * w.val + p.val) :
    k0_pay24 a b d (ix3 w p k) = (![a, b, d] c) (ix4 0 0 q l) := by
  pointwise [k0_pay24]
  match c with
  | ⟨0, _⟩ =>
    have hk' : k.val = q.val := by simpa using hk
    rw [dif_pos (by omega)]
    show a _ = a _
    blk_ext
  | ⟨1, _⟩ =>
    have hk' : k.val = 16 + q.val := by simpa using hk
    rw [dif_neg (by omega), dif_pos (by omega)]
    show b _ = b _
    blk_ext
  | ⟨2, _⟩ =>
    have hk' : k.val = 32 + q.val := by simpa using hk
    rw [dif_neg (by omega), dif_neg (by omega)]
    show d _ = d _
    blk_ext

/-- Patch `w` of a strip: column `48 p + 16 c + q` of its row is the pixel at row `q`, column `p` of the patch, channel `c`. -/
theorem strip_apply (a b d : Vec Ideal S1x1x16x384 .bf16) (w : Fin 24) (p : Fin 16) (c : Fin 3) (q : Fin 16) (j : Fin 768)
    (hj : j.val = 48 * p.val + 16 * c.val + q.val) (l : Fin 384) (hl : l.val = 16 * w.val + p.val) :
    k0_pay3 a b d (ix2 w j) = (![a, b, d] c) (ix4 0 0 q l) := by
  show k0_pay25 (k0_pay24 a b d) (ix2 w j) = _
  rw [columns_apply _ w p ⟨16 * c.val + q.val, by omega⟩ j (by show _ = 48 * p.val + (16 * c.val + q.val); omega),
    rows_apply a b d w p c q _ rfl l hl]

end Cert.KernelIdeal.Hand

end

end
-- ==== Proof.Value.Patch.lean ====
/- The patch rows the first kernel call stores for one block of images. -/
module

public import proofs.«01_k».proof.Proof.Value.Strip

@[expose] public section

set_option maxRecDepth 16384

noncomputable section

namespace Cert.KernelIdeal.Hand

open Idealize.ShloMosaic Idealize.ShloMosaic.TcCoe Idealize.SL.Sem
open Cert.KernelIdeal.Gen

/-- A strip's stored rows read the image block, if the strip's three loads do. -/
theorem piece_core (a b d : Vec Ideal S1x1x16x384 .bf16) (x0 : Vec Ideal S1x3x384x384 .bf16) (n : ℕ)
    (ha : ∀ (q : Fin 16) (l k : Fin 384), k.val = 16 * n + q.val → a (ix4 0 0 q l) = x0 (ix4 0 0 k l))
    (hb : ∀ (q : Fin 16) (l k : Fin 384), k.val = 16 * n + q.val → b (ix4 0 0 q l) = x0 (ix4 0 1 k l))
    (hd : ∀ (q : Fin 16) (l k : Fin 384), k.val = 16 * n + q.val → d (ix4 0 0 q l) = x0 (ix4 0 2 k l))
    (r : Fin 576) (i w : Fin 24) (hr : r.val = 24 * i.val + w.val)
    (p : Fin 16) (c : Fin 3) (q : Fin 16) (j : Fin 768)
    (hj : j.val = 48 * p.val + 16 * c.val + q.val) (l k : Fin 384) (hl : l.val = 16 * w.val + p.val) (hk : k.val = 16 * i.val + q.val)
    (x : S24x768.Idx) (h0 : r.val = 24 * n + (x 0).val) (h1 : j.val = (x 1).val) :
    k0_pay3 a b d x = x0 (ix4 0 c k l) := by
  have x0_lt : (x 0).val < 24 := (x 0).isLt
  have hn : i.val = n := by omega
  have hx : x = ix2 w j := by
    funext e
    match e with
    | ⟨0, _⟩ => exact Fin.ext (by show (x 0).val = w.val; omega)
    | ⟨1, _⟩ => exact Fin.ext (by show (x 1).val = j.val; omega)
  rw [hx, strip_apply a b d w p c q j hj l hl]
  match c with
  | ⟨0, _⟩ => exact ha q l k (by omega)
  | ⟨1, _⟩ => exact hb q l k (by omega)
  | ⟨2, _⟩ => exact hd q l k (by omega)

set_option maxHeartbeats 1600000 in
/-- The patch buffer after the first kernel's body: row `24 i + w`, column `48 p + 16 c + q` is pixel `(16 i + q, 16 w + p)` of
    channel `c`. -/
theorem out0_4_apply (x0 : Vec Ideal S1x3x384x384 .bf16) (x1 : Vec Ideal S1x5x384x384 .f32) (x2 : Vec Ideal S24x384 .f32)
    (x3 : Vec Ideal S9216x384 .bf16) (r : Fin 576) (i w : Fin 24) (hr : r.val = 24 * i.val + w.val)
    (p : Fin 16) (c : Fin 3) (q : Fin 16) (j : Fin 768)
    (hj : j.val = 48 * p.val + 16 * c.val + q.val) (l k : Fin 384) (hl : l.val = 16 * w.val + p.val) (hk : k.val = 16 * i.val + q.val) :
    out0_4 x0 x1 x2 x3 (ix2 r j) = x0 (ix4 0 c k l) := by
  unfold out0_4
  canon_tiles x h
  · rw [strip23_eq]; refine piece_core _ _ _ x0 23 ?_ ?_ ?_ r i w hr p c q j hj l k hl hk x (by rw [ix2_0] at h0; omega) (by rw [ix2_1] at h1; omega) <;>
      (intro q l k hk; pointwise; blk_ext)
  · rw [strip22_eq]; refine piece_core _ _ _ x0 22 ?_ ?_ ?_ r i w hr p c q j hj l k hl hk x (by rw [ix2_0] at h0; omega) (by rw [ix2_1] at h1; omega) <;>
      (intro q l k hk; pointwise; blk_ext)
  · rw [strip21_eq]; refine piece_core _ _ _ x0 21 ?_ ?_ ?_ r i w hr p c q j hj l k hl hk x (by rw [ix2_0] at h0; omega) (by rw [ix2_1] at h1; omega) <;>
      (intro q l k hk; pointwise; blk_ext)
  · rw [strip20_eq]; refine piece_core _ _ _ x0 20 ?_ ?_ ?_ r i w hr p c q j hj l k hl hk x (by rw [ix2_0] at h0; omega) (by rw [ix2_1] at h1; omega) <;>
      (intro q l k hk; pointwise; blk_ext)
  · rw [strip19_eq]; refine piece_core _ _ _ x0 19 ?_ ?_ ?_ r i w hr p c q j hj l k hl hk x (by rw [ix2_0] at h0; omega) (by rw [ix2_1] at h1; omega) <;>
      (intro q l k hk; pointwise; blk_ext)
  · rw [strip18_eq]; refine piece_core _ _ _ x0 18 ?_ ?_ ?_ r i w hr p c q j hj l k hl hk x (by rw [ix2_0] at h0; omega) (by rw [ix2_1] at h1; omega) <;>
      (intro q l k hk; pointwise; blk_ext)
  · rw [strip17_eq]; refine piece_core _ _ _ x0 17 ?_ ?_ ?_ r i w hr p c q j hj l k hl hk x (by rw [ix2_0] at h0; omega) (by rw [ix2_1] at h1; omega) <;>
      (intro q l k hk; pointwise; blk_ext)
  · rw [strip16_eq]; refine piece_core _ _ _ x0 16 ?_ ?_ ?_ r i w hr p c q j hj l k hl hk x (by rw [ix2_0] at h0; omega) (by rw [ix2_1] at h1; omega) <;>
      (intro q l k hk; pointwise; blk_ext)
  · rw [strip15_eq]; refine piece_core _ _ _ x0 15 ?_ ?_ ?_ r i w hr p c q j hj l k hl hk x (by rw [ix2_0] at h0; omega) (by rw [ix2_1] at h1; omega) <;>
      (intro q l k hk; pointwise; blk_ext)
  · rw [strip14_eq]; refine piece_core _ _ _ x0 14 ?_ ?_ ?_ r i w hr p c q j hj l k hl hk x (by rw [ix2_0] at h0; omega) (by rw [ix2_1] at h1; omega) <;>
      (intro q l k hk; pointwise; blk_ext)
  · rw [strip13_eq]; refine piece_core _ _ _ x0 13 ?_ ?_ ?_ r i w hr p c q j hj l k hl hk x (by rw [ix2_0] at h0; omega) (by rw [ix2_1] at h1; omega) <;>
      (intro q l k hk; pointwise; blk_ext)
  · rw [strip12_eq]; refine piece_core _ _ _ x0 12 ?_ ?_ ?_ r i w hr p c q j hj l k hl hk x (by rw [ix2_0] at h0; omega) (by rw [ix2_1] at h1; omega) <;>
      (intro q l k hk; pointwise; blk_ext)
  · rw [strip11_eq]; refine piece_core _ _ _ x0 11 ?_ ?_ ?_ r i w hr p c q j hj l k hl hk x (by rw [ix2_0] at h0; omega) (by rw [ix2_1] at h1; omega) <;>
      (intro q l k hk; pointwise; blk_ext)
  · rw [strip10_eq]; refine piece_core _ _ _ x0 10 ?_ ?_ ?_ r i w hr p c q j hj l k hl hk x (by rw [ix2_0] at h0; omega) (by rw [ix2_1] at h1; omega) <;>
      (intro q l k hk; pointwise; blk_ext)
  · rw [strip9_eq]; refine piece_core _ _ _ x0 9 ?_ ?_ ?_ r i w hr p c q j hj l k hl hk x (by rw [ix2_0] at h0; omega) (by rw [ix2_1] at h1; omega) <;>
      (intro q l k hk; pointwise; blk_ext)
  · rw [strip8_eq]; refine piece_core _ _ _ x0 8 ?_ ?_ ?_ r i w hr p c q j hj l k hl hk x (by rw [ix2_0] at h0; omega) (by rw [ix2_1] at h1; omega) <;>
      (intro q l k hk; pointwise; blk_ext)
  · rw [strip7_eq]; refine piece_core _ _ _ x0 7 ?_ ?_ ?_ r i w hr p c q j hj l k hl hk x (by rw [ix2_0] at h0; omega) (by rw [ix2_1] at h1; omega) <;>
      (intro q l k hk; pointwise; blk_ext)
  · rw [strip6_eq]; refine piece_core _ _ _ x0 6 ?_ ?_ ?_ r i w hr p c q j hj l k hl hk x (by rw [ix2_0] at h0; omega) (by rw [ix2_1] at h1; omega) <;>
      (intro q l k hk; pointwise; blk_ext)
  · rw [strip5_eq]; refine piece_core _ _ _ x0 5 ?_ ?_ ?_ r i w hr p c q j hj l k hl hk x (by rw [ix2_0] at h0; omega) (by rw [ix2_1] at h1; omega) <;>
      (intro q l k hk; pointwise; blk_ext)
  · rw [strip4_eq]; refine piece_core _ _ _ x0 4 ?_ ?_ ?_ r i w hr p c q j hj l k hl hk x (by rw [ix2_0] at h0; omega) (by rw [ix2_1] at h1; omega) <;>
      (intro q l k hk; pointwise; blk_ext)
  · rw [strip3_eq]; refine piece_core _ _ _ x0 3 ?_ ?_ ?_ r i w hr p c q j hj l k hl hk x (by rw [ix2_0] at h0; omega) (by rw [ix2_1] at h1; omega) <;>
      (intro q l k hk; pointwise; blk_ext)
  · rw [strip2_eq]; refine piece_core _ _ _ x0 2 ?_ ?_ ?_ r i w hr p c q j hj l k hl hk x (by rw [ix2_0] at h0; omega) (by rw [ix2_1] at h1; omega) <;>
      (intro q l k hk; pointwise; blk_ext)
  · rw [strip1_eq]; refine piece_core _ _ _ x0 1 ?_ ?_ ?_ r i w hr p c q j hj l k hl hk x (by rw [ix2_0] at h0; omega) (by rw [ix2_1] at h1; omega) <;>
      (intro q l k hk; pointwise; blk_ext)
  · refine piece_core _ _ _ x0 0 ?_ ?_ ?_ r i w hr p c q j hj l k hl hk x (by rw [ix2_0] at h0; omega) (by rw [ix2_1] at h1; omega) <;>
      (intro q l k hk; pointwise; blk_ext)

end Cert.KernelIdeal.Hand

end

end
-- ==== Proof.Value.Geo.lean ====
/- The pooled geometry and the squared lengths of the bank rows, as the first kernel call computes them on its blocks. -/
module

public import proofs.«01_k».proof.Proof.Ideal.Body0
public import Idealize.ShloMosaic.Lib.Pointwise
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Cert.KernelIdeal.Gen

/-- One channel of the pooled geometry at output pixel `(h, w)`: rows are contracted first, then columns. -/
def pooled (R : FVec Ideal S24x384 .f32) (G : Fin 384 → Fin 384 → EReal) (h w : Fin 24) : EReal :=
  ∑ l : Fin 384, (∑ k : Fin 384, R (ix2 h k) * G k l) * R (ix2 w l)

/-- The stored geometry rows: five pooled channels, then zeros. -/
theorem pay1_apply (R : Vec Ideal S24x384 .f32) (g0 g1 g2 g3 g4 : Vec Ideal S1x1x384x384 .f32) (r : Fin 576) (c : Fin 8) :
    k0_pay1 (k0_pay129 R) (k0_pay130 R g0) (k0_pay131 R g1)
      (k0_pay133 (k0_pay128 R) (k0_pay129 R) (k0_pay132 g2) (constant S24x384 .f32 0x00000000#32))
      (k0_pay134 (k0_pay128 R) (k0_pay129 R) g3) (k0_pay135 (k0_pay128 R) g4) (ix2 r c)
    = if h : c.val < 5 then pooled R (fun k l => ((![g0, g1, g2, g3, g4] : Fin 5 → S1x1x384x384.Idx → EReal) ⟨c.val, h⟩) (ix4 0 0 k l)) ⟨r.val / 24, by omega⟩
        ⟨r.val % 24, by omega⟩ else 0 := by
  pointwise [k0_pay1, k0_pay130, k0_pay131, k0_pay132, k0_pay133, k0_pay134, k0_pay135, k0_pay128, k0_pay129, pooled]
  fin_cases c <;> rfl

/-- The squared length of a bank row. -/
theorem pay2_apply (b : Vec Ideal S9216x384 .bf16) (n : Fin 9216) :
    k0_pay2 b (ix2 0 n) = ∑ k : Fin 384, b (ix2 n k) * b (ix2 n k) := by
  pointwise [k0_pay2]

/-- The geometry buffer after the first kernel's body. -/
theorem out0_5_apply (x0 : Vec Ideal S1x3x384x384 .bf16) (x1 : Vec Ideal S1x5x384x384 .f32) (x2 : Vec Ideal S24x384 .f32)
    (x3 : Vec Ideal S9216x384 .bf16) (r : Fin 576) (c : Fin 8) :
    out0_5 x0 x1 x2 x3 (ix2 r c)
    = if h : c.val < 5 then pooled x2 (fun k l => x1 (ix4 0 ⟨c.val, h⟩ k l)) ⟨r.val / 24, by omega⟩ ⟨r.val % 24, by omega⟩
      else 0 := by
  unfold out0_5
  unfold r0_102
  rw [View.canon_unit_zero (by decide), pay1_apply]
  unfold r0_96 r0_97 r0_98 r0_99 r0_100 r0_101
  split
  · rename_i h
    unfold pooled
    refine Finset.sum_congr rfl fun l _ => ?_
    refine congrArg₂ (· * ·) (Finset.sum_congr rfl fun k _ => congrArg₂ (· * ·) ?_ ?_) ?_
    · pointwise
    · obtain ⟨c, hc⟩ := c
      simp only at h ⊢
      interval_cases c <;> (simp only [Fin.reduceFinMk, Matrix.cons_val]; pointwise)
    · pointwise
  · rfl

/-- The squared-length buffer after the first kernel's body. -/
theorem out0_6_apply (x0 : Vec Ideal S1x3x384x384 .bf16) (x1 : Vec Ideal S1x5x384x384 .f32) (x2 : Vec Ideal S24x384 .f32)
    (x3 : Vec Ideal S9216x384 .bf16) (n : Fin 9216) :
    out0_6 x0 x1 x2 x3 (ix2 0 n) = ∑ k : Fin 384, x3 (ix2 n k) * x3 (ix2 n k) := by
  unfold out0_6
  unfold r0_104
  rw [View.canon_unit_zero (by decide), pay2_apply]
  unfold r0_103
  rw [View.ld_unit_zero (by decide)]

end Cert.KernelIdeal.Hand

end

end
-- ==== Proof.Value.MinRow.lean ====
/- The least entry of a row. -/
module

public import proofs.«01_k».proof.Proof.Ideal.Body1
public import Idealize.ShloMosaic.Lib.Pointwise

@[expose] public section

set_option maxRecDepth 16384

noncomputable section

namespace Cert.KernelIdeal.Hand

open Idealize.ShloMosaic Idealize.ShloMosaic.TcCoe Idealize.SL.Sem
open Cert.KernelIdeal.Gen

/-- The least entry of a row, taken by the reduction along the second axis. -/
theorem minRow (v : FVec Ideal S576x4608 .f32) (h : S576x4608.Reduces [1] S576) (hd) (hz) (r : Fin 576) :
    multiReduction .minimumf [1] S576 v 0x7F800000#32 h hd hz (ix1 r)
      = Finset.univ.fold min (Ideal.ofBits .f32 0x7F800000#32) fun k : Fin 4608 => v (ix2 r k) := by
  simp only [pointwise]

/-- What the kernel takes over one half of the bank: the least entry of each row of scores with the bank norms added. -/
def half (v : FVec Ideal S576x4608 .f32) (b : FVec Ideal S1x4608 .f32) : FVec Ideal S576x1 .f32 :=
  shapeCast S576x1 (multiReduction .minimumf [1] S576 (addf v (broadcastTo S576x4608 b broadcasts_S1x4608_S576x4608)) 0x7F800000#32 reduces_S576x4608_S576 (.inl rfl) rfl) shapeCasts_S576_S576x1

/-- A column made of a vector holds the vector. -/
theorem castRow (w : FVec Ideal S576 .f32) (r : Fin 576) : shapeCast S576x1 w shapeCasts_S576_S576x1 (ix2 r 0) = w (ix1 r) := by
  pointwise

/-- The bank norms are added to every row. -/
theorem addRow (v : FVec Ideal S576x4608 .f32) (b : FVec Ideal S1x4608 .f32) (r : Fin 576) (k : Fin 4608) :
    addf v (broadcastTo S576x4608 b broadcasts_S1x4608_S576x4608) (ix2 r k) = v (ix2 r k) + b (ix2 0 k) := by
  pointwise

/-- The least entry over one half of the bank. -/
theorem half_apply (v : FVec Ideal S576x4608 .f32) (b : FVec Ideal S1x4608 .f32) (r : Fin 576) :
    half v b (ix2 r 0) = Finset.univ.fold min (Ideal.ofBits .f32 0x7F800000#32) fun k : Fin 4608 => v (ix2 r k) + b (ix2 0 k) := by
  refine (castRow _ r).trans ((minRow _ _ _ _ r).trans ?_)
  simp only [addRow]

/-- The scores of the second half of the bank, entry by entry. -/
theorem score (v31 : FVec Ideal S576x384 .bf16) (v41 : FVec Ideal S4608x384 .bf16) (r : Fin 576) (n : Fin 4608) :
    matmul (φ₁ := .bf16) (φ₂ := .bf16) dot_S576x384_S4608x384_S576x4608_1_1_0_0_n_n none v31 v41 (constant S576x4608 .f32 0x00000000#32) (ix2 r n) = ∑ k : Fin 384, v31 (ix2 r k) * v41 (ix2 n k) := by
  pointwise

/-- A cast of the norms to their own shape changes nothing. -/
theorem cast_norms (b : FVec Ideal S1x4608 .f32) : shapeCast S1x4608 b shapeCasts_S1x4608_S1x4608 = b := shapeCast_self _ _

/-- A cast of the bank rows to their own shape changes nothing. -/
theorem cast_bank (b : FVec Ideal S4608x384 .bf16) : shapeCast S4608x384 b shapeCasts_S4608x384_S4608x384 = b := shapeCast_self _ _

/-- The distance column in terms of the two halves. -/
theorem pay7_eq (v28 : FVec Ideal S576x1 .f32) (v31 : FVec Ideal S576x384 .bf16) (v34 : FVec Ideal S576x4608 .f32) (v35 : Vec Ideal S1x4608 .f32) (v41 : FVec Ideal S4608x384 .bf16) (v44 : Vec Ideal S1x4608 .f32) :
    k1_pay7 v28 v31 v34 v35 v41 v44 =
      sqrt (addf (maximumf (addf (minimumf (half v34 (shapeCast S1x4608 v35 shapeCasts_S1x4608_S1x4608)) (half (matmul (φ₁ := .bf16) (φ₂ := .bf16) dot_S576x384_S4608x384_S576x4608_1_1_0_0_n_n none v31 (shapeCast S4608x384 v41 shapeCasts_S4608x384_S4608x384) (constant S576x4608 .f32 0x00000000#32)) (shapeCast S1x4608 v44 shapeCasts_S1x4608_S1x4608))) v28)
        (broadcast S576x1 (Scalar.ofBits .f32 0x00000000#32))) (broadcast S576x1 (Scalar.ofBits .f32 0x2B8CBCCC#32))) := rfl

/-- The last scalar steps of the distance: clamp at zero, add the small constant, take the root. -/
theorem tail_apply (A B v28 : FVec Ideal S576x1 .f32) (r : Fin 576) : sqrt (addf (maximumf (addf (minimumf A B) v28)
        (broadcast S576x1 (Scalar.ofBits .f32 0x00000000#32))) (broadcast S576x1 (Scalar.ofBits .f32 0x2B8CBCCC#32))) (ix2 r 0)
      = Ideal.sqrt (max (min (A (ix2 r 0)) (B (ix2 r 0)) + v28 (ix2 r 0)) 0 + Ideal.ofBits .f32 0x2B8CBCCC#32) := by
    pointwise

/-- The distance of one patch row from the bank. -/
theorem pay7_apply (v28 : FVec Ideal S576x1 .f32) (v31 : FVec Ideal S576x384 .bf16) (v34 : FVec Ideal S576x4608 .f32) (v35 : Vec Ideal S1x4608 .f32) (v41 : FVec Ideal S4608x384 .bf16) (v44 : Vec Ideal S1x4608 .f32) (r : Fin 576) :
    k1_pay7 v28 v31 v34 v35 v41 v44 (ix2 r 0) =
      Ideal.sqrt (max (min (Finset.univ.fold min (Ideal.ofBits .f32 0x7F800000#32) fun k : Fin 4608 => v34 (ix2 r k) + v35 (ix2 0 k))
          (Finset.univ.fold min (Ideal.ofBits .f32 0x7F800000#32) fun n : Fin 4608 => (∑ k : Fin 384, v31 (ix2 r k) * v41 (ix2 n k)) + v44 (ix2 0 n))
        + v28 (ix2 r 0)) 0 + Ideal.ofBits .f32 0x2B8CBCCC#32) := by
  refine (congrFun (pay7_eq v28 v31 v34 v35 v41 v44) (ix2 r 0)).trans ((tail_apply _ _ _ r).trans ?_)
  exact congrArg₂ (fun a b => Ideal.sqrt (max (min a b + v28 (ix2 r 0)) 0 + Ideal.ofBits .f32 0x2B8CBCCC#32))
    ((half_apply _ _ r).trans (congrArg (Finset.fold min (Ideal.ofBits .f32 0x7F800000#32) · Finset.univ) (funext fun k => by rw [cast_norms])))
    ((half_apply _ _ r).trans (congrArg (Finset.fold min (Ideal.ofBits .f32 0x7F800000#32) · Finset.univ) (funext fun n => by rw [cast_norms, score, cast_bank])))

end Cert.KernelIdeal.Hand

end

end
-- ==== Proof.Value.Main.lean ====
/- What the second kernel call stores for one block of patch rows. -/
module

public import proofs.«01_k».proof.Proof.Value.MinRow
public import Idealize.ShloMosaic.Lib.Pointwise
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Cert.KernelIdeal.Gen

/-- The fused feature of one patch row. -/
def flatRow (p : Fin 768 → EReal) (w1 : FVec Ideal S768x384 .bf16) (b1 : FVec Ideal S1x384 .f32) (w2a : FVec Ideal S384x384 .bf16)
    (w2g : FVec Ideal S8x384 .bf16) (b2 : FVec Ideal S1x384 .f32) (g : Fin 8 → EReal) (n : Fin 384) : EReal :=
  (∑ k : Fin 384, max ((∑ j : Fin 768, p j * w1 (ix2 j k)) + b1 (ix2 0 k)) 0 * w2a (ix2 k n))
    + (∑ e : Fin 8, g e * w2g (ix2 e n)) + b2 (ix2 0 n)

/-- The fused features of a block, entry by entry. -/
theorem pay3_apply (x0 : Vec Ideal S576x768 .bf16) (x1 : Vec Ideal S768x384 .bf16) (x2 : Vec Ideal S1x384 .f32) (x6 : Vec Ideal S576x8 .f32)
    (x3 : Vec Ideal S384x384 .bf16) (x4 : Vec Ideal S8x384 .bf16) (x5 : Vec Ideal S1x384 .f32) (r : Fin 576) (n : Fin 384) :
    k1_pay3 x0 x1 x2 x6 x3 x4 x5 (ix2 r n) = flatRow (fun j => x0 (ix2 r j)) x1 x2 x3 x4 x5 (fun e => x6 (ix2 r e)) n := by
  pointwise [k1_pay3, k1_pay2, flatRow]

/-- What a load of a part of the bank holds, entry by entry. -/
theorem ld6 (x7 : Vec Ideal S9216x384 .bf16) (x : Fin 4608) (k : Fin 384) :
    View.ld x7 r1_6 (ix2 x k : S4608x384.Idx) = x7 (ix2 ⟨x.val, by omega⟩ k) := by
  unfold r1_6
  pointwise

/-- What a load of a part of the bank holds, entry by entry. -/
theorem ld8 (x7 : Vec Ideal S9216x384 .bf16) (x : Fin 4608) (k : Fin 384) :
    View.ld x7 r1_8 (ix2 x k : S4608x384.Idx) = x7 (ix2 ⟨4608 + x.val, by omega⟩ k) := by
  unfold r1_8
  pointwise

/-- The squared length of a fused feature. -/
theorem pay4_apply (x0 : Vec Ideal S576x768 .bf16) (x1 : Vec Ideal S768x384 .bf16) (x2 : Vec Ideal S1x384 .f32) (x6 : Vec Ideal S576x8 .f32)
    (x3 : Vec Ideal S384x384 .bf16) (x4 : Vec Ideal S8x384 .bf16) (x5 : Vec Ideal S1x384 .f32) (r : Fin 576)  :
    k1_pay4 x0 x1 x2 x6 x3 x4 x5 (ix2 r 0) = ∑ k : Fin 384, k1_pay3 x0 x1 x2 x6 x3 x4 x5 (ix2 r k) * k1_pay3 x0 x1 x2 x6 x3 x4 x5 (ix2 r k) := by
  pointwise [k1_pay4]

/-- The scores of the first half of the bank, entry by entry. -/
theorem pay6_apply (x0 : Vec Ideal S576x768 .bf16) (x1 : Vec Ideal S768x384 .bf16) (x2 : Vec Ideal S1x384 .f32) (x6 : Vec Ideal S576x8 .f32)
    (x3 : Vec Ideal S384x384 .bf16) (x4 : Vec Ideal S8x384 .bf16) (x5 : Vec Ideal S1x384 .f32) (b : Vec Ideal S4608x384 .bf16) (r : Fin 576) (n : Fin 4608) :
    k1_pay6 x0 x1 x2 x6 x3 x4 x5 b (ix2 r n) = ∑ k : Fin 384, k1_pay5 x0 x1 x2 x6 x3 x4 x5 (ix2 r k) * b (ix2 n k) := by
  pointwise [k1_pay6]

/-- What a load of a part of the bank's squared lengths holds, entry by entry. -/
theorem ldn7 (x8 : Vec Ideal S1x9216 .f32) (n : Fin 4608) :
    View.ld x8 r1_7 (ix2 0 n : S1x4608.Idx) = x8 (ix2 0 ⟨n.val, by omega⟩) := by
  unfold r1_7
  pointwise

/-- What a load of a part of the bank's squared lengths holds, entry by entry. -/
theorem ldn9 (x8 : Vec Ideal S1x9216 .f32) (n : Fin 4608) :
    View.ld x8 r1_9 (ix2 0 n : S1x4608.Idx) = x8 (ix2 0 ⟨4608 + n.val, by omega⟩) := by
  unfold r1_9
  pointwise

/-- The least value of a score over a bank of 4608 entries, starting at plus infinity. -/
def leastHalf (s : Fin 4608 → EReal) : EReal := Finset.univ.fold min (Ideal.ofBits .f32 0x7F800000#32) s

/-- The distance that the kernel gives to a fused feature: from the bank rows scaled by minus two, in two halves. -/
def distRow (f : Fin 384 → EReal) (M : FVec Ideal S9216x384 .bf16) (bn : FVec Ideal S1x9216 .f32) : EReal :=
  Ideal.sqrt (max (min
      (leastHalf fun n => (∑ k : Fin 384, (Ideal.ofBits .f32 0xC0000000#32 * f k) * M (ix2 ⟨n.val, by omega⟩ k)) + bn (ix2 0 ⟨n.val, by omega⟩))
      (leastHalf fun n => (∑ k : Fin 384, (Ideal.ofBits .f32 0xC0000000#32 * f k) * M (ix2 ⟨4608 + n.val, by omega⟩ k)) + bn (ix2 0 ⟨4608 + n.val, by omega⟩))
    + ∑ k : Fin 384, f k * f k) 0 + Ideal.ofBits .f32 0x2B8CBCCC#32)

/-- The fused features times minus two, entry by entry. -/
theorem pay5_apply (x0 : Vec Ideal S576x768 .bf16) (x1 : Vec Ideal S768x384 .bf16) (x2 : Vec Ideal S1x384 .f32) (x6 : Vec Ideal S576x8 .f32)
    (x3 : Vec Ideal S384x384 .bf16) (x4 : Vec Ideal S8x384 .bf16) (x5 : Vec Ideal S1x384 .f32) (r : Fin 576) (k : Fin 384) :
    k1_pay5 x0 x1 x2 x6 x3 x4 x5 (ix2 r k) = Ideal.ofBits .f32 0xC0000000#32 * k1_pay3 x0 x1 x2 x6 x3 x4 x5 (ix2 r k) := by
  pointwise [k1_pay5]

/-- The distance column of one block. -/
theorem pay9_apply (x0 : Vec Ideal S576x768 .bf16) (x1 : Vec Ideal S768x384 .bf16) (x2 : Vec Ideal S1x384 .f32)
    (x3 : Vec Ideal S384x384 .bf16) (x4 : Vec Ideal S8x384 .bf16) (x5 : Vec Ideal S1x384 .f32) (x6 : Vec Ideal S576x8 .f32)
    (x7 : Vec Ideal S9216x384 .bf16) (x8 : Vec Ideal S1x9216 .f32) (r : Fin 576) :
    k1_pay7 (k1_pay4 x0 x1 x2 x6 x3 x4 x5) (k1_pay5 x0 x1 x2 x6 x3 x4 x5) (k1_pay6 x0 x1 x2 x6 x3 x4 x5 (View.ld x7 r1_6)) (View.ld x8 r1_7) (View.ld x7 r1_8) (View.ld x8 r1_9) (ix2 r 0)
      = distRow (flatRow (fun j => x0 (ix2 r j)) x1 x2 x3 x4 x5 (fun e => x6 (ix2 r e))) x7 x8 := by
  refine (pay7_apply _ _ _ _ _ _ r).trans ?_
  simp only [pay6_apply, pay5_apply, pay4_apply, pay3_apply]
  have h6 (n : Fin 4608) (k : Fin 384) := ld6 x7 n k
  have h8 (n : Fin 4608) (k : Fin 384) := ld8 x7 n k
  have g7 (n : Fin 4608) := ldn7 x8 n
  have g9 (n : Fin 4608) := ldn9 x8 n
  unfold distRow leastHalf
  simp only [h6, h8, g7, g9]

/-- The factor by which the geometry of a patch raises its distance. -/
def geoFactor (g : Fin 8 → EReal) : EReal :=
  1 + Ideal.logistic (Ideal.ofBits .f32 0x40800000#32 *
    (Ideal.ofBits .f32 0x3F000000#32 * g 3 + Ideal.ofBits .f32 0x3E800000#32 * (1 - g 2) + Ideal.ofBits .f32 0x3E800000#32 * g 4 - Ideal.ofBits .f32 0x3F000000#32))

/-- The weight of a row from its geometry. -/
theorem factor_apply (a : FVec Ideal S576x1 .f32) (x6 : Vec Ideal S576x8 .f32) (r : Fin 576) :
    k1_pay1 a (k1_pay8 (k1_pay2 x6)) (ix2 r 0) = a (ix2 r 0) * geoFactor (fun e => x6 (ix2 r e)) := by
  pointwise [k1_pay1, k1_pay8, k1_pay2, geoFactor]

/-- What the second kernel call stores of the distances. -/
theorem out1_9_apply (x0 : Vec Ideal S576x768 .bf16) (x1 : Vec Ideal S768x384 .bf16) (x2 : Vec Ideal S1x384 .f32)
    (x3 : Vec Ideal S384x384 .bf16) (x4 : Vec Ideal S8x384 .bf16) (x5 : Vec Ideal S1x384 .f32) (x6 : Vec Ideal S576x8 .f32)
    (x7 : Vec Ideal S9216x384 .bf16) (x8 : Vec Ideal S1x9216 .f32) (r : Fin 576) :
    out1_9 x0 x1 x2 x3 x4 x5 x6 x7 x8 (ix2 r 0)
      = distRow (flatRow (fun j => x0 (ix2 r j)) x1 x2 x3 x4 x5 (fun e => x6 (ix2 r e))) x7 x8 := by
  unfold out1_9 r1_10
  rw [View.canon_unit_zero (by decide)]
  unfold k1_pay9 r1_0 r1_1 r1_2 r1_3 r1_4 r1_5
  rw [View.ld_unit_zero (by decide), View.ld_unit_zero (by decide), View.ld_unit_zero (by decide), View.ld_unit_zero (by decide), View.ld_unit_zero (by decide), View.ld_unit_zero (by decide), View.ld_unit_zero (by decide)]
  exact pay9_apply x0 x1 x2 x3 x4 x5 x6 x7 x8 r

/-- What the second kernel call stores of the weighted distances. -/
theorem out1_10_apply (x0 : Vec Ideal S576x768 .bf16) (x1 : Vec Ideal S768x384 .bf16) (x2 : Vec Ideal S1x384 .f32)
    (x3 : Vec Ideal S384x384 .bf16) (x4 : Vec Ideal S8x384 .bf16) (x5 : Vec Ideal S1x384 .f32) (x6 : Vec Ideal S576x8 .f32)
    (x7 : Vec Ideal S9216x384 .bf16) (x8 : Vec Ideal S1x9216 .f32) (r : Fin 576) :
    out1_10 x0 x1 x2 x3 x4 x5 x6 x7 x8 (ix2 r 0)
      = distRow (flatRow (fun j => x0 (ix2 r j)) x1 x2 x3 x4 x5 (fun e => x6 (ix2 r e))) x7 x8 * geoFactor (fun e => x6 (ix2 r e)) := by
  unfold out1_10 r1_10
  rw [View.canon_unit_zero (by decide)]
  have h6 : View.ld x6 r1_3 = x6 := by unfold r1_3; rw [View.ld_unit_zero (by decide)]
  have h9 := out1_9_apply x0 x1 x2 x3 x4 x5 x6 x7 x8 r
  unfold out1_9 r1_10 at h9
  rw [View.canon_unit_zero (by decide)] at h9
  refine Eq.trans (factor_apply (k1_pay9 x0 x1 x2 x3 x4 x5 x6 x7 x8) (View.ld x6 r1_3) r) ?_
  rw [h6, h9]

end Cert.KernelIdeal.Hand

end

end
-- ==== Proof.Value.Arrays.lean ====
/- The arrays that the two kernel calls leave, entry by entry. -/
module

public import proofs.«01_k».proof.Proof.Value.Patch
public import proofs.«01_k».proof.Proof.Value.Geo
public import proofs.«01_k».proof.Proof.Value.Main

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal.Gen

variable (V : (c : Dev nD) → (b : Ref sig .tc) → Buf (Elt Ideal) ((c : Thread nD τ).loc b))

/-- Which block of its array each window of the first call holds at a grid point. -/
theorem idx0 : ∀ t : Fin cfg0.N, win0_0.index t = ![t.val, 0, 0, 0] ∧ win0_1.index t = ![t.val, 0, 0, 0] ∧ win0_2.index t = ![0, 0]
    ∧ win0_3.index t = ![0, 0] ∧ win0_4.index t = ![t.val, 0] ∧ win0_5.index t = ![t.val, 0] ∧ win0_6.index t = ![0, 0] ∧ t.val < 4 :=
  (by decide +kernel : ∀ t : Fin grid0.N, _)

/-- Which block of its array each window of the second call holds at a grid point. -/
theorem idx1 : ∀ t : Fin cfg1.N, win1_0.index t = ![t.val, 0] ∧ win1_1.index t = ![0, 0] ∧ win1_2.index t = ![0, 0]
    ∧ win1_3.index t = ![0, 0] ∧ win1_4.index t = ![0, 0] ∧ win1_5.index t = ![0, 0] ∧ win1_6.index t = ![t.val, 0]
    ∧ win1_7.index t = ![0, 0] ∧ win1_8.index t = ![0, 0] ∧ win1_9.index t = ![t.val, 0] ∧ win1_10.index t = ![t.val, 0] ∧ t.val < 4 :=
  (by decide +kernel : ∀ t : Fin grid1.N, _)

/-- The patch matrix of an image: row `576 b + 24 i + w`, column `48 p + 16 c + q`. -/
def patches (X : FVec Ideal S4x3x384x384 .bf16) (r : Fin 2304) (j : Fin 768) : EReal :=
  X (ix4 ⟨r.val / 576, by omega⟩ ⟨j.val % 48 / 16, by omega⟩ ⟨16 * (r.val % 576 / 24) + j.val % 16, by omega⟩ ⟨16 * (r.val % 24) + j.val / 48, by omega⟩)

/-- A patch row that the first call stores at one grid point. -/
theorem point0_4 (c : Dev nD) (t : Fin cfg0.N) (r : Fin 576) (j : Fin 768) (r' : Fin 2304) (hr' : r'.val = t.val * 576 + r.val) :
    out0_4 (iblk0 V c 0 t) (iblk0 V c 1 t) (iblk0 V c 2 t) (iblk0 V c 3 t) (ix2 r j) = patches (V c main_v0) r' j := by
  refine (out0_4_apply _ _ _ _ r ⟨r.val / 24, by omega⟩ ⟨r.val % 24, by omega⟩ (by simp only; omega) ⟨j.val / 48, by omega⟩
    ⟨j.val % 48 / 16, by omega⟩ ⟨j.val % 16, by omega⟩ j (by simp only; omega) ⟨16 * (r.val % 24) + j.val / 48, by omega⟩
    ⟨16 * (r.val / 24) + j.val % 16, by omega⟩ rfl rfl).trans ?_
  unfold patches
  have e1 : r'.val / 576 = t.val := by omega
  have e2 : r'.val % 576 = r.val := by omega
  have e3 : r'.val % 24 = r.val % 24 := by omega
  simp only [e1, e2, e3]
  blk_ext [iblk0, idx0 t]

/-- The patch matrix after the first call. -/
theorem arr0_4 (c : Dev nD) (y : S2304x768.Idx) :
    ((dat0 V c).arrAt 4 cfg0.N : FVec Ideal S2304x768 .bf16) y = patches (V c main_v0) (y 0) (y 1) := by
  revert y
  refine congrFun ((dat0 V c).arrAt_eq_of_covers 4 (fun y => patches (V c main_v0) (y 0) (y 1)) (by decide +kernel) fun t hf y => ?_)
  blk_simp
  rw [after0_4]
  have h0 : ((win0_4.blk t).view.emb y 0).val = t.val * 576 + (y 0).val := by blk_simp [idx0 t]
  have h1 : ((win0_4.blk t).view.emb y 1) = y 1 := by apply Fin.ext; blk_simp [idx0 t]
  exact (congrArg (out0_4 (iblk0 V c 0 t) (iblk0 V c 1 t) (iblk0 V c 2 t) (iblk0 V c 3 t)) (eq_ix2 y)).trans
    ((point0_4 V c t (y 0) (y 1) ((win0_4.blk t).view.emb y 0) h0).trans (congrArg (patches (V c main_v0) ((win0_4.blk t).view.emb y 0)) h1.symm))

/-- The pooled geometry of an image, in eight columns of which the last three are zero. -/
def geoMat (X : FVec Ideal S4x5x384x384 .f32) (R : FVec Ideal S24x384 .f32) (r : Fin 2304) (e : Fin 8) : EReal :=
  if h : e.val < 5 then pooled R (fun k l => X (ix4 ⟨r.val / 576, by omega⟩ ⟨e.val, h⟩ k l)) ⟨r.val % 576 / 24, by omega⟩ ⟨r.val % 24, by omega⟩ else 0

/-- The resize operator is the same block at every point. -/
theorem iblk0_2 (c : Dev nD) (t : Fin cfg0.N) : iblk0 V c 2 t = V c main_v58 := by blk_ext! [iblk0, idx0 t]
/-- The bank is the same block at every point. -/
theorem iblk0_3 (c : Dev nD) (t : Fin cfg0.N) : iblk0 V c 3 t = V c main_v14 := by blk_ext! [iblk0, idx0 t]

/-- The pooled geometry that the first call stores at one grid point. -/
theorem point0_5 (c : Dev nD) (t : Fin cfg0.N) (r : Fin 576) (e : Fin 8) (r' : Fin 2304) (hr' : r'.val = t.val * 576 + r.val) :
    out0_5 (iblk0 V c 0 t) (iblk0 V c 1 t) (iblk0 V c 2 t) (iblk0 V c 3 t) (ix2 r e) = geoMat (V c main_arg1) (V c main_v58) r' e := by
  refine (out0_5_apply _ _ _ _ r e).trans ?_
  unfold geoMat
  have e1 : r'.val / 576 = t.val := by omega
  have e2 : r'.val % 576 = r.val := by omega
  have e3 : r'.val % 24 = r.val % 24 := by omega
  simp only [e1, e2, e3]
  split
  · rw [iblk0_2]
    refine congrArg (fun G => pooled (V c main_v58) G _ _) ?_
    funext k l
    blk_ext [iblk0, idx0 t]
  · rfl

/-- The pooled geometry after the first call. -/
theorem arr0_5 (c : Dev nD) (y : S2304x8.Idx) :
    ((dat0 V c).arrAt 5 cfg0.N : FVec Ideal S2304x8 .f32) y = geoMat (V c main_arg1) (V c main_v58) (y 0) (y 1) := by
  revert y
  refine congrFun ((dat0 V c).arrAt_eq_of_covers 5 (fun y => geoMat (V c main_arg1) (V c main_v58) (y 0) (y 1)) (by decide +kernel) fun t hf y => ?_)
  blk_simp
  rw [after0_5]
  have h0 : ((win0_5.blk t).view.emb y 0).val = t.val * 576 + (y 0).val := by blk_simp [idx0 t]
  have h1 : ((win0_5.blk t).view.emb y 1) = y 1 := by apply Fin.ext; blk_simp [idx0 t]
  exact (congrArg (out0_5 (iblk0 V c 0 t) (iblk0 V c 1 t) (iblk0 V c 2 t) (iblk0 V c 3 t)) (eq_ix2 y)).trans
    ((point0_5 V c t (y 0) (y 1) ((win0_5.blk t).view.emb y 0) h0).trans (congrArg (geoMat (V c main_arg1) (V c main_v58) ((win0_5.blk t).view.emb y 0)) h1.symm))

/-- The squared lengths of the bank rows. -/
def normRow (M : FVec Ideal S9216x384 .bf16) (n : Fin 9216) : EReal := ∑ k : Fin 384, M (ix2 n k) * M (ix2 n k)

/-- The squared lengths of the bank rows after the first call. -/
theorem arr0_6 (c : Dev nD) (y : S1x9216.Idx) :
    ((dat0 V c).arrAt 6 cfg0.N : FVec Ideal S1x9216 .f32) y = normRow (V c main_v14) (y 1) := by
  revert y
  refine congrFun ((dat0 V c).arrAt_eq_of_covers 6 (fun y => normRow (V c main_v14) (y 1)) (by decide +kernel) fun t hf y => ?_)
  blk_simp
  rw [after0_6]
  have h0 : ∀ z : Fin 1, z = 0 := fun z => Subsingleton.elim z 0
  have h1 : ((win0_6.blk t).view.emb y 1) = y 1 := by apply Fin.ext; blk_simp [idx0 t]
  refine (congrArg (out0_6 (iblk0 V c 0 t) (iblk0 V c 1 t) (iblk0 V c 2 t) (iblk0 V c 3 t)) ((eq_ix2 y).trans (congrArg (fun a => ix2 a (y 1)) (h0 (y 0))))).trans
    ((out0_6_apply _ _ _ _ (y 1)).trans ?_)
  rw [iblk0_3]
  exact congrArg (normRow (V c main_v14)) h1.symm

/-! ### The second call -/

/-- The patch weights are the same block at every point. -/
theorem iblk1_1 (c : Dev nD) (t : Fin cfg1.N) : iblk1 V c 1 t = V c main_v3 := by blk_ext! [iblk1, idx1 t]
/-- The patch bias is the same block at every point. -/
theorem iblk1_2 (c : Dev nD) (t : Fin cfg1.N) : iblk1 V c 2 t = V c main_v4 := by blk_ext! [iblk1, idx1 t]
/-- The feature part of the fusing weights is the same block at every point. -/
theorem iblk1_3 (c : Dev nD) (t : Fin cfg1.N) : iblk1 V c 3 t = V c main_v8 := by blk_ext! [iblk1, idx1 t]
/-- The geometry part of the fusing weights is the same block at every point. -/
theorem iblk1_4 (c : Dev nD) (t : Fin cfg1.N) : iblk1 V c 4 t = V c main_v12 := by blk_ext! [iblk1, idx1 t]
/-- The fusing bias is the same block at every point. -/
theorem iblk1_5 (c : Dev nD) (t : Fin cfg1.N) : iblk1 V c 5 t = V c main_v13 := by blk_ext! [iblk1, idx1 t]
/-- The bank is the same block at every point. -/
theorem iblk1_7 (c : Dev nD) (t : Fin cfg1.N) : iblk1 V c 7 t = V c main_v14 := by blk_ext! [iblk1, idx1 t]
/-- The row of squared lengths is the same block at every point. -/
theorem iblk1_8 (c : Dev nD) (t : Fin cfg1.N) : iblk1 V c 8 t = V c main_v59_2 := by blk_ext! [iblk1, idx1 t]

/-- The fused feature of patch row `r`, from the arrays that the second call is given. -/
def flatAt (c : Dev nD) (r : Fin 2304) : Fin 384 → EReal :=
  flatRow (fun j => (V c main_v59_0 : FVec Ideal S2304x768 .bf16) (ix2 r j)) (V c main_v3) (V c main_v4) (V c main_v8) (V c main_v12) (V c main_v13)
    (fun e => (V c main_v59_1 : FVec Ideal S2304x8 .f32) (ix2 r e))

/-- The rows that the second call reads at one grid point. -/
theorem rows1 (c : Dev nD) (t : Fin cfg1.N) (r : Fin 576) (r' : Fin 2304) (hr' : r'.val = t.val * 576 + r.val) :
    (fun j : Fin 768 => (iblk1 V c 0 t : FVec Ideal S576x768 .bf16) (ix2 r j)) = (fun j => (V c main_v59_0 : FVec Ideal S2304x768 .bf16) (ix2 r' j))
    ∧ (fun e : Fin 8 => (iblk1 V c 6 t : FVec Ideal S576x8 .f32) (ix2 r e)) = (fun e => (V c main_v59_1 : FVec Ideal S2304x8 .f32) (ix2 r' e)) := by
  constructor
  · funext j; blk_ext [iblk1, idx1 t]
  · funext j; blk_ext [iblk1, idx1 t]

/-- The distances after the second call. -/
theorem arr1_9 (c : Dev nD) (y : S2304x1.Idx) :
    ((dat1 V c).arrAt 9 cfg1.N : FVec Ideal S2304x1 .f32) y = distRow (flatAt V c (y 0)) (V c main_v14) (V c main_v59_2) := by
  revert y
  refine congrFun ((dat1 V c).arrAt_eq_of_covers 9 (fun y => distRow (flatAt V c (y 0)) (V c main_v14) (V c main_v59_2)) (by decide +kernel) fun t hf y => ?_)
  blk_simp
  rw [after1_9]
  have h0 : ((win1_9.blk t).view.emb y 0).val = t.val * 576 + (y 0).val := by blk_simp [idx1 t]
  have h1 : ∀ z : Fin 1, z = 0 := fun z => Subsingleton.elim z 0
  obtain ⟨ra, rb⟩ := rows1 V c t (y 0) ((win1_9.blk t).view.emb y 0) h0
  refine (congrArg (out1_9 (iblk1 V c 0 t) (iblk1 V c 1 t) (iblk1 V c 2 t) (iblk1 V c 3 t) (iblk1 V c 4 t) (iblk1 V c 5 t) (iblk1 V c 6 t) (iblk1 V c 7 t) (iblk1 V c 8 t))
    ((eq_ix2 y).trans (congrArg (fun a => ix2 (y 0) a) (h1 (y 1))))).trans ((out1_9_apply _ _ _ _ _ _ _ _ _ (y 0)).trans ?_)
  rw [ra, rb, iblk1_1, iblk1_2, iblk1_3, iblk1_4, iblk1_5, iblk1_7, iblk1_8]
  rfl

/-- The weighted distance of patch row `r`. -/
def weightedAt (c : Dev nD) (r : Fin 2304) : EReal :=
  distRow (flatAt V c r) (V c main_v14) (V c main_v59_2) * geoFactor (fun e => (V c main_v59_1 : FVec Ideal S2304x8 .f32) (ix2 r e))

/-- The weighted distances after the second call. -/
theorem arr1_10 (c : Dev nD) (y : S2304x1.Idx) :
    ((dat1 V c).arrAt 10 cfg1.N : FVec Ideal S2304x1 .f32) y = weightedAt V c (y 0) := by
  revert y
  refine congrFun ((dat1 V c).arrAt_eq_of_covers 10 (fun y => weightedAt V c (y 0)) (by decide +kernel) fun t hf y => ?_)
  blk_simp
  rw [after1_10]
  have h0 : ((win1_10.blk t).view.emb y 0).val = t.val * 576 + (y 0).val := by blk_simp [idx1 t]
  have h1 : ∀ z : Fin 1, z = 0 := fun z => Subsingleton.elim z 0
  obtain ⟨ra, rb⟩ := rows1 V c t (y 0) ((win1_10.blk t).view.emb y 0) h0
  refine (congrArg (out1_10 (iblk1 V c 0 t) (iblk1 V c 1 t) (iblk1 V c 2 t) (iblk1 V c 3 t) (iblk1 V c 4 t) (iblk1 V c 5 t) (iblk1 V c 6 t) (iblk1 V c 7 t) (iblk1 V c 8 t))
    ((eq_ix2 y).trans (congrArg (fun a => ix2 (y 0) a) (h1 (y 1))))).trans ((out1_10_apply _ _ _ _ _ _ _ _ _ (y 0)).trans ?_)
  rw [ra, rb, iblk1_1, iblk1_2, iblk1_3, iblk1_4, iblk1_5, iblk1_7, iblk1_8]
  rfl

end Cert.KernelIdeal.Hand

end

end
-- ==== Proof.Value.Entry.lean ====
/- What the kernel's two results hold, as sums over the arguments. -/
module

public import proofs.«01_k».proof.Proof.Value.Host
public import proofs.«01_k».proof.Proof.Value.Arrays

@[expose] public section

set_option maxRecDepth 16384

noncomputable section

namespace Cert.KernelIdeal.Hand

open Idealize.ShloMosaic Idealize.ShloMosaic.TcCoe Idealize.SL.Sem Idealize.ShloMosaic.StableHlo
open Cert.KernelIdeal.Gen

/-! ### The host terms read at an index -/

/-- The patch weights, entry by entry. -/
theorem w1_apply (X : FVec Ideal S384x3x16x16 .f32) (j : Fin 768) (o : Fin 384) :
    (truncf .bf16 (shapeCast S768x384 (transpose S16x3x16x384 [3, 1, 2, 0] X transposes_S384x3x16x16_S16x3x16x384_3_1_2_0) shapeCasts_S16x3x16x384_S768x384 : FVec Ideal S768x384 .f32) bitsLt_bf16_f32 : FVec Ideal S768x384 .bf16) (ix2 j o)
      = X (ix4 o ⟨j.val % 48 / 16, by omega⟩ ⟨j.val % 16, by omega⟩ ⟨j.val / 48, by omega⟩) := by
  pointwise
  blk_ext

/-- A bias as a row. -/
theorem row_apply (X : FVec Ideal S384 .f32) (o : Fin 384) :
    (shapeCast S1x384 X shapeCasts_S384_S1x384 : FVec Ideal S1x384 .f32) (ix2 0 o) = X (ix1 o) := by
  pointwise

/-- The feature part of the fusing weights, entry by entry. -/
theorem w2a_apply (X : FVec Ideal S384x389x1x1 .f32) (k n : Fin 384) :
    (truncf .bf16 (transpose S384x384 [1, 0] (extractStridedSlice S384x384 ![0, 0] (shapeCast S384x389 X shapeCasts_S384x389x1x1_S384x389) slices_S384x389_S384x384_0_0) transposes_S384x384_S384x384_1_0 : FVec Ideal S384x384 .f32) bitsLt_bf16_f32 : FVec Ideal S384x384 .bf16) (ix2 k n)
      = X (ix4 n ⟨k.val, by omega⟩ 0 0) := by
  pointwise
  blk_ext

/-- The geometry part of the fusing weights, entry by entry; its last three rows are zero. -/
theorem w2g_apply (X : FVec Ideal S384x389x1x1 .f32) (e : Fin 8) (n : Fin 384) :
    (truncf .bf16 (padRows (transpose S5x384 [1, 0] (extractStridedSlice S384x5 ![0, 384] (shapeCast S384x389 X shapeCasts_S384x389x1x1_S384x389) slices_S384x389_S384x5_0_384) transposes_S384x5_S5x384_1_0 : FVec Ideal S5x384 .f32) (constantI S_ 32 0#32)) bitsLt_bf16_f32 : FVec Ideal S8x384 .bf16) (ix2 e n)
      = if h : e.val < 5 then X (ix4 n ⟨384 + e.val, by omega⟩ 0 0) else 0 := by
  pointwise [padRows]
  have h0 : (FloatOps.sitofp (F := Ideal) .f32 (0#32 : BitVec 32) : EReal) = 0 := by
    show (((0#32 : BitVec 32).toInt : ℝ) : EReal) = 0
    simp
  rw [h0]

/-- The resize operator, entry by entry. -/
theorem rop_apply (X : FVec Ideal S384x24 .f32) (h : Fin 24) (l : Fin 384) :
    (transpose S24x384 [1, 0] X transposes_S384x24_S24x384_1_0 : FVec Ideal S24x384 .f32) (ix2 h l) = X (ix2 l h) := by
  pointwise

/-- A result as a map, entry by entry. -/
theorem res_apply (X : FVec Ideal S2304x1 .f32) (b : Fin 4) (h w : Fin 24) :
    (shapeCast S4x24x24 X shapeCasts_S2304x1_S4x24x24 : FVec Ideal S4x24x24 .f32) (ix3 b h w) = X (ix2 ⟨b.val * 576 + h.val * 24 + w.val, by omega⟩ 0) := by
  pointwise
  blk_ext

variable (m : (ℓ : Loc nD τ sig) → Buf (Elt Ideal) ℓ) (ρ : Dev nD → PrngReg)

/-! ### The buffers at the first call -/

/-- The column sums of the weights, after the long stretch. -/
theorem W3_v41 (c : Dev nD) : W3 m ρ c (Proc.devRef .tc main_v41) = tot := st2_v41 _
/-- The divisor of the normalisation: the column sums, one where they are zero. -/
theorem W4_v47 (c : Dev nD) : W4 m ρ c (Proc.devRef .tc main_v47)
    = selDiv (cmpf .une tot (broadcastInDim S1x24 ![] bcast_S_S1x24 (constant S_ .f32 0x00000000#32))) tot (constantI S_ 32 1#32) := by
  refine (st3_v47 (W3 m ρ c)).trans ?_
  rw [show W3 m ρ c (Proc.devRef .tc main_v46) = _ from st2_v46 _, show W3 m ρ c (Proc.devRef .tc main_v41) = _ from st2_v41 _,
    show W3 m ρ c (Proc.devRef .tc main_c_10) = _ from st2_c_10 _]
/-- The normalised weights. -/
theorem W5_v49 (c : Dev nD) : W5 m ρ c (Proc.devRef .tc main_v49)
    = normed tri (selDiv (cmpf .une tot (broadcastInDim S1x24 ![] bcast_S_S1x24 (constant S_ .f32 0x00000000#32))) tot (constantI S_ 32 1#32)) := by
  refine (st4_v49 (W4 m ρ c)).trans ?_
  rw [W4_v47, W4_of m ρ c main_v39 (by decide), show W3 m ρ c (Proc.devRef .tc main_v39) = _ from st2_v39 _]
/-- The normalised weights of the columns that have weights at all. -/
theorem W6_v50 (c : Dev nD) : W6 m ρ c (Proc.devRef .tc main_v50)
    = keepCols (cmpf .ogt (Host.absf tot) (broadcastInDim S1x24 ![] bcast_S_S1x24 (constant S_ .f32 0x38FA0000#32)))
      (normed tri (selDiv (cmpf .une tot (broadcastInDim S1x24 ![] bcast_S_S1x24 (constant S_ .f32 0x00000000#32))) tot (constantI S_ 32 1#32))) (constantI S_ 32 0#32) := by
  refine (st5_v50 (W5 m ρ c)).trans ?_
  rw [W5_v49, W5_of m ρ c main_v44 (by decide), W4_of m ρ c main_v44 (by decide), show W3 m ρ c (Proc.devRef .tc main_v44) = _ from st2_v44 _,
    show W5 m ρ c (Proc.devRef .tc main_c_11) = _ from st4_c_11 _]
/-- The weight matrix of the resize, after the last selection. -/
theorem W8_v57 (c : Dev nD) : W8 m ρ c (Proc.devRef .tc main_v57) = wmat := by
  refine (st7_v57 (W7 m ρ c)).trans ?_
  rw [W7_of m ρ c main_v50 (by decide), W6_v50, show W7 m ρ c (Proc.devRef .tc main_v56) = _ from st6_v56 _,
    show W7 m ρ c (Proc.devRef .tc main_c_14) = _ from st6_c_14 _,
    W6_of m ρ c main_v24 (by decide), W5_of m ρ c main_v24 (by decide), W4_of m ρ c main_v24 (by decide), show W3 m ρ c (Proc.devRef .tc main_v24) = _ from st2_v24 _]
  rfl
/-- At the first call the resize operator is the transposed weight matrix. -/
theorem V9_v58 (c : Dev nD) : V9 m ρ c main_v58 = (transpose S24x384 [1, 0] wmat transposes_S384x24_S24x384_1_0 : FVec Ideal S24x384 .f32) := by
  refine (st8_v58 (W8 m ρ c)).trans ?_
  rw [W8_v57]
/-- At the first call the bank is the argument, its format changed. -/
theorem V9_v14 (c : Dev nD) : V9 m ρ c main_v14 = (truncf .bf16 (m ((c : Thread nD τ).loc main_arg6) : FVec Ideal S9216x384 .f32) bitsLt_bf16_f32 : FVec Ideal S9216x384 .bf16) := by
  show W9 m ρ c (Proc.devRef .tc main_v14) = _
  rw [W9_of m ρ c main_v14 (by decide), W8_of m ρ c main_v14 (by decide), W7_of m ρ c main_v14 (by decide), W6_of m ρ c main_v14 (by decide),
    W5_of m ρ c main_v14 (by decide), W4_of m ρ c main_v14 (by decide)]
  refine (st2_v14 (W2 m ρ c)).trans ?_
  rw [W2_args m ρ c main_arg6 (by decide)]
/-- At the first call the second bias is the argument as a row. -/
theorem V9_v13 (c : Dev nD) : V9 m ρ c main_v13 = (shapeCast S1x384 (m ((c : Thread nD τ).loc main_arg5) : FVec Ideal S384 .f32) shapeCasts_S384_S1x384 : FVec Ideal S1x384 .f32) := by
  show W9 m ρ c (Proc.devRef .tc main_v13) = _
  rw [W9_of m ρ c main_v13 (by decide), W8_of m ρ c main_v13 (by decide), W7_of m ρ c main_v13 (by decide), W6_of m ρ c main_v13 (by decide),
    W5_of m ρ c main_v13 (by decide), W4_of m ρ c main_v13 (by decide)]
  refine (st2_v13 (W2 m ρ c)).trans ?_
  rw [W2_args m ρ c main_arg5 (by decide)]
/-- At the first call the geometry weights are a padded part of the argument. -/
theorem V9_v12 (c : Dev nD) : V9 m ρ c main_v12 = (truncf .bf16 (padRows (transpose S5x384 [1, 0] (extractStridedSlice S384x5 ![0, 384] (shapeCast S384x389 (m ((c : Thread nD τ).loc main_arg4) : FVec Ideal S384x389x1x1 .f32) shapeCasts_S384x389x1x1_S384x389) slices_S384x389_S384x5_0_384) transposes_S384x5_S5x384_1_0 : FVec Ideal S5x384 .f32) (constantI S_ 32 0#32)) bitsLt_bf16_f32 : FVec Ideal S8x384 .bf16) := by
  show W9 m ρ c (Proc.devRef .tc main_v12) = _
  rw [W9_of m ρ c main_v12 (by decide), W8_of m ρ c main_v12 (by decide), W7_of m ρ c main_v12 (by decide), W6_of m ρ c main_v12 (by decide),
    W5_of m ρ c main_v12 (by decide), W4_of m ρ c main_v12 (by decide)]
  refine (st2_v12 (W2 m ρ c)).trans ?_
  rw [show W2 m ρ c (Proc.devRef .tc main_v11) = _ from st1_v11 _, show W1 m ρ c (Proc.devRef .tc main_v10) = _ from st0_v10 _, show W1 m ρ c (Proc.devRef .tc main_c) = _ from st0_c _]
/-- At the first call the image is the argument, its format changed. -/
theorem V9_v0 (c : Dev nD) : V9 m ρ c main_v0 = (truncf .bf16 (m ((c : Thread nD τ).loc main_arg0) : FVec Ideal S4x3x384x384 .f32) bitsLt_bf16_f32 : FVec Ideal S4x3x384x384 .bf16) := by
  show W9 m ρ c (Proc.devRef .tc main_v0) = _
  rw [W9_of m ρ c main_v0 (by decide), W8_of m ρ c main_v0 (by decide), W7_of m ρ c main_v0 (by decide), W6_of m ρ c main_v0 (by decide), W5_of m ρ c main_v0 (by decide), W4_of m ρ c main_v0 (by decide), W3_of m ρ c main_v0 (by decide), W2_of m ρ c main_v0 (by decide)]
  exact st0_v0 _
/-- At the first call the patch weights are the argument rearranged as a matrix. -/
theorem V9_v3 (c : Dev nD) : V9 m ρ c main_v3 = (truncf .bf16 (shapeCast S768x384 (transpose S16x3x16x384 [3, 1, 2, 0] (m ((c : Thread nD τ).loc main_arg2) : FVec Ideal S384x3x16x16 .f32) transposes_S384x3x16x16_S16x3x16x384_3_1_2_0) shapeCasts_S16x3x16x384_S768x384 : FVec Ideal S768x384 .f32) bitsLt_bf16_f32 : FVec Ideal S768x384 .bf16) := by
  show W9 m ρ c (Proc.devRef .tc main_v3) = _
  rw [W9_of m ρ c main_v3 (by decide), W8_of m ρ c main_v3 (by decide), W7_of m ρ c main_v3 (by decide), W6_of m ρ c main_v3 (by decide), W5_of m ρ c main_v3 (by decide), W4_of m ρ c main_v3 (by decide), W3_of m ρ c main_v3 (by decide), W2_of m ρ c main_v3 (by decide)]
  exact st0_v3 _
/-- At the first call the first bias is the argument as a row. -/
theorem V9_v4 (c : Dev nD) : V9 m ρ c main_v4 = (shapeCast S1x384 (m ((c : Thread nD τ).loc main_arg3) : FVec Ideal S384 .f32) shapeCasts_S384_S1x384 : FVec Ideal S1x384 .f32) := by
  show W9 m ρ c (Proc.devRef .tc main_v4) = _
  rw [W9_of m ρ c main_v4 (by decide), W8_of m ρ c main_v4 (by decide), W7_of m ρ c main_v4 (by decide), W6_of m ρ c main_v4 (by decide), W5_of m ρ c main_v4 (by decide), W4_of m ρ c main_v4 (by decide), W3_of m ρ c main_v4 (by decide), W2_of m ρ c main_v4 (by decide)]
  exact st0_v4 _
/-- At the first call the feature weights are a part of the argument, transposed. -/
theorem V9_v8 (c : Dev nD) : V9 m ρ c main_v8 = (truncf .bf16 (transpose S384x384 [1, 0] (extractStridedSlice S384x384 ![0, 0] (shapeCast S384x389 (m ((c : Thread nD τ).loc main_arg4) : FVec Ideal S384x389x1x1 .f32) shapeCasts_S384x389x1x1_S384x389) slices_S384x389_S384x384_0_0) transposes_S384x384_S384x384_1_0 : FVec Ideal S384x384 .f32) bitsLt_bf16_f32 : FVec Ideal S384x384 .bf16) := by
  show W9 m ρ c (Proc.devRef .tc main_v8) = _
  rw [W9_of m ρ c main_v8 (by decide), W8_of m ρ c main_v8 (by decide), W7_of m ρ c main_v8 (by decide), W6_of m ρ c main_v8 (by decide), W5_of m ρ c main_v8 (by decide), W4_of m ρ c main_v8 (by decide), W3_of m ρ c main_v8 (by decide), W2_of m ρ c main_v8 (by decide)]
  exact st0_v8 _

/-- An input of the first call still holds its contents after it. -/
theorem V10_of (c : Dev nD) (r : Ref sig .tc) (h : ∀ w : Fin cfg0.W, Pipeline.arrRef spec0 w = r → (cfg0.win w).isOut = false) : V10 m ρ c r = V9 m ρ c r :=
  W10_of m ρ c r h
/-- After the first call its first result holds the patches. -/
theorem V10_v59_0 (c : Dev nD) (y : S2304x768.Idx) : (V10 m ρ c main_v59_0 : FVec Ideal S2304x768 .bf16) y = patches (V9 m ρ c main_v0) (y 0) (y 1) :=
  (congrFun (W10_arr m ρ c 4) y).trans (arr0_4 (V9 m ρ) c y)
/-- After the first call its second result holds the resized geometry. -/
theorem V10_v59_1 (c : Dev nD) (y : S2304x8.Idx) : (V10 m ρ c main_v59_1 : FVec Ideal S2304x8 .f32) y = geoMat (V9 m ρ c main_arg1) (V9 m ρ c main_v58) (y 0) (y 1) :=
  (congrFun (W10_arr m ρ c 5) y).trans (arr0_5 (V9 m ρ) c y)
/-- After the first call its third result holds the squared lengths of the bank rows. -/
theorem V10_v59_2 (c : Dev nD) (y : S1x9216.Idx) : (V10 m ρ c main_v59_2 : FVec Ideal S1x9216 .f32) y = normRow (V9 m ρ c main_v14) (y 1) :=
  (congrFun (W10_arr m ρ c 6) y).trans (arr0_6 (V9 m ρ) c y)
/-- After the second call its first result holds the distances. -/
theorem V11_v60_0 (c : Dev nD) (y : S2304x1.Idx) : (V11 m ρ c main_v60_0 : FVec Ideal S2304x1 .f32) y = distRow (flatAt (V10 m ρ) c (y 0)) (V10 m ρ c main_v14) (V10 m ρ c main_v59_2) :=
  (congrFun (W11_arr m ρ c 9) y).trans (arr1_9 (V10 m ρ) c y)
/-- After the second call its second result holds the weighted distances. -/
theorem V11_v60_1 (c : Dev nD) (y : S2304x1.Idx) : (V11 m ρ c main_v60_1 : FVec Ideal S2304x1 .f32) y = weightedAt (V10 m ρ) c (y 0) :=
  (congrFun (W11_arr m ρ c 10) y).trans (arr1_10 (V10 m ρ) c y)

end Cert.KernelIdeal.Hand

end

end
-- ==== Proof.Value.Reals.lean ====
/- Extended reals that are real, and the least distance over them. -/
module

public import proofs.«01_k».proof.Proof.Value.Main
public import Idealize.ShloMosaic.Lib.IdealHost

@[expose] public section

set_option maxRecDepth 16384

noncomputable section

namespace Cert.KernelIdeal.Hand

open Cert.KernelIdeal Cert.KernelIdeal.Gen Idealize.ShloMosaic Idealize.ShloMosaic.TcCoe Idealize.SL.Sem

/-- An extended real that is a real number. -/
def IsReal (x : EReal) : Prop := ∃ r : ℝ, x = (r : EReal)

/-- A number that is neither infinity is real. -/
theorem IsReal.of_ne {x : EReal} (h1 : x ≠ ⊤) (h2 : x ≠ ⊥) : IsReal x := ⟨x.toReal, (EReal.coe_toReal h1 h2).symm⟩

/-- A real number is not the upper infinity. -/
theorem IsReal.ne_top {x : EReal} (h : IsReal x) : x ≠ ⊤ := by
  obtain ⟨r, rfl⟩ := h; exact EReal.coe_ne_top r

/-- A real number is not the lower infinity. -/
theorem IsReal.ne_bot {x : EReal} (h : IsReal x) : x ≠ ⊥ := by
  obtain ⟨r, rfl⟩ := h; exact EReal.coe_ne_bot r

/-- Zero is real. -/
theorem IsReal.zero : IsReal 0 := ⟨0, rfl⟩

/-- One is real. -/
theorem IsReal.one : IsReal 1 := ⟨1, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The larger of two reals is real. -/
theorem IsReal.max {x y : EReal} (hx : IsReal x) (hy : IsReal y) : IsReal (max x y) := by
  rcases max_choice x y with h | h <;> rw [h] <;> assumption

/-- A finite sum of reals is real. -/
theorem IsReal.sum {ι : Type} (s : Finset ι) {f : ι → EReal} (h : ∀ i, IsReal (f i)) : IsReal (∑ i ∈ s, f i) := by
  choose g hg using h
  refine ⟨∑ i ∈ s, g i, ?_⟩
  simp only [hg]
  exact (map_sum (⟨⟨Real.toEReal, EReal.coe_zero⟩, EReal.coe_add⟩ : ℝ →+ EReal) g s).symm

/-- A quotient of a real by a real other than zero is real. -/
theorem IsReal.div {x y : EReal} (hx : IsReal x) (hy : IsReal y) (h0 : y ≠ 0) : IsReal (Ideal.div x y) := by
  obtain ⟨b, rfl⟩ := hy
  rw [Ideal.div_coe (by exact_mod_cast h0)]
  exact hx.mul ⟨_, rfl⟩

/-- A word whose exponent is not the greatest one is that of a real. -/
theorem word_real (b : BitVec 32) (h : (b.extractLsb' 23 8).toNat ≠ 255) : IsReal (Ideal.ofBits .f32 b) := by
  show IsReal (Ideal.ieee 8 23 b)
  unfold Ideal.ieee
  dsimp only
  rw [if_neg (show ¬ (b.extractLsb' 23 8).toNat = 2 ^ 8 - 1 from h)]
  split_ifs
  all_goals exact ⟨_, rfl⟩

/-- The word of the upper infinity. -/
theorem word_top : Ideal.ofBits .f32 0x7F800000#32 = ⊤ := by
  simp [Ideal.ofBits, Ideal.ieee]

/-- The word of two. -/
theorem word_two : Ideal.ofBits .f32 0x40000000#32 = ((2 : ℝ) : EReal) := by
  simp [Ideal.ofBits, Ideal.ieee, -EReal.coe_mul]; norm_num

/-- The word of minus two. -/
theorem word_minus_two : Ideal.ofBits .f32 0xC0000000#32 = ((-2 : ℝ) : EReal) := by
  simp [Ideal.ofBits, Ideal.ieee, -EReal.coe_mul, -EReal.coe_neg]; norm_num

/-- The word of the small number under the root is that of a real. -/
theorem word_small : IsReal (Ideal.ofBits .f32 0x2B8CBCCC#32) := word_real _ (by decide)

/-- The root is monotone. -/
theorem sqrt_mono : Monotone Ideal.sqrt := by
  intro x y h
  induction x using EReal.rec with
  | bot => exact bot_le
  | top => rw [top_le_iff.1 h]
  | coe a =>
    induction y using EReal.rec with
    | bot => exact absurd (le_bot_iff.1 h) (EReal.coe_ne_bot a)
    | top => exact le_top
    | coe b =>
      have hab : a ≤ b := by exact_mod_cast h
      rw [Ideal.sqrt_coe, Ideal.sqrt_coe]
      by_cases ha : a < 0
      · rw [if_pos ha]; exact bot_le
      · have hb : ¬ b < 0 := fun hb => ha (lt_of_le_of_lt hab hb)
        rw [if_neg ha, if_neg hb]
        exact_mod_cast Real.sqrt_le_sqrt hab

/-- The distance as a function of the score: a squared length added, cut off below at zero, a small number added, the root taken. -/
def rooted (q e : EReal) (x : EReal) : EReal := Ideal.sqrt (max (x + q) 0 + e)

/-- The distance is monotone in the score. -/
theorem rooted_mono (q e : EReal) : Monotone (rooted q e) := fun _ _ h =>
  sqrt_mono (add_le_add_left (max_le_max_right 0 (add_le_add_left h q)) e)

/-- The distance of an infinite score is infinite. -/
theorem rooted_top {q e : EReal} (hq : IsReal q) (he : IsReal e) : rooted q e ⊤ = ⊤ := by
  unfold rooted
  rw [EReal.top_add_of_ne_bot hq.ne_bot, max_eq_left le_top, EReal.top_add_of_ne_bot he.ne_bot]
  rfl

/-- The least of a row is the smaller one of the least of its two halves. -/
theorem least_halves (s : Fin 9216 → EReal) :
    min (leastHalf fun n => s ⟨n.val, by omega⟩) (leastHalf fun n => s ⟨4608 + n.val, by omega⟩)
      = Finset.univ.fold min (Ideal.ofBits .f32 0x7F800000#32) s := by
  refine eq_of_forall_le_iff fun c => ?_
  simp only [leastHalf, le_min_iff, Finset.le_fold_min, Finset.mem_univ, true_implies]
  constructor
  · rintro ⟨⟨h0, h1⟩, -, h2⟩
    refine ⟨h0, fun n => ?_⟩
    by_cases hn : n.val < 4608
    · exact h1 ⟨n.val, hn⟩
    · have e : n = ⟨4608 + (n.val - 4608), by omega⟩ := Fin.ext (by simp only []; omega)
      rw [e]; exact h2 ⟨n.val - 4608, by omega⟩
  · rintro ⟨h0, h⟩
    exact ⟨⟨h0, fun n => h _⟩, h0, fun n => h _⟩

/-- The distance of the least score is the least distance. -/
theorem rooted_least {q e : EReal} (hq : IsReal q) (he : IsReal e) (s : Fin 9216 → EReal) :
    rooted q e (Finset.univ.fold min (Ideal.ofBits .f32 0x7F800000#32) s)
      = Finset.univ.fold min (Ideal.ofBits .f32 0x7F800000#32) fun n => rooted q e (s n) := by
  rw [word_top]
  refine (Finset.fold_hom (op' := min) (fun x y => (rooted_mono q e).map_min)).symm.trans ?_
  rw [rooted_top hq he]

/-- The score of a bank row with the squared length of the feature added is the squared distance. -/
theorem score_eq {f m : Fin 384 → EReal} (hf : ∀ k, IsReal (f k)) (hm : ∀ k, IsReal (m k)) :
    ((∑ k, (Ideal.ofBits .f32 0xC0000000#32 * f k) * m k) + ∑ k, m k * m k) + ∑ k, f k * f k
      = (∑ k, f k * f k) + (∑ k, m k * m k) - Ideal.ofBits .f32 0x40000000#32 * ∑ k, f k * m k := by
  rw [word_minus_two, word_two]
  have h1 : ∑ k, (((-2 : ℝ) : EReal) * f k) * m k = -(((2 : ℝ) : EReal) * ∑ k, f k * m k) := by
    choose a ha using hf
    choose b hb using hm
    have hs : ∀ g : Fin 384 → ℝ, ∑ k, ((g k : ℝ) : EReal) = ((∑ k, g k : ℝ) : EReal) := fun g =>
      (map_sum (⟨⟨Real.toEReal, EReal.coe_zero⟩, EReal.coe_add⟩ : ℝ →+ EReal) g Finset.univ).symm
    simp only [ha, hb, ← EReal.coe_mul, hs, ← EReal.coe_neg]
    congr 1
    rw [Finset.mul_sum, ← Finset.sum_neg_distrib]
    exact Finset.sum_congr rfl fun k _ => by ring
  rw [h1, sub_eq_add_neg]
  ac_rfl

/-- What the kernel takes for the distance is the least distance to the bank. -/
theorem distRow_eq {f : Fin 384 → EReal} {M : FVec Ideal S9216x384 .bf16} {bn : FVec Ideal S1x9216 .f32}
    (hf : ∀ k, IsReal (f k)) (hM : ∀ n k, IsReal (M (ix2 n k))) (hb : ∀ n, bn (ix2 0 n) = ∑ k : Fin 384, M (ix2 n k) * M (ix2 n k)) :
    distRow f M bn = Finset.univ.fold min (Ideal.ofBits .f32 0x7F800000#32) fun n : Fin 9216 =>
      Ideal.sqrt (max ((∑ k : Fin 384, f k * f k) + (∑ k : Fin 384, M (ix2 n k) * M (ix2 n k))
        - Ideal.ofBits .f32 0x40000000#32 * ∑ k : Fin 384, f k * M (ix2 n k)) 0 + Ideal.ofBits .f32 0x2B8CBCCC#32) := by
  have h1 := least_halves fun n => (∑ k : Fin 384, (Ideal.ofBits .f32 0xC0000000#32 * f k) * M (ix2 n k)) + bn (ix2 0 n)
  refine (congrArg (rooted (∑ k, f k * f k) (Ideal.ofBits .f32 0x2B8CBCCC#32)) h1).trans ?_
  refine (rooted_least (IsReal.sum _ fun k => (hf k).mul (hf k)) word_small _).trans ?_
  refine congrArg (Finset.fold min _ · _) (funext fun n => ?_)
  unfold rooted
  rw [hb n, score_eq hf (hM n)]

end Cert.KernelIdeal.Hand

end

end
-- ==== Proof.Value.Weights.lean ====
/- The resize weights are real. -/
module

public import proofs.«01_k».proof.Proof.Value.Host
public import proofs.«01_k».proof.Proof.Value.Reals

@[expose] public section

set_option maxRecDepth 16384

noncomputable section

namespace Cert.KernelIdeal.Hand

open Cert.KernelIdeal Cert.KernelIdeal.Gen Idealize.ShloMosaic Idealize.ShloMosaic.TcCoe Idealize.SL.Sem

/-- An integer word as a float is real. -/
theorem int_real {n : Nat} (b : BitVec n) : IsReal (FloatOps.sitofp (F := Ideal) .f32 b) := ⟨((b.toInt : ℤ) : ℝ), rfl⟩

/-- An absolute value of a real is real. -/
theorem IsReal.absf {x : EReal} (h : IsReal x) : IsReal (FloatOps.absf (F := Ideal) (φ := .f32) x) := by
  obtain ⟨r, rfl⟩ := h
  exact IsReal.max ⟨r, rfl⟩ ⟨-r, (EReal.coe_neg r).symm⟩

/-- A selection between two reals is real. -/
theorem IsReal.select (p : BitVec 1) {x y : EReal} (hx : IsReal x) (hy : IsReal y) : IsReal (Scalar.select p x y) := by
  unfold Scalar.select
  split_ifs <;> assumption

/-- The sampling positions are real. -/
theorem samp_real (h : Fin 24) : IsReal (samp (ix1 h)) := by
  pointwise [samp]
  exact (((int_real _).add (word_real _ (by decide))).mul (word_real _ (by decide))).sub (word_real _ (by decide))

/-- The triangle's width is real and not zero. -/
theorem width_real : IsReal ((id (maximumf (constant S_ .f32 0x41800000#32) (constant S_ .f32 0x3F800000#32)) : FVec Ideal S_ .f32) ix0)
    ∧ (id (maximumf (constant S_ .f32 0x41800000#32) (constant S_ .f32 0x3F800000#32)) : FVec Ideal S_ .f32) ix0 ≠ 0 := by
  have e : (id (maximumf (constant S_ .f32 0x41800000#32) (constant S_ .f32 0x3F800000#32)) : FVec Ideal S_ .f32) ix0
      = max (Ideal.ofBits .f32 0x41800000#32) (Ideal.ofBits .f32 0x3F800000#32) := rfl
  rw [e]
  refine ⟨(word_real _ (by decide)).max (word_real _ (by decide)), ?_⟩
  rw [Ideal.ofBits_one_f32]
  exact (lt_of_lt_of_le zero_lt_one (le_max_right _ _)).ne'

/-- The triangle weights are real. -/
theorem tri_real (k : Fin 384) (h : Fin 24) : IsReal (tri (ix2 k h)) := by
  pointwise [tri]
  exact IsReal.zero.max (IsReal.one.sub ((((samp_real h).sub (int_real _)).absf.div width_real.1 width_real.2).absf))

/-- The column sums of the triangle weights are real. -/
theorem tot_real (h : Fin 24) : IsReal (tot (ix2 0 h)) := by
  pointwise [tot]
  exact IsReal.sum _ fun k => tri_real k h

/-- The resize weights are real. -/
theorem wmat_real (k : Fin 384) (h : Fin 24) : IsReal (wmat (ix2 k h)) := by
  pointwise [wmat]
  refine IsReal.select _ ?_ (int_real _)
  split_ifs with h1 h2
  · exact (tri_real k h).div (tot_real h) h2
  · refine (tri_real k h).div (int_real _) ?_
    show (((1#32 : BitVec 32).toInt : ℝ) : EReal) ≠ 0
    simp
  · exact int_real _

end Cert.KernelIdeal.Hand

end

end
-- ==== Proof.Value.RefGeo.lean ====
/- The reference's values, read at an index. -/
module

public import proofs.«01_k».proof.Proof.Ref.Run
public import proofs.«01_k».proof.Proof.Value.Host
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-- The reference's weight matrix is the kernel's. -/
theorem resize_eq (V0 : Valuation τ sig (Elt Ideal)) : res_main_v8 V0
    = (transpose S4x5x24x24 [1, 2, 0, 3] (Host.dotGeneral (φ₁ := .f32) (φ₂ := .f32) dot_S24x4x5x384_S384x24_S24x4x5x24_3_0_012_1_n_n (some .fp32)
        (Host.dotGeneral (φ₁ := .f32) (φ₂ := .f32) dot_S384x24_S4x5x384x384_S24x4x5x384_0_2_1_013_n_n (some .fp32) (Cert.KernelIdeal.Hand.wmat : FVec Ideal S384x24 .f32) (V0 (Proc.devRef .tc main_arg1) : FVec Ideal S4x5x384x384 .f32) : FVec Ideal S24x4x5x384 .f32)
        (Cert.KernelIdeal.Hand.wmat : FVec Ideal S384x24 .f32) : FVec Ideal S24x4x5x24 .f32) transposes_S24x4x5x24_S4x5x24x24_1_2_0_3 : FVec Ideal S4x5x24x24 .f32) := rfl

/-- The resize as two sums over the image's lines and columns, with any weight matrix. -/
theorem resize_apply (W : FVec Ideal S384x24 .f32) (X : FVec Ideal S4x5x384x384 .f32) (b : Fin 4) (c : Fin 5) (h w : Fin 24) :
    (transpose S4x5x24x24 [1, 2, 0, 3] (Host.dotGeneral (φ₁ := .f32) (φ₂ := .f32) dot_S24x4x5x384_S384x24_S24x4x5x24_3_0_012_1_n_n (some .fp32)
        (Host.dotGeneral (φ₁ := .f32) (φ₂ := .f32) dot_S384x24_S4x5x384x384_S24x4x5x384_0_2_1_013_n_n (some .fp32) W X : FVec Ideal S24x4x5x384 .f32)
        W : FVec Ideal S24x4x5x24 .f32) transposes_S24x4x5x24_S4x5x24x24_1_2_0_3 : FVec Ideal S4x5x24x24 .f32) (ix4 b c h w)
      = ∑ l : Fin 384, (∑ k : Fin 384, W (ix2 k h) * X (ix4 b c k l)) * W (ix2 l w) := by
  pointwise

end Cert.ReferenceIdeal.Hand

end

end
-- ==== Proof.Value.RefConv.lean ====
/- The reference's patch contraction, over its three axes. -/
module

public import proofs.«01_k».proof.Proof.Ref.Run
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-- The patch contraction's dimension numbers. -/
abbrev convDims : DotDims S384x3x16x16 S4x3x24x16x24x16 S384x4x24x24 := dot_S384x3x16x16_S4x3x24x16x24x16_S384x4x24x24_123_135_0_024_n_n

/-- A contraction index from its channel, its row in the patch and its column in the patch. -/
def convIx (k : Fin 3 × Fin 16 × Fin 16) : convDims.contr.Idx := fun a =>
  match a with
  | ⟨0, _⟩ => k.1
  | ⟨1, _⟩ => k.2.1
  | ⟨2, _⟩ => k.2.2
  | ⟨n + 3, h⟩ => absurd h (Nat.not_lt.2 (Nat.le_add_left _ _))

/-- Contraction indices are triples of coordinates. -/
def convEquiv : Fin 3 × Fin 16 × Fin 16 ≃ convDims.contr.Idx where
  toFun := convIx
  invFun kk := (kk ⟨0, by decide⟩, kk ⟨1, by decide⟩, kk ⟨2, by decide⟩)
  left_inv _ := rfl
  right_inv kk := by
    funext a
    match a with
    | ⟨0, _⟩ => rfl
    | ⟨1, _⟩ => rfl
    | ⟨2, _⟩ => rfl
    | ⟨n + 3, h⟩ => exact absurd h (Nat.not_lt.2 (Nat.le_add_left _ _))

/-- Where the patch contraction reads the filters. -/
theorem conv_lhs (o : Fin 384) (b : Fin 4) (h w : Fin 24) (k : Fin 3 × Fin 16 × Fin 16) :
    convDims.lhsIdx (ix4 o b h w) (convIx k) = ix4 o k.1 k.2.1 k.2.2 := by
  funext a
  match a with
  | ⟨0, _⟩ => rfl
  | ⟨1, _⟩ => rfl
  | ⟨2, _⟩ => rfl
  | ⟨3, _⟩ => rfl

/-- Where the patch contraction reads the image. -/
theorem conv_rhs (o : Fin 384) (b : Fin 4) (h w : Fin 24) (k : Fin 3 × Fin 16 × Fin 16) :
    convDims.rhsIdx (ix4 o b h w) (convIx k) = ix6 b k.1 h k.2.1 w k.2.2 := by
  funext a
  match a with
  | ⟨0, _⟩ => rfl
  | ⟨1, _⟩ => rfl
  | ⟨2, _⟩ => rfl
  | ⟨3, _⟩ => rfl
  | ⟨4, _⟩ => rfl
  | ⟨5, _⟩ => rfl

/-- The image cut in patches, entry by entry. -/
theorem image_apply (X : FVec Ideal S4x3x384x384 .f32) (b : Fin 4) (c : Fin 3) (h : Fin 24) (q : Fin 16) (w : Fin 24) (p : Fin 16) :
    (shapeCast S4x3x24x16x24x16 X shapeCasts_S4x3x384x384_S4x3x24x16x24x16 : FVec Ideal S4x3x24x16x24x16 .f32) (ix6 b c h q w p)
      = X (ix4 b c ⟨16 * h.val + q.val, by omega⟩ ⟨16 * w.val + p.val, by omega⟩) := by
  pointwise
  blk_ext

/-- The patch contraction at an index. -/
theorem conv_apply (X2 : FVec Ideal S384x3x16x16 .f32) (X0 : FVec Ideal S4x3x384x384 .f32) (o : Fin 384) (b : Fin 4) (h w : Fin 24) :
    Ideal.matmul convDims X2 (shapeCast S4x3x24x16x24x16 X0 shapeCasts_S4x3x384x384_S4x3x24x16x24x16) (fun _ => 0) (ix4 o b h w)
      = ∑ c : Fin 3, ∑ q : Fin 16, ∑ p : Fin 16, X2 (ix4 o c q p) * X0 (ix4 b c ⟨16 * h.val + q.val, by omega⟩ ⟨16 * w.val + p.val, by omega⟩) := by
  unfold Ideal.matmul
  rw [zero_add, ← Fintype.sum_equiv convEquiv (fun k => X2 (convDims.lhsIdx (ix4 o b h w) (convIx k))
    * (shapeCast S4x3x24x16x24x16 X0 shapeCasts_S4x3x384x384_S4x3x24x16x24x16) (convDims.rhsIdx (ix4 o b h w) (convIx k))) _ fun _ => rfl]
  simp only [conv_lhs, conv_rhs, Fintype.sum_prod_type]
  refine Finset.sum_congr rfl fun c _ => Finset.sum_congr rfl fun q _ => Finset.sum_congr rfl fun p _ => ?_
  exact congrArg (X2 (ix4 o c q p) * ·) (image_apply X0 b c h q w p)

end Cert.ReferenceIdeal.Hand

end

end
-- ==== Proof.Value.RefFlat.lean ====
/- The reference's values, read at an index. -/
module

public import proofs.«01_k».proof.Proof.Ref.Run
public import proofs.«01_k».proof.Proof.Value.RefGeo
public import proofs.«01_k».proof.Proof.Value.RefConv
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-- The reference's fused features as a term of the arguments and the resized geometry. -/
def flatTerm (X0 : FVec Ideal S4x3x384x384 .f32) (X2 : FVec Ideal S384x3x16x16 .f32) (X3 : FVec Ideal S384 .f32)
    (X4 : FVec Ideal S384x389x1x1 .f32) (X5 : FVec Ideal S384 .f32) (G : FVec Ideal S4x5x24x24 .f32) : FVec Ideal S2304x384 .f32 :=
  shapeCast S2304x384 (transpose S4x24x24x384 [0, 2, 3, 1] (addf (transpose S4x384x24x24 [1, 0, 2, 3] (Host.dotGeneral (φ₁ := .f32) (φ₂ := .f32) dot_S384x389_S4x389x24x24_S384x4x24x24_1_1_0_023_n_n none (shapeCast S384x389 X4 shapeCasts_S384x389x1x1_S384x389) (concatenate S4x389x24x24 1 [⟨S4x384x24x24, (maximumf (addf (transpose S4x384x24x24 [1, 0, 2, 3] (Host.dotGeneral (φ₁ := .f32) (φ₂ := .f32) dot_S384x3x16x16_S4x3x24x16x24x16_S384x4x24x24_123_135_0_024_n_n none X2 (shapeCast S4x3x24x16x24x16 X0 shapeCasts_S4x3x384x384_S4x3x24x16x24x16)) transposes_S384x4x24x24_S4x384x24x24_1_0_2_3) (broadcastInDim S4x384x24x24 ![0, 1, 2, 3] bcast_S1x384x1x1_S4x384x24x24_0_1_2_3 (broadcastInDim S1x384x1x1 ![1] bcast_S384_S1x384x1x1_1 X3))) (broadcastInDim S4x384x24x24 ![] bcast_S_S4x384x24x24 (constant S_ .f32 0x00000000#32)))⟩, ⟨S4x5x24x24, G⟩] concatenates_S4x384x24x24_S4x5x24x24_S4x389x24x24_d1)) transposes_S384x4x24x24_S4x384x24x24_1_0_2_3) (broadcastInDim S4x384x24x24 ![0, 1, 2, 3] bcast_S1x384x1x1_S4x384x24x24_0_1_2_3 (broadcastInDim S1x384x1x1 ![1] bcast_S384_S1x384x1x1_1 X5))) transposes_S4x384x24x24_S4x24x24x384_0_2_3_1) shapeCasts_S4x24x24x384_S2304x384

/-- The reference's flattened features are that term. -/
theorem flat_eq (V0 : Valuation τ sig (Elt Ideal)) : res_main_v17 V0
    = flatTerm (V0 (Proc.devRef .tc main_arg0)) (V0 (Proc.devRef .tc main_arg2)) (V0 (Proc.devRef .tc main_arg3)) (V0 (Proc.devRef .tc main_arg4)) (V0 (Proc.devRef .tc main_arg5)) (res_main_v8 V0) := rfl

/-- The factor of the weighted distance as a term of the resized geometry. -/
def factorTerm (G : FVec Ideal S4x5x24x24 .f32) : FVec Ideal S4x24x24 .f32 :=
  shapeCast S4x24x24 (addf (broadcastInDim S4x1x24x24 ![] bcast_S_S4x1x24x24 (constant S_ .f32 0x3F800000#32)) (Host.divf (broadcastInDim S4x1x24x24 ![] bcast_S_S4x1x24x24 (constant S_ .f32 0x3F800000#32)) (addf (broadcastInDim S4x1x24x24 ![] bcast_S_S4x1x24x24 (constant S_ .f32 0x3F800000#32)) (Host.exp (Host.negf (mulf (broadcastInDim S4x1x24x24 ![] bcast_S_S4x1x24x24 (constant S_ .f32 0x40800000#32)) (subf (addf (addf (mulf (broadcastInDim S4x1x24x24 ![] bcast_S_S4x1x24x24 (constant S_ .f32 0x3F000000#32)) (extractStridedSlice S4x1x24x24 ![0, 3, 0, 0] G slices_S4x5x24x24_S4x1x24x24_0_3_0_0)) (mulf (broadcastInDim S4x1x24x24 ![] bcast_S_S4x1x24x24 (constant S_ .f32 0x3E800000#32)) (subf (broadcastInDim S4x1x24x24 ![] bcast_S_S4x1x24x24 (constant S_ .f32 0x3F800000#32)) (extractStridedSlice S4x1x24x24 ![0, 2, 0, 0] G slices_S4x5x24x24_S4x1x24x24_0_2_0_0)))) (mulf (broadcastInDim S4x1x24x24 ![] bcast_S_S4x1x24x24 (constant S_ .f32 0x3E800000#32)) (extractStridedSlice S4x1x24x24 ![0, 4, 0, 0] G slices_S4x5x24x24_S4x1x24x24_0_4_0_0))) (broadcastInDim S4x1x24x24 ![] bcast_S_S4x1x24x24 (constant S_ .f32 0x3F000000#32))))))))) shapeCasts_S4x1x24x24_S4x24x24

/-- The second result is the first one times the factor. -/
theorem weighted_eq (V0 : Valuation τ sig (Elt Ideal)) : res_main_v65 V0
    = (mulf (res_main_v38 V0 : FVec Ideal S4x24x24 .f32) (factorTerm (res_main_v8 V0)) : FVec Ideal S4x24x24 .f32) := rfl

/-- A feature of a patch: the patch against one filter, with its bias, cut off below at zero. -/
def featOf (X0 : FVec Ideal S4x3x384x384 .f32) (X2 : FVec Ideal S384x3x16x16 .f32) (X3 : FVec Ideal S384 .f32) (b : Fin 4) (h w : Fin 24) (o : Fin 384) : EReal :=
  max ((∑ c : Fin 3, ∑ q : Fin 16, ∑ p : Fin 16, X2 (ix4 o c q p) * X0 (ix4 b c ⟨16 * h.val + q.val, by omega⟩ ⟨16 * w.val + p.val, by omega⟩)) + X3 (ix1 o)) 0

/-- A fused feature from the patch features and the resized geometry. -/
def fusedOf (X4 : FVec Ideal S384x389x1x1 .f32) (X5 : FVec Ideal S384 .f32) (f : Fin 384 → EReal) (g : Fin 5 → EReal) (n : Fin 384) : EReal :=
  (∑ k : Fin 384, X4 (ix4 n ⟨k.val, by omega⟩ 0 0) * f k) + (∑ e : Fin 5, X4 (ix4 n ⟨384 + e.val, by omega⟩ 0 0) * g e) + X5 (ix1 n)

/-- The flattened features, entry by entry. -/
theorem flat_apply (X0 : FVec Ideal S4x3x384x384 .f32) (X2 : FVec Ideal S384x3x16x16 .f32) (X3 : FVec Ideal S384 .f32)
    (X4 : FVec Ideal S384x389x1x1 .f32) (X5 : FVec Ideal S384 .f32) (G : FVec Ideal S4x5x24x24 .f32) (b : Fin 4) (h w : Fin 24) (n : Fin 384) :
    flatTerm X0 X2 X3 X4 X5 G (ix2 ⟨b.val * 576 + h.val * 24 + w.val, by omega⟩ n)
      = fusedOf X4 X5 (featOf X0 X2 X3 b h w) (fun e => G (ix4 b e h w)) n := by
  have hb : (b.val * 576 + h.val * 24 + w.val) / 576 = b.val := by omega
  have hh : (b.val * 576 + h.val * 24 + w.val) / 24 % 24 = h.val := by omega
  have hw : (b.val * 576 + h.val * 24 + w.val) % 24 = w.val := by omega
  pointwise [flatTerm, fusedOf, featOf]
  simp only [hb, hh, hw, Fin.eta, conv_apply]

/-- The factor of the weighted distance, entry by entry. -/
theorem factor_apply (G : FVec Ideal S4x5x24x24 .f32) (b : Fin 4) (h w : Fin 24) : factorTerm G (ix3 b h w)
    = 1 + Ideal.div 1 (1 + Ideal.exp (-(Ideal.ofBits .f32 0x40800000#32 *
    (Ideal.ofBits .f32 0x3F000000#32 * G (ix4 b 3 h w) + Ideal.ofBits .f32 0x3E800000#32 * (1 - G (ix4 b 2 h w)) + Ideal.ofBits .f32 0x3E800000#32 * G (ix4 b 4 h w) - Ideal.ofBits .f32 0x3F000000#32)))) := by
  pointwise [factorTerm]

end Cert.ReferenceIdeal.Hand

end

end
-- ==== Proof.Value.Kernel.lean ====
/- The kernel's fused features as the specification has them: the patch features and the resized geometry, fused. -/
module

public import proofs.«01_k».proof.Proof.Value.Entry
public import proofs.«01_k».proof.Proof.Value.Weights
public import proofs.«01_k».proof.Proof.Value.RefFlat

@[expose] public section

set_option maxRecDepth 16384

noncomputable section

namespace Cert.KernelIdeal.Hand

open Cert.KernelIdeal Cert.KernelIdeal.Gen Idealize.ShloMosaic Idealize.ShloMosaic.TcCoe Idealize.SL.Sem
open Cert.ReferenceIdeal.Hand (featOf fusedOf)

/-- The place in a patch row of a channel, a row and a column of the patch. -/
def placeEquiv : Fin 3 × Fin 16 × Fin 16 ≃ Fin 768 where
  toFun k := ⟨48 * k.2.2.val + 16 * k.1.val + k.2.1.val, by omega⟩
  invFun j := (⟨j.val % 48 / 16, by omega⟩, ⟨j.val % 16, by omega⟩, ⟨j.val / 48, by omega⟩)
  left_inv k := by
    obtain ⟨c, q, p⟩ := k
    refine Prod.ext (Fin.ext ?_) (Prod.ext (Fin.ext ?_) (Fin.ext ?_)) <;> simp only [] <;> omega
  right_inv j := Fin.ext (by simp only []; omega)

/-- A sum over the places of a patch row is a sum over channels, rows and columns. -/
theorem sum_places (g : Fin 3 → Fin 16 → Fin 16 → EReal) :
    (∑ j : Fin 768, g ⟨j.val % 48 / 16, by omega⟩ ⟨j.val % 16, by omega⟩ ⟨j.val / 48, by omega⟩) = ∑ c : Fin 3, ∑ q : Fin 16, ∑ p : Fin 16, g c q p := by
  refine (Fintype.sum_equiv placeEquiv.symm _ (fun k => g k.1 k.2.1 k.2.2) fun _ => rfl).trans ?_
  simp only [Fintype.sum_prod_type]

/-- A resized geometry channel at a position. -/
def geoOf (X1 : FVec Ideal S4x5x384x384 .f32) (b : Fin 4) (h w : Fin 24) (e : Fin 5) : EReal :=
  ∑ l : Fin 384, (∑ k : Fin 384, wmat (ix2 k h) * X1 (ix4 b e k l)) * wmat (ix2 l w)

/-- The row of a position in a map. -/
def rowOf (b : Fin 4) (h w : Fin 24) : Fin 2304 := ⟨b.val * 576 + h.val * 24 + w.val, by omega⟩

/-- The map of a row. -/
theorem rowOf_map (b : Fin 4) (h w : Fin 24) : (rowOf b h w).val / 576 = b.val := by unfold rowOf; simp only []; omega
/-- The line of a row. -/
theorem rowOf_line (b : Fin 4) (h w : Fin 24) : (rowOf b h w).val % 576 / 24 = h.val := by unfold rowOf; simp only []; omega
/-- The column of a row. -/
theorem rowOf_col (b : Fin 4) (h w : Fin 24) : (rowOf b h w).val % 24 = w.val := by unfold rowOf; simp only []; omega

/-- The patch rows at a position. -/
theorem patches_at (X : FVec Ideal S4x3x384x384 .bf16) (b : Fin 4) (h w : Fin 24) (j : Fin 768) :
    patches X (rowOf b h w) j = X (ix4 b ⟨j.val % 48 / 16, by omega⟩ ⟨16 * h.val + j.val % 16, by omega⟩ ⟨16 * w.val + j.val / 48, by omega⟩) := by
  unfold patches
  simp only [rowOf_map, rowOf_line, rowOf_col, Fin.eta]

/-- The geometry rows at a position. -/
theorem geo_at (X : FVec Ideal S4x5x384x384 .f32) (R : FVec Ideal S24x384 .f32) (hR : ∀ h l, R (ix2 h l) = wmat (ix2 l h)) (b : Fin 4) (h w : Fin 24) (e : Fin 8) :
    geoMat X R (rowOf b h w) e = if he : e.val < 5 then geoOf X b h w ⟨e.val, he⟩ else 0 := by
  unfold geoMat pooled geoOf
  simp only [rowOf_map, rowOf_line, rowOf_col, Fin.eta, hR]

/-- The kernel's fused feature is the fusion of the patch features with the geometry. -/
theorem flatRow_eq (X0 : FVec Ideal S4x3x384x384 .f32) (X2 : FVec Ideal S384x3x16x16 .f32) (X3 : FVec Ideal S384 .f32)
    (X4 : FVec Ideal S384x389x1x1 .f32) (X5 : FVec Ideal S384 .f32) (b : Fin 4) (h w : Fin 24) (g5 : Fin 5 → EReal)
    {p : Fin 768 → EReal} {w1 : FVec Ideal S768x384 .bf16} {b1 : FVec Ideal S1x384 .f32} {w2a : FVec Ideal S384x384 .bf16}
    {w2g : FVec Ideal S8x384 .bf16} {b2 : FVec Ideal S1x384 .f32} {g : Fin 8 → EReal}
    (hp : ∀ j, p j = X0 (ix4 b ⟨j.val % 48 / 16, by omega⟩ ⟨16 * h.val + j.val % 16, by omega⟩ ⟨16 * w.val + j.val / 48, by omega⟩))
    (hw1 : ∀ j o, w1 (ix2 j o) = X2 (ix4 o ⟨j.val % 48 / 16, by omega⟩ ⟨j.val % 16, by omega⟩ ⟨j.val / 48, by omega⟩))
    (hb1 : ∀ o, b1 (ix2 0 o) = X3 (ix1 o))
    (hw2a : ∀ k n, w2a (ix2 k n) = X4 (ix4 n ⟨k.val, by omega⟩ 0 0))
    (hw2g : ∀ e n, w2g (ix2 e n) = if h : e.val < 5 then X4 (ix4 n ⟨384 + e.val, by omega⟩ 0 0) else 0)
    (hb2 : ∀ o, b2 (ix2 0 o) = X5 (ix1 o))
    (hg : ∀ e, g e = if he : e.val < 5 then g5 ⟨e.val, he⟩ else 0) (n : Fin 384) :
    flatRow p w1 b1 w2a w2g b2 g n = fusedOf X4 X5 (featOf X0 X2 X3 b h w) g5 n := by
  unfold flatRow fusedOf
  refine congrArg₂ (· + ·) (congrArg₂ (· + ·) (Finset.sum_congr rfl fun k _ => ?_) ?_) (hb2 n)
  · rw [hw2a k n, mul_comm, hb1 k]
    refine congrArg (X4 (ix4 n ⟨k.val, by omega⟩ 0 0) * ·) (congrArg (fun x => max (x + X3 (ix1 k)) 0) ?_)
    refine (Finset.sum_congr rfl fun j _ => ?_).trans (sum_places fun c q p => X2 (ix4 k c q p) * X0 (ix4 b c ⟨16 * h.val + q.val, by omega⟩ ⟨16 * w.val + p.val, by omega⟩))
    rw [hp j, hw1 j k, mul_comm]
  · rw [Fin.sum_univ_eight, Fin.sum_univ_five]
    simp only [hg, hw2g]
    norm_num
    simp only [mul_comm]
    rfl

end Cert.KernelIdeal.Hand

end

end
-- ==== Proof.Value.RefMin.lean ====
/- The reference's least distance, read at an index. -/
module

public import proofs.«01_k».proof.Proof.Ref.Run
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-- The distances of every row to every prototype. -/
def distTerm (f : FVec Ideal S2304x384 .f32) (X6 : FVec Ideal S9216x384 .f32) : FVec Ideal S2304x9216 .f32 :=
  Host.sqrt (addf (maximumf (subf (addf (broadcastInDim S2304x9216 ![0, 1] bcast_S2304x1_S2304x9216_0_1 (broadcastInDim S2304x1 ![0] bcast_S2304_S2304x1_0 (Host.reduceAdd (mulf f f) (constant S_ .f32 0x00000000#32) reducesTo_S2304x384_S2304_d1 h_S_))) (broadcastInDim S2304x9216 ![0, 1] bcast_S1x9216_S2304x9216_0_1 (broadcastInDim S1x9216 ![1] bcast_S9216_S1x9216_1 (Host.reduceAdd (mulf X6 X6) (constant S_ .f32 0x00000000#32) reducesTo_S9216x384_S9216_d1 h_S_)))) (mulf (broadcastInDim S2304x9216 ![] bcast_S_S2304x9216 (constant S_ .f32 0x40000000#32)) (Host.dotGeneral (φ₁ := .f32) (φ₂ := .f32) dot_S2304x384_S384x9216_S2304x9216_1_0_0_1_n_n none f (transpose S384x9216 [1, 0] X6 transposes_S9216x384_S384x9216_1_0)))) (broadcastInDim S2304x9216 ![] bcast_S_S2304x9216 (constant S_ .f32 0x00000000#32))) (broadcastInDim S2304x9216 ![] bcast_S_S2304x9216 (constant S_ .f32 0x2B8CBCCC#32)))

/-- The first result is the row minimum of the distances. -/
theorem plain_eq (V0 : Valuation τ sig (Elt Ideal)) : res_main_v38 V0
    = (shapeCast S4x24x24 (Host.reduce FloatOps.minimumf (distTerm (res_main_v17 V0) (V0 (Proc.devRef .tc main_arg6))) (constant S_ .f32 0x7F800000#32) reducesTo_S2304x9216_S2304_d1 h_S_ : FVec Ideal S2304 .f32) shapeCasts_S2304_S4x24x24 : FVec Ideal S4x24x24 .f32) := rfl

/-- The row minimum at an index. -/
theorem least_apply (D : FVec Ideal S2304x9216 .f32) (b : Fin 4) (h w : Fin 24) :
    (shapeCast S4x24x24 (Host.reduce FloatOps.minimumf D (constant S_ .f32 0x7F800000#32) reducesTo_S2304x9216_S2304_d1 h_S_ : FVec Ideal S2304 .f32) shapeCasts_S2304_S4x24x24 : FVec Ideal S4x24x24 .f32) (ix3 b h w)
      = Finset.univ.fold min (Ideal.ofBits .f32 0x7F800000#32) fun k : Fin 9216 => D (ix2 ⟨b.val * 576 + h.val * 24 + w.val, by omega⟩ k) := by
  pointwise

/-- A distance, entry by entry. -/
theorem dist_apply (f : FVec Ideal S2304x384 .f32) (X6 : FVec Ideal S9216x384 .f32) (r : Fin 2304) (n : Fin 9216) :
    distTerm f X6 (ix2 r n) = Ideal.sqrt (max ((∑ k : Fin 384, f (ix2 r k) * f (ix2 r k)) + (∑ k : Fin 384, X6 (ix2 n k) * X6 (ix2 n k))
      - Ideal.ofBits .f32 0x40000000#32 * ∑ k : Fin 384, f (ix2 r k) * X6 (ix2 n k)) 0 + Ideal.ofBits .f32 0x2B8CBCCC#32) := by
  pointwise [distTerm]

end Cert.ReferenceIdeal.Hand

end

end
-- ==== Proof.Value.Equal.lean ====
/- The two results of the kernel and of the reference, both as the least distance to the bank and its weighted form. -/
module

public import proofs.«01_k».proof.Proof.Value.Kernel
public import proofs.«01_k».proof.Proof.Value.RefMin

@[expose] public section

set_option maxRecDepth 16384

noncomputable section

namespace Cert.Value

open Idealize.ShloMosaic Idealize.ShloMosaic.TcCoe Idealize.SL.Sem Idealize.ShloMosaic.StableHlo
open Cert.KernelIdeal.Hand (IsReal geoOf rowOf distRow flatAt weightedAt geoFactor)
open Cert.ReferenceIdeal.Hand (featOf fusedOf)
open Cert.KernelIdeal (S4x3x384x384 S4x5x384x384 S384x3x16x16 S384 S384x389x1x1 S9216x384)

/-- The fused features at a position. -/
def flatOf (X0 : FVec Ideal S4x3x384x384 .f32) (X1 : FVec Ideal S4x5x384x384 .f32) (X2 : FVec Ideal S384x3x16x16 .f32) (X3 : FVec Ideal S384 .f32)
    (X4 : FVec Ideal S384x389x1x1 .f32) (X5 : FVec Ideal S384 .f32) (b : Fin 4) (h w : Fin 24) (n : Fin 384) : EReal :=
  fusedOf X4 X5 (featOf X0 X2 X3 b h w) (geoOf X1 b h w) n

/-- The least distance of a feature to the bank. -/
def bankDist (f : Fin 384 → EReal) (X6 : FVec Ideal S9216x384 .f32) : EReal :=
  Finset.univ.fold min (Ideal.ofBits .f32 0x7F800000#32) fun n : Fin 9216 =>
    Ideal.sqrt (max ((∑ k : Fin 384, f k * f k) + (∑ k : Fin 384, X6 (ix2 n k) * X6 (ix2 n k))
      - Ideal.ofBits .f32 0x40000000#32 * ∑ k : Fin 384, f k * X6 (ix2 n k)) 0 + Ideal.ofBits .f32 0x2B8CBCCC#32)

/-- The weight of a position from its geometry. -/
def weightOf (g : Fin 5 → EReal) : EReal :=
  1 + Ideal.div 1 (1 + Ideal.exp (-(Ideal.ofBits .f32 0x40800000#32 *
    (Ideal.ofBits .f32 0x3F000000#32 * g 3 + Ideal.ofBits .f32 0x3E800000#32 * (1 - g 2) + Ideal.ofBits .f32 0x3E800000#32 * g 4 - Ideal.ofBits .f32 0x3F000000#32))))

/-- The fused features of real arguments are real. -/
theorem flatOf_real {X0 : FVec Ideal S4x3x384x384 .f32} {X1 : FVec Ideal S4x5x384x384 .f32} {X2 : FVec Ideal S384x3x16x16 .f32} {X3 : FVec Ideal S384 .f32}
    {X4 : FVec Ideal S384x389x1x1 .f32} {X5 : FVec Ideal S384 .f32} (h0 : ∀ i, IsReal (X0 i)) (h1 : ∀ i, IsReal (X1 i)) (h2 : ∀ i, IsReal (X2 i))
    (h3 : ∀ i, IsReal (X3 i)) (h4 : ∀ i, IsReal (X4 i)) (h5 : ∀ i, IsReal (X5 i)) (b : Fin 4) (h w : Fin 24) (n : Fin 384) :
    IsReal (flatOf X0 X1 X2 X3 X4 X5 b h w n) := by
  unfold flatOf fusedOf featOf geoOf
  refine ((IsReal.sum _ fun k => (h4 _).mul (IsReal.max ((IsReal.sum _ fun _ => IsReal.sum _ fun _ => IsReal.sum _ fun _ => (h2 _).mul (h0 _)).add (h3 _)) IsReal.zero)).add
    (IsReal.sum _ fun e => (h4 _).mul (IsReal.sum _ fun l => (IsReal.sum _ fun k => ?_).mul ?_))).add (h5 _)
  · exact (Cert.KernelIdeal.Hand.wmat_real _ _).mul (h1 _)
  · exact Cert.KernelIdeal.Hand.wmat_real _ _

/-! ### The reference -/

section reference
open Cert.ReferenceIdeal Cert.ReferenceIdeal.Gen Cert.ReferenceIdeal.Hand
variable (V0 : Valuation τ sig (Elt Ideal))

/-- The reference's resized geometry at a position. -/
theorem ref_geo (b : Fin 4) (e : Fin 5) (h w : Fin 24) :
    (res_main_v8 V0 : FVec Ideal S4x5x24x24 .f32) (ix4 b e h w) = geoOf (V0 (Proc.devRef .tc main_arg1)) b h w e :=
  (congrFun (resize_eq V0) _).trans (resize_apply _ _ b e h w)

/-- The reference's fused features at a position. -/
theorem ref_flat (b : Fin 4) (h w : Fin 24) (n : Fin 384) :
    (res_main_v17 V0 : FVec Ideal S2304x384 .f32) (ix2 (rowOf b h w) n) = flatOf (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) b h w n := by
  refine (congrFun (flat_eq V0) _).trans ((flat_apply _ _ _ _ _ _ b h w n).trans ?_)
  exact congrArg (fun g => fusedOf _ _ _ g n) (funext fun e => ref_geo V0 b e h w)

/-- The reference's first result at a position. -/
theorem ref_plain (b : Fin 4) (h w : Fin 24) :
    (res_main_v38 V0 : FVec Ideal S4x24x24 .f32) (ix3 b h w) = bankDist (flatOf (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) b h w) (V0 (Proc.devRef .tc main_arg6)) := by
  refine (congrFun (plain_eq V0) _).trans ((least_apply _ b h w).trans ?_)
  refine congrArg (Finset.fold min _ · _) (funext fun n => (dist_apply _ _ (rowOf b h w) n).trans ?_)
  simp only [ref_flat]

/-- The reference's factor at a position, from the geometry there. -/
theorem factor_weight (G : FVec Ideal S4x5x24x24 .f32) (b : Fin 4) (h w : Fin 24) (g : Fin 5 → EReal) (hG : ∀ e, G (ix4 b e h w) = g e) :
    factorTerm G (ix3 b h w) = weightOf g := by
  rw [factor_apply, hG, hG, hG]
  rfl

/-- A product of maps at a position. -/
theorem mul_at (A B : FVec Ideal S4x24x24 .f32) (i : S4x24x24.Idx) {x y : EReal} (hA : A i = x) (hB : B i = y) : (mulf A B : FVec Ideal S4x24x24 .f32) i = x * y :=
  congrArg₂ (· * ·) hA hB

/-- The reference's second result at a position. -/
theorem ref_weighted (b : Fin 4) (h w : Fin 24) :
    (res_main_v65 V0 : FVec Ideal S4x24x24 .f32) (ix3 b h w) = bankDist (flatOf (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) b h w) (V0 (Proc.devRef .tc main_arg6)) * weightOf (geoOf (V0 (Proc.devRef .tc main_arg1)) b h w) := by
  have e := mul_at (res_main_v38 V0) (factorTerm (res_main_v8 V0)) (ix3 b h w) (ref_plain V0 b h w) (factor_weight _ b h w _ fun e => ref_geo V0 b e h w)
  rw [weighted_eq V0]
  exact e

end reference

/-! ### The kernel -/

section kernel
open Cert.KernelIdeal Cert.KernelIdeal.Gen Cert.KernelIdeal.Hand
variable (m : (ℓ : Loc nD τ sig) → Buf (Elt Ideal) ℓ) (ρ : Dev nD → PrngReg)

/-- The kernel's geometry rows at a position. -/
theorem ker_geo (c : Dev nD) (b : Fin 4) (h w : Fin 24) (e : Fin 8) :
    (V10 m ρ c main_v59_1 : FVec Ideal S2304x8 .f32) (ix2 (rowOf b h w) e)
      = if he : e.val < 5 then geoOf (m ((c : Thread nD τ).loc main_arg1)) b h w ⟨e.val, he⟩ else 0 := by
  refine (V10_v59_1 m ρ c (ix2 (rowOf b h w) e)).trans ?_
  rw [show V9 m ρ c main_arg1 = m ((c : Thread nD τ).loc main_arg1) from W9_args m ρ c main_arg1 (by decide)]
  exact geo_at _ _ (fun h l => (congrFun (V9_v58 m ρ c) _).trans (rop_apply _ h l)) b h w e

/-- The kernel's fused features at a position. -/
theorem ker_flat (c : Dev nD) (b : Fin 4) (h w : Fin 24) (n : Fin 384) :
    flatAt (V10 m ρ) c (rowOf b h w) n = flatOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) b h w n := by
  refine flatRow_eq (m ((c : Thread nD τ).loc main_arg0)) (m ((c : Thread nD τ).loc main_arg2)) (m ((c : Thread nD τ).loc main_arg3))
    (m ((c : Thread nD τ).loc main_arg4)) (m ((c : Thread nD τ).loc main_arg5)) b h w (geoOf (m ((c : Thread nD τ).loc main_arg1)) b h w)
    (fun j => ?_) (fun j o => ?_) (fun o => ?_) (fun k n => ?_) (fun e n => ?_) (fun o => ?_) (fun e => ker_geo m ρ c b h w e) n
  · refine (V10_v59_0 m ρ c (ix2 (rowOf b h w) j)).trans ((patches_at _ b h w j).trans ?_)
    exact congrFun (V9_v0 m ρ c) _
  · exact (congrFun ((V10_of m ρ c main_v3 (by decide)).trans (V9_v3 m ρ c)) _).trans (w1_apply _ j o)
  · exact (congrFun ((V10_of m ρ c main_v4 (by decide)).trans (V9_v4 m ρ c)) _).trans (row_apply _ o)
  · exact (congrFun ((V10_of m ρ c main_v8 (by decide)).trans (V9_v8 m ρ c)) _).trans (w2a_apply _ k n)
  · exact (congrFun ((V10_of m ρ c main_v12 (by decide)).trans (V9_v12 m ρ c)) _).trans (w2g_apply _ e n)
  · exact (congrFun ((V10_of m ρ c main_v13 (by decide)).trans (V9_v13 m ρ c)) _).trans (row_apply _ o)

/-- The kernel's bank at the second call. -/
theorem ker_bank (c : Dev nD) (n : Fin 9216) (k : Fin 384) :
    (V10 m ρ c main_v14 : FVec Ideal S9216x384 .bf16) (ix2 n k) = (m ((c : Thread nD τ).loc main_arg6) : FVec Ideal S9216x384 .f32) (ix2 n k) :=
  congrFun ((V10_of m ρ c main_v14 (by decide)).trans (V9_v14 m ρ c)) (ix2 n k)

/-- The squared lengths of the kernel's bank rows at the second call. -/
theorem ker_norms (c : Dev nD) (n : Fin 9216) :
    (V10 m ρ c main_v59_2 : FVec Ideal S1x9216 .f32) (ix2 0 n)
      = normRow (V10 m ρ c main_v14) n := by
  refine (V10_v59_2 m ρ c (ix2 0 n)).trans ?_
  rw [← V10_of m ρ c main_v14 (by decide)]
  rfl

/-- What the kernel takes for the distance at a position, for real features and a real bank. -/
theorem ker_dist (c : Dev nD) (b : Fin 4) (h w : Fin 24) (f : Fin 384 → EReal) (hflat : ∀ n, flatAt (V10 m ρ) c (rowOf b h w) n = f n)
    (hf : ∀ n, IsReal (f n)) (h6 : ∀ i, IsReal ((m ((c : Thread nD τ).loc main_arg6) : FVec Ideal S9216x384 .f32) i)) :
    distRow (flatAt (V10 m ρ) c (rowOf b h w)) (V10 m ρ c main_v14) (V10 m ρ c main_v59_2) = bankDist f (m ((c : Thread nD τ).loc main_arg6)) := by
  rw [show flatAt (V10 m ρ) c (rowOf b h w) = f from funext hflat]
  refine (distRow_eq hf (fun n k => ?_) (ker_norms m ρ c)).trans ?_
  · rw [ker_bank m ρ c n k]; exact h6 _
  · unfold bankDist
    simp only [ker_bank m ρ c]

/-- The kernel's first result is its distance column as a map. -/
theorem ker_v61 (c : Dev nD) : W12 m ρ c (Proc.devRef .tc main_v61) = (shapeCast S4x24x24 (V11 m ρ c main_v60_0 : FVec Ideal S2304x1 .f32) shapeCasts_S2304x1_S4x24x24 : FVec Ideal S4x24x24 .f32) := by
  show after hostOps2 (W11 m ρ c) (Proc.devRef .tc main_v61) = _
  unfold hostOps2
  after_results_simp
  rfl

/-- The kernel's second result is its weighted column as a map. -/
theorem ker_v62 (c : Dev nD) : W12 m ρ c (Proc.devRef .tc main_v62) = (shapeCast S4x24x24 (V11 m ρ c main_v60_1 : FVec Ideal S2304x1 .f32) shapeCasts_S2304x1_S4x24x24 : FVec Ideal S4x24x24 .f32) := by
  show after hostOps2 (W11 m ρ c) (Proc.devRef .tc main_v62) = _
  unfold hostOps2
  after_results_simp
  rfl

/-- The kernel's first result at a position. -/
theorem ker_plain (c : Dev nD) (b : Fin 4) (h w : Fin 24) :
    (W12 m ρ c (Proc.devRef .tc main_v61) : FVec Ideal S4x24x24 .f32) (ix3 b h w)
      = distRow (flatAt (V10 m ρ) c (rowOf b h w)) (V10 m ρ c main_v14) (V10 m ρ c main_v59_2) :=
  (congrFun (ker_v61 m ρ c) _).trans ((res_apply _ b h w).trans (V11_v60_0 m ρ c (ix2 (rowOf b h w) 0)))

/-- The kernel's factor from the geometry. -/
theorem geoFactor_weight {g : Fin 8 → EReal} {g5 : Fin 5 → EReal} (h3 : g 3 = g5 3) (h2 : g 2 = g5 2) (h4 : g 4 = g5 4) : geoFactor g = weightOf g5 := by
  unfold geoFactor weightOf Ideal.logistic
  rw [h3, h2, h4]

/-- The kernel's second result at a position. -/
theorem ker_weighted (c : Dev nD) (b : Fin 4) (h w : Fin 24) :
    (W12 m ρ c (Proc.devRef .tc main_v62) : FVec Ideal S4x24x24 .f32) (ix3 b h w)
      = distRow (flatAt (V10 m ρ) c (rowOf b h w)) (V10 m ρ c main_v14) (V10 m ρ c main_v59_2) * weightOf (geoOf (m ((c : Thread nD τ).loc main_arg1)) b h w) := by
  refine (congrFun (ker_v62 m ρ c) _).trans ((res_apply _ b h w).trans ((V11_v60_1 m ρ c (ix2 (rowOf b h w) 0)).trans ?_))
  show weightedAt (V10 m ρ) c (rowOf b h w) = _
  unfold weightedAt
  exact congrArg (distRow _ _ _ * ·) (geoFactor_weight ((ker_geo m ρ c b h w 3).trans (dif_pos (by decide))) ((ker_geo m ρ c b h w 2).trans (dif_pos (by decide)))
    ((ker_geo m ρ c b h w 4).trans (dif_pos (by decide))))

end kernel

end Cert.Value

end

end
-- ==== Proof.Value.Final.lean ====
/- The precondition read as realness of the arguments, and the equality of the two programs' results. -/
module

public import proofs.«01_k».proof.Defs
public import proofs.«01_k».proof.Proof.Value.Equal

@[expose] public section

set_option maxRecDepth 16384

noncomputable section

namespace Cert.Pre_finite.Hand

/-- The precondition's side conditions. -/
instance facts : Cert.Pre_finite.Facts where
  bcast_S_S4x3x384x384 := by decide
  bcast_S_S4x5x384x384 := by decide
  bcast_S_S384x3x16x16 := by decide
  bcast_S_S384 := by decide
  bcast_S_S384x389x1x1 := by decide
  bcast_S_S9216x384 := by decide

end Cert.Pre_finite.Hand

namespace Cert.Value

open Idealize.ShloMosaic Idealize.ShloMosaic.TcCoe Idealize.SL.Sem Idealize.ShloMosaic.StableHlo
open Cert.KernelIdeal.Hand (IsReal geoOf)

/-- A number of absolute value below the upper infinity is real. -/
theorem real_of_abs_lt {x : EReal} (h : max x (-x) < ⊤) : IsReal x := by
  refine IsReal.of_ne (fun e => ?_) (fun e => ?_)
  · rw [e] at h; exact absurd (lt_of_le_of_lt (le_max_left _ _) h) (lt_irrefl _)
  · rw [e] at h; exact absurd (lt_of_le_of_lt (le_max_right _ _) h) (by rw [EReal.neg_bot]; exact lt_irrefl _)

/-- An array that passes the comparison with infinity is real everywhere. -/
theorem real_of_test {s : Shape} (X : FVec Ideal s .f32) {d : Fin 0 → Fin s.rank} (hb : Cert.Pre_finite.S_.BroadcastsInDim s d)
    (h : cmpf .olt (Host.absf X) (broadcastInDim s d hb (constant Cert.Pre_finite.S_ .f32 0x7F800000#32 : FVec Ideal Cert.Pre_finite.S_ .f32)) = fun _ => 1#1) (i : s.Idx) :
    IsReal (X i) := by
  have e := congrFun h i
  have e' : BitVec.ofBool (decide (max (X i) (-X i) < Ideal.ofBits .f32 0x7F800000#32)) = 1#1 := e
  rw [Cert.KernelIdeal.Hand.word_top] at e'
  refine real_of_abs_lt ?_
  by_contra hc
  rw [decide_eq_false hc] at e'
  exact absurd e' (by decide)

variable (m : (ℓ : Loc Cert.KernelIdeal.nD Cert.KernelIdeal.τ Cert.KernelIdeal.sig) → Buf (Elt Ideal) ℓ)

/-- The precondition says that the seven arguments are real. -/
theorem args_real (h : Cert.Pre_KernelIdeal_finite m) (c : Dev Cert.KernelIdeal.nD) :
    (∀ i, IsReal ((m ((c : Thread Cert.KernelIdeal.nD Cert.KernelIdeal.τ).loc Cert.KernelIdeal.main_arg0) : FVec Ideal Cert.KernelIdeal.S4x3x384x384 .f32) i))
    ∧ (∀ i, IsReal ((m ((c : Thread Cert.KernelIdeal.nD Cert.KernelIdeal.τ).loc Cert.KernelIdeal.main_arg1) : FVec Ideal Cert.KernelIdeal.S4x5x384x384 .f32) i))
    ∧ (∀ i, IsReal ((m ((c : Thread Cert.KernelIdeal.nD Cert.KernelIdeal.τ).loc Cert.KernelIdeal.main_arg2) : FVec Ideal Cert.KernelIdeal.S384x3x16x16 .f32) i))
    ∧ (∀ i, IsReal ((m ((c : Thread Cert.KernelIdeal.nD Cert.KernelIdeal.τ).loc Cert.KernelIdeal.main_arg3) : FVec Ideal Cert.KernelIdeal.S384 .f32) i))
    ∧ (∀ i, IsReal ((m ((c : Thread Cert.KernelIdeal.nD Cert.KernelIdeal.τ).loc Cert.KernelIdeal.main_arg4) : FVec Ideal Cert.KernelIdeal.S384x389x1x1 .f32) i))
    ∧ (∀ i, IsReal ((m ((c : Thread Cert.KernelIdeal.nD Cert.KernelIdeal.τ).loc Cert.KernelIdeal.main_arg5) : FVec Ideal Cert.KernelIdeal.S384 .f32) i))
    ∧ (∀ i, IsReal ((m ((c : Thread Cert.KernelIdeal.nD Cert.KernelIdeal.τ).loc Cert.KernelIdeal.main_arg6) : FVec Ideal Cert.KernelIdeal.S9216x384 .f32) i)) := by
  obtain ⟨h0, h1, h2, h3, h4, h5, h6⟩ := h c
  exact ⟨real_of_test _ _ h0, real_of_test _ _ h1, real_of_test _ _ h2, real_of_test _ _ h3, real_of_test _ _ h4, real_of_test _ _ h5, real_of_test _ _ h6⟩

variable (ρ : Dev Cert.KernelIdeal.nD → PrngReg)

/-- What the kernel's first result holds, for real arguments. -/
theorem ker_result0 (h : Cert.Pre_KernelIdeal_finite m) (c : Dev Cert.KernelIdeal.nD) (b : Fin 4) (i j : Fin 24) :
    (Cert.KernelIdeal.Hand.W12 m ρ c (Proc.devRef .tc Cert.KernelIdeal.main_v61) : FVec Ideal Cert.KernelIdeal.S4x24x24 .f32) (ix3 b i j)
      = bankDist (flatOf (m ((c : Thread Cert.KernelIdeal.nD Cert.KernelIdeal.τ).loc Cert.KernelIdeal.main_arg0)) (m ((c : Thread Cert.KernelIdeal.nD Cert.KernelIdeal.τ).loc Cert.KernelIdeal.main_arg1))
          (m ((c : Thread Cert.KernelIdeal.nD Cert.KernelIdeal.τ).loc Cert.KernelIdeal.main_arg2)) (m ((c : Thread Cert.KernelIdeal.nD Cert.KernelIdeal.τ).loc Cert.KernelIdeal.main_arg3))
          (m ((c : Thread Cert.KernelIdeal.nD Cert.KernelIdeal.τ).loc Cert.KernelIdeal.main_arg4)) (m ((c : Thread Cert.KernelIdeal.nD Cert.KernelIdeal.τ).loc Cert.KernelIdeal.main_arg5)) b i j)
        (m ((c : Thread Cert.KernelIdeal.nD Cert.KernelIdeal.τ).loc Cert.KernelIdeal.main_arg6)) := by
  obtain ⟨h0, h1, h2, h3, h4, h5, h6⟩ := args_real m h c
  exact (ker_plain m ρ c b i j).trans (ker_dist m ρ c b i j _ (ker_flat m ρ c b i j) (flatOf_real h0 h1 h2 h3 h4 h5 b i j) h6)

/-- What the kernel's second result holds, for real arguments. -/
theorem ker_result1 (h : Cert.Pre_KernelIdeal_finite m) (c : Dev Cert.KernelIdeal.nD) (b : Fin 4) (i j : Fin 24) :
    (Cert.KernelIdeal.Hand.W12 m ρ c (Proc.devRef .tc Cert.KernelIdeal.main_v62) : FVec Ideal Cert.KernelIdeal.S4x24x24 .f32) (ix3 b i j)
      = bankDist (flatOf (m ((c : Thread Cert.KernelIdeal.nD Cert.KernelIdeal.τ).loc Cert.KernelIdeal.main_arg0)) (m ((c : Thread Cert.KernelIdeal.nD Cert.KernelIdeal.τ).loc Cert.KernelIdeal.main_arg1))
          (m ((c : Thread Cert.KernelIdeal.nD Cert.KernelIdeal.τ).loc Cert.KernelIdeal.main_arg2)) (m ((c : Thread Cert.KernelIdeal.nD Cert.KernelIdeal.τ).loc Cert.KernelIdeal.main_arg3))
          (m ((c : Thread Cert.KernelIdeal.nD Cert.KernelIdeal.τ).loc Cert.KernelIdeal.main_arg4)) (m ((c : Thread Cert.KernelIdeal.nD Cert.KernelIdeal.τ).loc Cert.KernelIdeal.main_arg5)) b i j)
        (m ((c : Thread Cert.KernelIdeal.nD Cert.KernelIdeal.τ).loc Cert.KernelIdeal.main_arg6))
        * weightOf (geoOf (m ((c : Thread Cert.KernelIdeal.nD Cert.KernelIdeal.τ).loc Cert.KernelIdeal.main_arg1)) b i j) := by
  obtain ⟨h0, h1, h2, h3, h4, h5, h6⟩ := args_real m h c
  exact (ker_weighted m ρ c b i j).trans (congrArg (· * weightOf _) (ker_dist m ρ c b i j _ (ker_flat m ρ c b i j) (flatOf_real h0 h1 h2 h3 h4 h5 b i j) h6))

variable (V0 : Valuation Cert.ReferenceIdeal.τ Cert.ReferenceIdeal.sig (Elt Ideal))

/-- The reference's results on the kernel's arguments are the kernel's results. -/
theorem results_eq (h : Cert.Pre_KernelIdeal_finite m) (c : Dev Cert.KernelIdeal.nD)
    (e0 : V0 (Proc.devRef .tc Cert.ReferenceIdeal.main_arg0) = m ((c : Thread Cert.KernelIdeal.nD Cert.KernelIdeal.τ).loc Cert.KernelIdeal.main_arg0))
    (e1 : V0 (Proc.devRef .tc Cert.ReferenceIdeal.main_arg1) = m ((c : Thread Cert.KernelIdeal.nD Cert.KernelIdeal.τ).loc Cert.KernelIdeal.main_arg1))
    (e2 : V0 (Proc.devRef .tc Cert.ReferenceIdeal.main_arg2) = m ((c : Thread Cert.KernelIdeal.nD Cert.KernelIdeal.τ).loc Cert.KernelIdeal.main_arg2))
    (e3 : V0 (Proc.devRef .tc Cert.ReferenceIdeal.main_arg3) = m ((c : Thread Cert.KernelIdeal.nD Cert.KernelIdeal.τ).loc Cert.KernelIdeal.main_arg3))
    (e4 : V0 (Proc.devRef .tc Cert.ReferenceIdeal.main_arg4) = m ((c : Thread Cert.KernelIdeal.nD Cert.KernelIdeal.τ).loc Cert.KernelIdeal.main_arg4))
    (e5 : V0 (Proc.devRef .tc Cert.ReferenceIdeal.main_arg5) = m ((c : Thread Cert.KernelIdeal.nD Cert.KernelIdeal.τ).loc Cert.KernelIdeal.main_arg5))
    (e6 : V0 (Proc.devRef .tc Cert.ReferenceIdeal.main_arg6) = m ((c : Thread Cert.KernelIdeal.nD Cert.KernelIdeal.τ).loc Cert.KernelIdeal.main_arg6)) :
    (∀ y : Cert.KernelIdeal.S4x24x24.Idx, (Cert.ReferenceIdeal.Hand.res_main_v38 V0 : FVec Ideal Cert.KernelIdeal.S4x24x24 .f32) y
        = (Cert.KernelIdeal.Hand.W12 m ρ c (Proc.devRef .tc Cert.KernelIdeal.main_v61) : FVec Ideal Cert.KernelIdeal.S4x24x24 .f32) y)
    ∧ (∀ y : Cert.KernelIdeal.S4x24x24.Idx, (Cert.ReferenceIdeal.Hand.res_main_v65 V0 : FVec Ideal Cert.KernelIdeal.S4x24x24 .f32) y
        = (Cert.KernelIdeal.Hand.W12 m ρ c (Proc.devRef .tc Cert.KernelIdeal.main_v62) : FVec Ideal Cert.KernelIdeal.S4x24x24 .f32) y) := by
  constructor
  · intro y
    rw [eq_ix3 y]
    refine (ref_plain V0 (y 0) (y 1) (y 2)).trans ((?_ : _ = _).trans (ker_result0 m ρ h c (y 0) (y 1) (y 2)).symm)
    rw [e0, e1, e2, e3, e4, e5, e6]
  · intro y
    rw [eq_ix3 y]
    refine (ref_weighted V0 (y 0) (y 1) (y 2)).trans ((?_ : _ = _).trans (ker_result1 m ρ h c (y 0) (y 1) (y 2)).symm)
    rw [e0, e1, e2, e3, e4, e5, e6]

end Cert.Value

end

end
-- ==== Proof.lean ====
module

public import proofs.«01_k».proof.Defs
public import proofs.«01_k».proof.Proof.Ref.Run
public import proofs.«01_k».proof.Proof.Ideal.Run
public import proofs.«01_k».proof.Proof.Bit.Run
public import proofs.«01_k».proof.Proof.Value.Final
public import Idealize.ShloMosaic.Adequacy
public import Idealize.ShloMosaic.Init
public import Idealize.ShloMosaic.Lib.Quiescent

@[expose] public section

noncomputable section

namespace Cert.Proof

open Idealize.ShloMosaic Idealize.ShloMosaic.StableHlo Idealize.SL.Sem Cert.Kernel

/-- The reference terminates with its arguments as they were and every counter at zero: it has no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run _ _ _).mono (fun r h => ⟨fun c => (h c).2.2, sem_eq_zero_of_no_sems rfl r.2⟩) (Cert.ReferenceIdeal.Hand.run m ρ)

/-- The kernel's idealization and the reference end with equal results over the extended reals, for arguments that are finite. -/
theorem algebraic : Cert.algebraic_KernelIdeal_ReferenceIdeal_pre_finite := by
  intro m g m' g' hpre hargs
  have he := fun c => Cert.Value.results_eq m g (launchContents m' c) hpre c (hargs c).1 (hargs c).2.1 (hargs c).2.2.1 (hargs c).2.2.2.1
    (hargs c).2.2.2.2.1 (hargs c).2.2.2.2.2.1 (hargs c).2.2.2.2.2.2
  refine ⟨fun c => Cert.KernelIdeal.Hand.W12 m g c (Proc.devRef .tc Cert.KernelIdeal.main_v61),
    fun c => Cert.KernelIdeal.Hand.W12 m g c (Proc.devRef .tc Cert.KernelIdeal.main_v62), ?_, ?_⟩
  · exact (θ_run _ _ _).mono (fun s h c =>
      ⟨h.1 c _ (Cert.KernelIdeal.Hand.mem_uc Cert.KernelIdeal.main_v61 (by decide)),
       h.1 c _ (Cert.KernelIdeal.Hand.mem_uc Cert.KernelIdeal.main_v62 (by decide)),
       (h.1 c _ (Cert.KernelIdeal.Hand.mem_uc Cert.KernelIdeal.main_arg0 (by decide))).trans (Cert.KernelIdeal.Hand.W12_main_arg0 m g c),
       (h.1 c _ (Cert.KernelIdeal.Hand.mem_uc Cert.KernelIdeal.main_arg1 (by decide))).trans (Cert.KernelIdeal.Hand.W12_main_arg1 m g c),
       (h.1 c _ (Cert.KernelIdeal.Hand.mem_uc Cert.KernelIdeal.main_arg2 (by decide))).trans (Cert.KernelIdeal.Hand.W12_main_arg2 m g c),
       (h.1 c _ (Cert.KernelIdeal.Hand.mem_uc Cert.KernelIdeal.main_arg3 (by decide))).trans (Cert.KernelIdeal.Hand.W12_main_arg3 m g c),
       (h.1 c _ (Cert.KernelIdeal.Hand.mem_uc Cert.KernelIdeal.main_arg4 (by decide))).trans (Cert.KernelIdeal.Hand.W12_main_arg4 m g c),
       (h.1 c _ (Cert.KernelIdeal.Hand.mem_uc Cert.KernelIdeal.main_arg5 (by decide))).trans (Cert.KernelIdeal.Hand.W12_main_arg5 m g c),
       (h.1 c _ (Cert.KernelIdeal.Hand.mem_uc Cert.KernelIdeal.main_arg6 (by decide))).trans (Cert.KernelIdeal.Hand.W12_main_arg6 m g c)⟩) (Cert.KernelIdeal.Hand.run m g)
  · exact (θ_run _ _ _).mono (fun s h c => ⟨(h c).1.trans (funext (he c).1), (h c).2.1.trans (funext (he c).2), (h c).2.2⟩) (Cert.ReferenceIdeal.Hand.run m' g')

/-- The five claims. -/
theorem claim : Cert.Claim := ⟨Cert.Kernel.Gen.facts, Cert.KernelIdeal.Gen.facts, Cert.ReferenceIdeal.Gen.facts, Cert.Pre_finite.Hand.facts,
  fun m ρ _ => Cert.Kernel.Hand.frame m ρ, fun m ρ _ => Cert.KernelIdeal.Hand.frame m ρ, fun m ρ _ => Cert.KernelIdeal.Hand.frame m ρ,
  fun m ρ _ => reference_frame m ρ, fun m ρ _ => reference_frame m ρ, trivial, algebraic⟩

end Cert.Proof

end
